-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "log2e_scale" .f32 0x3E8293EE#32 (((Real.log 2)⁻¹ * (11863283 / 67108864) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_7)) (v2 : (c : Dev Cert.Kernel3Ideal.nD) → Buf (Elt Ideal) ((c.tc : Thread Cert.Kernel3Ideal.nD Cert.Kernel3Ideal.τ).loc Cert.Kernel3Ideal.main_v22)) (v3 : (c : Dev Cert.Kernel3Ideal.nD) → Buf (Elt Ideal) ((c.tc : Thread Cert.Kernel3Ideal.nD Cert.Kernel3Ideal.τ).loc Cert.Kernel3Ideal.main_v24)) (v4 : (c : Dev Cert.Kernel3Ideal.nD) → Buf (Elt Ideal) ((c.tc : Thread Cert.Kernel3Ideal.nD Cert.Kernel3Ideal.τ).loc Cert.Kernel3Ideal.main_v26)) (v5 : (c : Dev Cert.Kernel3Ideal.nD) → Buf (Elt Ideal) ((c.tc : Thread Cert.Kernel3Ideal.nD Cert.Kernel3Ideal.τ).loc Cert.Kernel3Ideal.main_v28)) (v6 : (c : Dev Cert.Kernel3Ideal.nD) → Buf (Elt Ideal) ((c.tc : Thread Cert.Kernel3Ideal.nD Cert.Kernel3Ideal.τ).loc Cert.Kernel3Ideal.main_v30)) (v7 : (c : Dev Cert.Kernel3Ideal.nD) → Buf (Elt Ideal) ((c.tc : Thread Cert.Kernel3Ideal.nD Cert.Kernel3Ideal.τ).loc Cert.Kernel3Ideal.main_v31)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_7) = v1 c
          ∧ r.2.mem ((c.tc : Thread Cert.Kernel3Ideal.nD Cert.Kernel3Ideal.τ).loc Cert.Kernel3Ideal.main_v22) = v2 c
          ∧ r.2.mem ((c.tc : Thread Cert.Kernel3Ideal.nD Cert.Kernel3Ideal.τ).loc Cert.Kernel3Ideal.main_v24) = v3 c
          ∧ r.2.mem ((c.tc : Thread Cert.Kernel3Ideal.nD Cert.Kernel3Ideal.τ).loc Cert.Kernel3Ideal.main_v26) = v4 c
          ∧ r.2.mem ((c.tc : Thread Cert.Kernel3Ideal.nD Cert.Kernel3Ideal.τ).loc Cert.Kernel3Ideal.main_v28) = v5 c
          ∧ r.2.mem ((c.tc : Thread Cert.Kernel3Ideal.nD Cert.Kernel3Ideal.τ).loc Cert.Kernel3Ideal.main_v30) = v6 c
          ∧ r.2.mem ((c.tc : Thread Cert.Kernel3Ideal.nD Cert.Kernel3Ideal.τ).loc Cert.Kernel3Ideal.main_v31) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_v24) = v4 c
          ∧ r.2.mem ((c.tc : Thread Cert.Reference3Ideal.nD Cert.Reference3Ideal.τ).loc Cert.Reference3Ideal.main_v38) = v5 c
          ∧ r.2.mem ((c.tc : Thread Cert.Reference3Ideal.nD Cert.Reference3Ideal.τ).loc Cert.Reference3Ideal.main_v39) = v6 c
          ∧ r.2.mem ((c.tc : Thread Cert.Reference3Ideal.nD Cert.Reference3Ideal.τ).loc Cert.Reference3Ideal.main_v40) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)) (v1 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_v4) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v248) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S16x2048x6x64 : Shape := ⟨4, ![16, 2048, 6, 64]⟩
abbrev S16x2048x6 : Shape := ⟨3, ![16, 2048, 6]⟩
abbrev S16x2048x4x2x32 : Shape := ⟨5, ![16, 2048, 4, 2, 32]⟩
abbrev S16x2048x4x64 : Shape := ⟨4, ![16, 2048, 4, 64]⟩
abbrev S32 : Shape := ⟨1, ![32]⟩
abbrev S64 : Shape := ⟨1, ![64]⟩
abbrev S_ : Shape := ⟨0, ![]⟩

class Facts : Prop where
  bcast_S_S16x2048x6x64 : S_.BroadcastsInDim S16x2048x6x64 (![] : Fin 0 → Fin S16x2048x6x64.rank)
  reducesTo_S16x2048x6x64_S_d0_1_2_3 : S16x2048x6x64.ReducesTo [0, 1, 2, 3] S_
  h_S_ : 0 < S_.numel
  bcast_S_S16x2048x6 : S_.BroadcastsInDim S16x2048x6 (![] : Fin 0 → Fin S16x2048x6.rank)
  reducesTo_S16x2048x6_S_d0_1_2 : S16x2048x6.ReducesTo [0, 1, 2] S_
  bcast_S_S16x2048x4x2x32 : S_.BroadcastsInDim S16x2048x4x2x32 (![] : Fin 0 → Fin S16x2048x4x2x32.rank)
  reducesTo_S16x2048x4x2x32_S_d0_1_2_3_4 : S16x2048x4x2x32.ReducesTo [0, 1, 2, 3, 4] S_

variable [Facts]

def fn_part1 {F : FTy → Type} [FloatOps F] (main_arg5 : FVec F S16x2048x4x2x32 .f32) (main_v13 : IVec S_ 1) (main_v16 : IVec S16x2048x4x2x32 1) : IVec S_ 1 :=
  let main_c_5 : IVec S_ 1 := constantI S_ 1 1#1
  let main_v17 : IVec S_ 1 := (fun x v => Host.reduce IntOp.andi x v reducesTo_S16x2048x4x2x32_S_d0_1_2_3_4 h_S_) main_v16 main_c_5
  let main_v18 : IVec S_ 1 := andi main_v13 main_v17
  let main_v19 : FVec F S16x2048x4x2x32 .f32 := Host.absf main_arg5
  let main_cst_6 : FVec F S_ .f32 := constant S_ .f32 0x7F800000#32
  let main_v20 : FVec F S16x2048x4x2x32 .f32 := broadcastInDim S16x2048x4x2x32 ![] bcast_S_S16x2048x4x2x32 main_cst_6
  let main_v21 : IVec S16x2048x4x2x32 1 := cmpf .olt main_v19 main_v20
  let main_c_7 : IVec S_ 1 := constantI S_ 1 1#1
  let main_v22 : IVec S_ 1 := (fun x v => Host.reduce IntOp.andi x v reducesTo_S16x2048x4x2x32_S_d0_1_2_3_4 h_S_) main_v21 main_c_7
  let main_v23 : IVec S_ 1 := andi main_v18 main_v22
  main_v23

def fn {F : FTy → Type} [FloatOps F] (main_arg0 : FVec F S16x2048x6x64 .f32) (main_arg1 : FVec F S16x2048x6x64 .f32) (main_arg2 : FVec F S16x2048x6x64 .f32) (main_arg3 : FVec F S16x2048x6 .f32) (main_arg4 : FVec F S16x2048x4x2x32 .f32) (main_arg5 : FVec F S16x2048x4x2x32 .f32) (main_arg6 : FVec F S16x2048x4x64 .f32) (main_arg7 : FVec F S32 .f32) (main_arg8 : FVec F S32 .f32) (main_arg9 : FVec F S32 .f32) (main_arg10 : FVec F S32 .f32) (main_arg11 : FVec F S64 .f32) : IVec S_ 1 :=
  let main_v0 : FVec F S16x2048x6x64 .f32 := Host.absf main_arg0
  let main_cst : FVec F S_ .f32 := constant S_ .f32 0x7F800000#32
  let main_v1 : FVec F S16x2048x6x64 .f32 := broadcastInDim S16x2048x6x64 ![] bcast_S_S16x2048x6x64 main_cst
  let main_v2 : IVec S16x2048x6x64 1 := cmpf .olt main_v0 main_v1
  let main_c : IVec S_ 1 := constantI S_ 1 1#1
  let main_v3 : IVec S_ 1 := (fun x v => Host.reduce IntOp.andi x v reducesTo_S16x2048x6x64_S_d0_1_2_3 h_S_) main_v2 main_c
  let main_v4 : FVec F S16x2048x6x64 .f32 := Host.absf main_arg1
  let main_cst_0 : FVec F S_ .f32 := constant S_ .f32 0x7F800000#32
  let main_v5 : FVec F S16x2048x6x64 .f32 := broadcastInDim S16x2048x6x64 ![] bcast_S_S16x2048x6x64 main_cst_0
  let main_v6 : IVec S16x2048x6x64 1 := cmpf .olt main_v4 main_v5
  let main_c_1 : IVec S_ 1 := constantI S_ 1 1#1
  let main_v7 : IVec S_ 1 := (fun x v => Host.reduce IntOp.andi x v reducesTo_S16x2048x6x64_S_d0_1_2_3 h_S_) main_v6 main_c_1
  let main_v8 : IVec S_ 1 := andi main_v3 main_v7
  let main_v9 : FVec F S16x2048x6 .f32 := Host.absf main_arg3
  let main_cst_2 : FVec F S_ .f32 := constant S_ .f32 0x7F800000#32
  let main_v10 : FVec F S16x2048x6 .f32 := broadcastInDim S16x2048x6 ![] bcast_S_S16x2048x6 main_cst_2
  let main_v11 : IVec S16x2048x6 1 := cmpf .olt main_v9 main_v10
  let main_c_3 : IVec S_ 1 := constantI S_ 1 1#1
  let main_v12 : IVec S_ 1 := (fun x v => Host.reduce IntOp.andi x v reducesTo_S16x2048x6_S_d0_1_2 h_S_) main_v11 main_c_3
  let main_v13 : IVec S_ 1 := andi main_v8 main_v12
  let main_v14 : FVec F S16x2048x4x2x32 .f32 := Host.absf main_arg4
  let main_cst_4 : FVec F S_ .f32 := constant S_ .f32 0x7F800000#32
  let main_v15 : FVec F S16x2048x4x2x32 .f32 := broadcastInDim S16x2048x4x2x32 ![] bcast_S_S16x2048x4x2x32 main_cst_4
  let main_v16 : IVec S16x2048x4x2x32 1 := cmpf .olt main_v14 main_v15
  fn_part1 (F := F) main_arg5 main_v13 main_v16
-- ==== Kernel.lean ====
abbrev S16x2048x6x64 : Shape := ⟨4, ![16, 2048, 6, 64]⟩
abbrev S16x2048x6 : Shape := ⟨3, ![16, 2048, 6]⟩
abbrev S16x2048x4x2x32 : Shape := ⟨5, ![16, 2048, 4, 2, 32]⟩
abbrev S16x2048x4x64 : Shape := ⟨4, ![16, 2048, 4, 64]⟩
abbrev S32 : Shape := ⟨1, ![32]⟩
abbrev S64 : Shape := ⟨1, ![64]⟩
abbrev S_ : Shape := ⟨0, ![]⟩
abbrev S16x2048x384 : Shape := ⟨3, ![16, 2048, 384]⟩
abbrev S16x2048x256 : Shape := ⟨3, ![16, 2048, 256]⟩
abbrev S16x2048x640 : Shape := ⟨3, ![16, 2048, 640]⟩
abbrev S16x640x2048 : Shape := ⟨3, ![16, 640, 2048]⟩
abbrev S16x2048x6x1 : Shape := ⟨4, ![16, 2048, 6, 1]⟩
abbrev S16x2048x6x3 : Shape := ⟨4, ![16, 2048, 6, 3]⟩
abbrev S16x2048x6x58 : Shape := ⟨4, ![16, 2048, 6, 58]⟩
abbrev S16x2048x6x128 : Shape := ⟨4, ![16, 2048, 6, 128]⟩
abbrev S16x2048x768 : Shape := ⟨3, ![16, 2048, 768]⟩
abbrev S16x2048x1024 : Shape := ⟨3, ![16, 2048, 1024]⟩
abbrev S16x4x512x640 : Shape := ⟨4, ![16, 4, 512, 640]⟩
abbrev S16x4x640x512 : Shape := ⟨4, ![16, 4, 640, 512]⟩
abbrev S16x6x2048 : Shape := ⟨3, ![16, 6, 2048]⟩
abbrev S16x8x2048 : Shape := ⟨3, ![16, 8, 2048]⟩
abbrev S1x32 : Shape := ⟨2, ![1, 32]⟩
abbrev S4x32 : Shape := ⟨2, ![4, 32]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x640x512 : Shape := ⟨3, ![1, 640, 512]⟩
abbrev S1x2048x1024 : Shape := ⟨3, ![1, 2048, 1024]⟩
abbrev S1x4x640x512 : Shape := ⟨4, ![1, 4, 640, 512]⟩
abbrev S1x8x512 : Shape := ⟨3, ![1, 8, 512]⟩
abbrev S1x512x640 : Shape := ⟨3, ![1, 512, 640]⟩
abbrev S14x128x512 : Shape := ⟨3, ![14, 128, 512]⟩
abbrev S14x1x512 : Shape := ⟨3, ![14, 1, 512]⟩
abbrev S128x512 : Shape := ⟨2, ![128, 512]⟩
abbrev S64x512 : Shape := ⟨2, ![64, 512]⟩
abbrev S1x1x512 : Shape := ⟨3, ![1, 1, 512]⟩
abbrev S1x512 : Shape := ⟨2, ![1, 512]⟩
abbrev S1x64x512 : Shape := ⟨3, ![1, 64, 512]⟩
abbrev S1x128x512 : Shape := ⟨3, ![1, 128, 512]⟩
abbrev S1x1024x128 : Shape := ⟨3, ![1, 1024, 128]⟩
abbrev S1024x128 : Shape := ⟨2, ![1024, 128]⟩
abbrev S1024x512 : Shape := ⟨2, ![1024, 512]⟩
abbrev S1x1x128x512 : Shape := ⟨4, ![1, 1, 128, 512]⟩
abbrev S128x1024 : Shape := ⟨2, ![128, 1024]⟩
abbrev S512 : Shape := ⟨1, ![512]⟩
abbrev S1x512x128 : Shape := ⟨3, ![1, 512, 128]⟩
abbrev S512x128 : Shape := ⟨2, ![512, 128]⟩
abbrev S512x512 : Shape := ⟨2, ![512, 512]⟩
abbrev S1 : Shape := ⟨1, ![1]⟩
abbrev S1x1 : Shape := ⟨2, ![1, 1]⟩

abbrev nBuf : Space → Nat
  | .hbm => 63
  | .vmem => 16
  | .smem => 0
  | _ => 0

abbrev bufTy : (tb : Table) → Fin (tcTables nBuf tb) → BufTy
  | .hbm, ⟨0, _⟩ => ⟨S16x2048x6x64, .f32⟩
  | .hbm, ⟨1, _⟩ => ⟨S16x2048x6x64, .f32⟩
  | .hbm, ⟨2, _⟩ => ⟨S16x2048x6x64, .f32⟩
  | .hbm, ⟨3, _⟩ => ⟨S16x2048x6, .f32⟩
  | .hbm, ⟨4, _⟩ => ⟨S16x2048x4x2x32, .f32⟩
  | .hbm, ⟨5, _⟩ => ⟨S16x2048x4x2x32, .f32⟩
  | .hbm, ⟨6, _⟩ => ⟨S16x2048x4x64, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S16x2048x6, .f32⟩
  | .hbm, ⟨15, _⟩ => ⟨S16x2048x6, .bf16⟩
  | .hbm, ⟨16, _⟩ => ⟨S16x2048x6, .f32⟩
  | .hbm, ⟨17, _⟩ => ⟨S16x2048x6, .f32⟩
  | .hbm, ⟨18, _⟩ => ⟨S16x2048x6, .bf16⟩
  | .hbm, ⟨19, _⟩ => ⟨S16x2048x6, .f32⟩
  | .hbm, ⟨20, _⟩ => ⟨S16x2048x6, .f32⟩
  | .hbm, ⟨21, _⟩ => ⟨S16x2048x6, .bf16⟩
  | .hbm, ⟨22, _⟩ => ⟨S16x2048x6, .f32⟩
  | .hbm, ⟨23, _⟩ => ⟨S_, .f32⟩
  | .hbm, ⟨24, _⟩ => ⟨S16x2048x6x64, .f32⟩
  | .hbm, ⟨25, _⟩ => ⟨S16x2048x6x64, .f32⟩
  | .hbm, ⟨26, _⟩ => ⟨S16x2048x384, .f32⟩
  | .hbm, ⟨27, _⟩ => ⟨S16x2048x256, .f32⟩
  | .hbm, ⟨28, _⟩ => ⟨S16x2048x640, .f32⟩
  | .hbm, ⟨29, _⟩ => ⟨S16x640x2048, .f32⟩
  | .hbm, ⟨30, _⟩ => ⟨S16x640x2048, .bf16⟩
  | .hbm, ⟨31, _⟩ => ⟨S16x2048x6x1, .f32⟩
  | .hbm, ⟨32, _⟩ => ⟨S16x2048x6x1, .f32⟩
  | .hbm, ⟨33, _⟩ => ⟨S16x2048x6x1, .f32⟩
  | .hbm, ⟨34, _⟩ => ⟨S_, .f32⟩
  | .hbm, ⟨35, _⟩ => ⟨S16x2048x6x3, .f32⟩
  | .hbm, ⟨36, _⟩ => ⟨S_, .f32⟩
  | .hbm, ⟨37, _⟩ => ⟨S16x2048x6x58, .f32⟩
  | .hbm, ⟨38, _⟩ => ⟨S16x2048x6x128, .f32⟩
  | .hbm, ⟨39, _⟩ => ⟨S16x2048x768, .f32⟩
  | .hbm, ⟨40, _⟩ => ⟨S16x2048x256, .f32⟩
  | .hbm, ⟨41, _⟩ => ⟨S16x2048x1024, .f32⟩
  | .hbm, ⟨42, _⟩ => ⟨S16x2048x1024, .bf16⟩
  | .hbm, ⟨43, _⟩ => ⟨S16x2048x384, .f32⟩
  | .hbm, ⟨44, _⟩ => ⟨S16x2048x256, .f32⟩
  | .hbm, ⟨45, _⟩ => ⟨S16x2048x640, .f32⟩
  | .hbm, ⟨46, _⟩ => ⟨S16x4x512x640, .f32⟩
  | .hbm, ⟨47, _⟩ => ⟨S16x4x640x512, .f32⟩
  | .hbm, ⟨48, _⟩ => ⟨S16x4x640x512, .bf16⟩
  | .hbm, ⟨49, _⟩ => ⟨S16x6x2048, .f32⟩
  | .hbm, ⟨50, _⟩ => ⟨S_, .i32⟩
  | .hbm, ⟨51, _⟩ => ⟨S_, .f32⟩
  | .hbm, ⟨52, _⟩ => ⟨S16x8x2048, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S1x32, .f32⟩
  | .hbm, ⟨57, _⟩ => ⟨S4x32, .f32⟩
  | .hbm, ⟨58, _⟩ => ⟨S1x64, .f32⟩
  | .hbm, ⟨59, _⟩ => ⟨S2x64, .f32⟩
  | .hbm, ⟨60, _⟩ => ⟨S128, .f32⟩
  | .hbm, ⟨61, _⟩ => ⟨S1x128, .f32⟩
  | .hbm, ⟨62, _⟩ => ⟨S16x2048x640, .bf16⟩
  | .local _ .vmem, ⟨0, _⟩ => ⟨S1x640x512, .bf16⟩
  | .local _ .vmem, ⟨1, _⟩ => ⟨S1x640x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x4x640x512, .bf16⟩
  | .local _ .vmem, ⟨5, _⟩ => ⟨S1x4x640x512, .bf16⟩
  | .local _ .vmem, ⟨6, _⟩ => ⟨S1x8x512, .f32⟩
  | .local _ .vmem, ⟨7, _⟩ => ⟨S1x8x512, .f32⟩
  | .local _ .vmem, ⟨8, _⟩ => ⟨S4x32, .f32⟩
  | .local _ .vmem, ⟨9, _⟩ => ⟨S1x128, .f32⟩
  | .local _ .vmem, ⟨10, _⟩ => ⟨S1x512x640, .bf16⟩
  | .local _ .vmem, ⟨11, _⟩ => ⟨S1x512x640, .bf16⟩
  | .local _ .vmem, ⟨12, _⟩ => ⟨S14x128x512, .bf16⟩
  | .local _ .vmem, ⟨13, _⟩ => ⟨S14x1x512, .f32⟩
  | .local _ .vmem, ⟨14, _⟩ => ⟨S14x1x512, .f32⟩
  | .local _ .vmem, ⟨15, _⟩ => ⟨S14x128x512, .f32⟩
  | _, _ => ⟨S16x2048x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_call0_cst : Ref sig .tc := ⟨.hbm, 12, rfl⟩
abbrev main_call0_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_203 : BitVec 32 := 1#32
  ⟨c0_i32_201, v531, c1_i32_203⟩
def k0_mult1 (i : grid0.Coords) (k0_t1 : Fin (k0_t1_loop i).trips) : BitVec 32 :=
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  v1366
def k0_off1 (i : grid0.Coords) (k0_t1 : Fin (k0_t1_loop i).trips) : Fin 3 → Nat :=
  let c0_760 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  let v1367 : BitVec 32 := v1366
  let v1368 : Index := Scalar.indexCast v1367
  let c0_761 : Index := 0#32
  ![0, v1368.toNat, 0]
def k0_off2 (i : grid0.Coords) (k0_t1 : Fin (k0_t1_loop i).trips) : Fin 3 → Nat :=
  let c0_766 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  let v1367 : BitVec 32 := v1366
  let v1374 : Index := Scalar.indexCast v1367
  let c128_767 : Index := 128#32
  ![0, v1374.toNat, 128]
def k0_off3 (i : grid0.Coords) (k0_t1 : Fin (k0_t1_loop i).trips) : Fin 3 → Nat :=
  let c0_772 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  let v1367 : BitVec 32 := v1366
  let v1380 : Index := Scalar.indexCast v1367
  let c256_773 : Index := 256#32
  ![0, v1380.toNat, 256]
def k0_off4 (i : grid0.Coords) (k0_t1 : Fin (k0_t1_loop i).trips) : Fin 3 → Nat :=
  let c0_778 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  let v1367 : BitVec 32 := v1366
  let v1386 : Index := Scalar.indexCast v1367
  let c384_779 : Index := 384#32
  ![0, v1386.toNat, 384]
def k0_off5 (i : grid0.Coords) (k0_t1 : Fin (k0_t1_loop i).trips) : Fin 3 → Nat :=
  let c0_784 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  let v1367 : BitVec 32 := v1366
  let v1392 : Index := Scalar.indexCast v1367
  let c512_785 : Index := 512#32
  ![0, v1392.toNat, 512]
def k0_off6 (i : grid0.Coords) (k0_t1 : Fin (k0_t1_loop i).trips) (c0_i32_790 : BitVec 32) : Fin 4 → Nat :=
  let c0_791 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let v1398 : BitVec 32 := Scalar.addi v1365 c0_i32_790
  let v1399 : Index := Scalar.indexCast v1398
  let c0_792 : Index := 0#32
  let c0_793 : Index := 0#32
  ![0, v1399.toNat, 0, 0]
def k0_off7 (i : grid0.Coords) (k0_t1 : Fin (k0_t1_loop i).trips) : Fin 3 → Nat :=
  let c0_821 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  let v1367 : BitVec 32 := v1366
  let v1443 : Index := Scalar.indexCast v1367
  let c640_822 : Index := 640#32
  ![0, v1443.toNat, 640]
def k0_off8 (i : grid0.Coords) (k0_t1 : Fin (k0_t1_loop i).trips) : Fin 3 → Nat :=
  let c0_850 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  let v1367 : BitVec 32 := v1366
  let v1485 : Index := Scalar.indexCast v1367
  let c768_851 : Index := 768#32
  ![0, v1485.toNat, 768]
def k0_off9 (i : grid0.Coords) (k0_t1 : Fin (k0_t1_loop i).trips) (c0_i32_856 : BitVec 32) : Fin 4 → Nat :=
  let c0_857 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let v1491 : BitVec 32 := Scalar.addi v1365 c0_i32_856
  let v1492 : Index := Scalar.indexCast v1491
  let c128_858 : Index := 128#32
  let c0_859 : Index := 0#32
  ![0, v1492.toNat, 128, 0]
def k0_off10 (i : grid0.Coords) (k0_t1 : Fin (k0_t1_loop i).trips) (c0_i32_918 : BitVec 32) : Fin 4 → Nat :=
  let c0_919 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let v1578 : BitVec 32 := Scalar.addi v1365 c0_i32_918
  let v1579 : Index := Scalar.indexCast v1578
  let c256_920 : Index := 256#32
  let c0_921 : Index := 0#32
  ![0, v1579.toNat, 256, 0]
def k0_off11 (i : grid0.Coords) (k0_t1 : Fin (k0_t1_loop i).trips) : Fin 3 → Nat :=
  let c0_976 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let c512_i32_759 : BitVec 32 := 512#32
  let v1366 : BitVec 32 := Scalar.muli v1365 c512_i32_759
  let v1367 : BitVec 32 := v1366
  let v1662 : Index := Scalar.indexCast v1367
  let c896_977 : Index := 896#32
  ![0, v1662.toNat, 896]
def k0_off12 (i : grid0.Coords) (k0_t1 : Fin (k0_t1_loop i).trips) (c0_i32_982 : BitVec 32) : Fin 4 → Nat :=
  let c0_983 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let v1668 : BitVec 32 := Scalar.addi v1365 c0_i32_982
  let v1669 : Index := Scalar.indexCast v1668
  let c384_984 : Index := 384#32
  let c0_985 : Index := 0#32
  ![0, v1669.toNat, 384, 0]
def k0_off13 (i : grid0.Coords) (k0_t1 : Fin (k0_t1_loop i).trips) (c0_i32_1094 : BitVec 32) : Fin 4 → Nat :=
  let c0_1095 : Index := 0#32
  let c2_i32_758 : BitVec 32 := 2#32
  let c0_i32_201 : BitVec 32 := 0#32
  let c1_i32_203 : BitVec 32 := 1#32
  let arg13 : BitVec 32 := Scf.iv c0_i32_201 c1_i32_203 k0_t1
  let v1365 : BitVec 32 := Scalar.muli c2_i32_758 arg13
  let v1830 : BitVec 32 := Scalar.addi v1365 c0_i32_1094
  let v1831 : Index := Scalar.indexCast v1830
  let c512_1096 : Index := 512#32
  let c0_1097 : Index := 0#32
  ![0, v1831.toNat, 512, 0]
@[reducible] def k0_t2_loop (i : grid0.Coords) : Scf.Loop 32 :=
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let v528 : BitVec 32 := Scalar.addi c0_i32_201 v527
  let c1_i32_204 : BitVec 32 := 1#32
  ⟨v531, v528, c1_i32_204⟩
def k0_mult2 (i : grid0.Coords) (k0_t2 : Fin (k0_t2_loop i).trips) : BitVec 32 :=
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  v1366
def k0_off14 (i : grid0.Coords) (k0_t2 : Fin (k0_t2_loop i).trips) : Fin 3 → Nat :=
  let c0_760 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  let v1367 : BitVec 32 := v1366
  let v1368 : Index := Scalar.indexCast v1367
  let c0_761 : Index := 0#32
  ![0, v1368.toNat, 0]
def k0_off15 (i : grid0.Coords) (k0_t2 : Fin (k0_t2_loop i).trips) : Fin 3 → Nat :=
  let c0_766 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  let v1367 : BitVec 32 := v1366
  let v1374 : Index := Scalar.indexCast v1367
  let c128_767 : Index := 128#32
  ![0, v1374.toNat, 128]
def k0_off16 (i : grid0.Coords) (k0_t2 : Fin (k0_t2_loop i).trips) : Fin 3 → Nat :=
  let c0_772 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  let v1367 : BitVec 32 := v1366
  let v1380 : Index := Scalar.indexCast v1367
  let c256_773 : Index := 256#32
  ![0, v1380.toNat, 256]
def k0_off17 (i : grid0.Coords) (k0_t2 : Fin (k0_t2_loop i).trips) : Fin 3 → Nat :=
  let c0_778 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  let v1367 : BitVec 32 := v1366
  let v1386 : Index := Scalar.indexCast v1367
  let c384_779 : Index := 384#32
  ![0, v1386.toNat, 384]
def k0_off18 (i : grid0.Coords) (k0_t2 : Fin (k0_t2_loop i).trips) : Fin 3 → Nat :=
  let c0_784 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  let v1367 : BitVec 32 := v1366
  let v1392 : Index := Scalar.indexCast v1367
  let c512_785 : Index := 512#32
  ![0, v1392.toNat, 512]
def k0_off19 (i : grid0.Coords) (k0_t2 : Fin (k0_t2_loop i).trips) (c0_i32_790 : BitVec 32) : Fin 4 → Nat :=
  let c0_791 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let v1398 : BitVec 32 := Scalar.addi v1365 c0_i32_790
  let v1399 : Index := Scalar.indexCast v1398
  let c0_792 : Index := 0#32
  let c0_793 : Index := 0#32
  ![0, v1399.toNat, 0, 0]
def k0_off20 (i : grid0.Coords) (k0_t2 : Fin (k0_t2_loop i).trips) : Fin 3 → Nat :=
  let c0_821 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  let v1367 : BitVec 32 := v1366
  let v1443 : Index := Scalar.indexCast v1367
  let c640_822 : Index := 640#32
  ![0, v1443.toNat, 640]
def k0_off21 (i : grid0.Coords) (k0_t2 : Fin (k0_t2_loop i).trips) : Fin 3 → Nat :=
  let c0_850 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  let v1367 : BitVec 32 := v1366
  let v1485 : Index := Scalar.indexCast v1367
  let c768_851 : Index := 768#32
  ![0, v1485.toNat, 768]
def k0_off22 (i : grid0.Coords) (k0_t2 : Fin (k0_t2_loop i).trips) (c0_i32_856 : BitVec 32) : Fin 4 → Nat :=
  let c0_857 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let v1491 : BitVec 32 := Scalar.addi v1365 c0_i32_856
  let v1492 : Index := Scalar.indexCast v1491
  let c128_858 : Index := 128#32
  let c0_859 : Index := 0#32
  ![0, v1492.toNat, 128, 0]
def k0_off23 (i : grid0.Coords) (k0_t2 : Fin (k0_t2_loop i).trips) (c0_i32_918 : BitVec 32) : Fin 4 → Nat :=
  let c0_919 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let v1578 : BitVec 32 := Scalar.addi v1365 c0_i32_918
  let v1579 : Index := Scalar.indexCast v1578
  let c256_920 : Index := 256#32
  let c0_921 : Index := 0#32
  ![0, v1579.toNat, 256, 0]
def k0_off24 (i : grid0.Coords) (k0_t2 : Fin (k0_t2_loop i).trips) : Fin 3 → Nat :=
  let c0_976 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let c512_i32_759 : BitVec 32 := 512#32
  let v1366 : BitVec 32 := Scalar.muli v1365 c512_i32_759
  let v1367 : BitVec 32 := v1366
  let v1662 : Index := Scalar.indexCast v1367
  let c896_977 : Index := 896#32
  ![0, v1662.toNat, 896]
def k0_off25 (i : grid0.Coords) (k0_t2 : Fin (k0_t2_loop i).trips) (c0_i32_982 : BitVec 32) : Fin 4 → Nat :=
  let c0_983 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let v1668 : BitVec 32 := Scalar.addi v1365 c0_i32_982
  let v1669 : Index := Scalar.indexCast v1668
  let c384_984 : Index := 384#32
  let c0_985 : Index := 0#32
  ![0, v1669.toNat, 384, 0]
def k0_off26 (i : grid0.Coords) (k0_t2 : Fin (k0_t2_loop i).trips) (c0_i32_1094 : BitVec 32) : Fin 4 → Nat :=
  let c0_1095 : Index := 0#32
  let c2_i32_758 : BitVec 32 := 2#32
  let c0_i32_201 : BitVec 32 := 0#32
  let arg1 : BitVec 32 := BitVec.ofNat 32 (i 1).val
  let c0_i32_194 : BitVec 32 := 0#32
  let v511 : BitVec 1 := Scalar.cmpi .sgt arg1 c0_i32_194
  let v512 : BitVec 32 := Scalar.extui v511
  let c0_i32_195 : BitVec 32 := 0#32
  let v513 : BitVec 1 := Scalar.cmpi .slt arg1 c0_i32_195
  let v514 : BitVec 32 := Scalar.extui v513
  let v515 : BitVec 32 := Scalar.subi v512 v514
  let c2_i32_193 : BitVec 32 := 2#32
  let c0_i32_196 : BitVec 32 := 0#32
  let v516 : BitVec 1 := Scalar.cmpi .sgt c2_i32_193 c0_i32_196
  let v517 : BitVec 32 := Scalar.extui v516
  let c0_i32_197 : BitVec 32 := 0#32
  let v518 : BitVec 1 := Scalar.cmpi .slt c2_i32_193 c0_i32_197
  let v519 : BitVec 32 := Scalar.extui v518
  let v520 : BitVec 32 := Scalar.subi v517 v519
  let v521 : BitVec 1 := Scalar.cmpi .ne v515 v520
  let v522 : BitVec 32 := Scalar.remsi arg1 c2_i32_193
  let c0_i32_198 : BitVec 32 := 0#32
  let v523 : BitVec 1 := Scalar.cmpi .ne v522 c0_i32_198
  let v524 : BitVec 1 := Scalar.andi v521 v523
  let v510 : BitVec 32 := Scalar.divsi arg1 c2_i32_193
  let c1_i32_199 : BitVec 32 := 1#32
  let v525 : BitVec 32 := Scalar.subi v510 c1_i32_199
  let v526 : BitVec 32 := Scalar.select v524 v525 v510
  let v527 : BitVec 32 := Scalar.subi v526 c0_i32_201
  let c1_i32_202 : BitVec 32 := 1#32
  let v529 : BitVec 32 := Scalar.divsi v527 c1_i32_202
  let v530 : BitVec 32 := Scalar.muli v529 c1_i32_202
  let v531 : BitVec 32 := Scalar.addi c0_i32_201 v530
  let c1_i32_204 : BitVec 32 := 1#32
  let arg13 : BitVec 32 := Scf.iv v531 c1_i32_204 k0_t2
  let v1365 : BitVec 32 := Scalar.muli c2_i32_758 arg13
  let v1830 : BitVec 32 := Scalar.addi v1365 c0_i32_1094
  let v1831 : Index := Scalar.indexCast v1830
  let c512_1096 : Index := 512#32
  let c0_1097 : Index := 0#32
  ![0, v1831.toNat, 512, 0]
def k0_cond1 (i : grid0.Coords) : BitVec 1 :=
  let arg1 : BitVec 32 := BitVec.ofNat 32 (i 1).val
  let c2_i32_205 : BitVec 32 := 2#32
  let c0_i32_206 : BitVec 32 := 0#32
  let v532 : BitVec 1 := Scalar.cmpi .eq c2_i32_205 c0_i32_206
  let c1_i32_207 : BitVec 32 := 1#32
  let v533 : BitVec 32 := Scalar.select v532 c1_i32_207 c2_i32_205
  let v534 : BitVec 32 := Scalar.remsi arg1 v533
  let c0_i32_209 : BitVec 32 := 0#32
  let v536 : BitVec 1 := Scalar.cmpi .slt v534 c0_i32_209
  let c0_i32_210 : BitVec 32 := 0#32
  let v537 : BitVec 1 := Scalar.cmpi .slt v533 c0_i32_210
  let v538 : BitVec 1 := Scalar.xori v536 v537
  let c0_i32_208 : BitVec 32 := 0#32
  let v535 : BitVec 1 := Scalar.cmpi .ne v534 c0_i32_208
  let v539 : BitVec 1 := Scalar.andi v538 v535
  let v540 : BitVec 32 := Scalar.addi v534 v533
  let v541 : BitVec 32 := Scalar.select v539 v540 v534
  let c1_i32_211 : BitVec 32 := 1#32
  let v542 : BitVec 1 := Scalar.cmpi .eq v541 c1_i32_211
  let v543 : BitVec 32 := Scalar.extui v542
  let c0_i32_212 : BitVec 32 := 0#32
  let v544 : BitVec 1 := Scalar.cmpi .ne v543 c0_i32_212
  v544

def k0_mult3 (i : grid0.Coords) : BitVec 32 :=
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  v1366
def k0_off27 (i : grid0.Coords) : Fin 3 → Nat :=
  let c0_760 : Index := 0#32
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  let v1367 : BitVec 32 := v1366
  let v1368 : Index := Scalar.indexCast v1367
  let c0_761 : Index := 0#32
  ![0, v1368.toNat, 0]
def k0_off28 (i : grid0.Coords) : Fin 3 → Nat :=
  let c0_766 : Index := 0#32
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  let v1367 : BitVec 32 := v1366
  let v1374 : Index := Scalar.indexCast v1367
  let c128_767 : Index := 128#32
  ![0, v1374.toNat, 128]
def k0_off29 (i : grid0.Coords) : Fin 3 → Nat :=
  let c0_772 : Index := 0#32
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  let v1367 : BitVec 32 := v1366
  let v1380 : Index := Scalar.indexCast v1367
  let c256_773 : Index := 256#32
  ![0, v1380.toNat, 256]
def k0_off30 (i : grid0.Coords) : Fin 3 → Nat :=
  let c0_778 : Index := 0#32
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  let v1367 : BitVec 32 := v1366
  let v1386 : Index := Scalar.indexCast v1367
  let c384_779 : Index := 384#32
  ![0, v1386.toNat, 384]
def k0_off31 (i : grid0.Coords) : Fin 3 → Nat :=
  let c0_784 : Index := 0#32
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  let v1367 : BitVec 32 := v1366
  let v1392 : Index := Scalar.indexCast v1367
  let c512_785 : Index := 512#32
  ![0, v1392.toNat, 512]
def k0_off32 (i : grid0.Coords) : Fin 4 → Nat :=
  let c0_791 : Index := 0#32
  let arg1 : BitVec 32 := BitVec.ofNat 32 (i 1).val
  let c1_i32_758 : BitVec 32 := 1#32
  let v1365 : BitVec 32 := Scalar.subi arg1 c1_i32_758
  let c0_i32_790 : BitVec 32 := 0#32
  let v1398 : BitVec 32 := Scalar.addi v1365 c0_i32_790
  let v1399 : Index := Scalar.indexCast v1398
  let c0_792 : Index := 0#32
  let c0_793 : Index := 0#32
  ![0, v1399.toNat, 0, 0]
def k0_off33 (i : grid0.Coords) : Fin 3 → Nat :=
  let c0_817 : Index := 0#32
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  let v1367 : BitVec 32 := v1366
  let v1438 : Index := Scalar.indexCast v1367
  let c640_818 : Index := 640#32
  ![0, v1438.toNat, 640]
def k0_off34 (i : grid0.Coords) : Fin 3 → Nat :=
  let c0_846 : Index := 0#32
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  let v1367 : BitVec 32 := v1366
  let v1480 : Index := Scalar.indexCast v1367
  let c768_847 : Index := 768#32
  ![0, v1480.toNat, 768]
def k0_off35 (i : grid0.Coords) : Fin 4 → Nat :=
  let c0_853 : Index := 0#32
  let arg1 : BitVec 32 := BitVec.ofNat 32 (i 1).val
  let c1_i32_758 : BitVec 32 := 1#32
  let v1365 : BitVec 32 := Scalar.subi arg1 c1_i32_758
  let c0_i32_852 : BitVec 32 := 0#32
  let v1486 : BitVec 32 := Scalar.addi v1365 c0_i32_852
  let v1487 : Index := Scalar.indexCast v1486
  let c128_854 : Index := 128#32
  let c0_855 : Index := 0#32
  ![0, v1487.toNat, 128, 0]
def k0_off36 (i : grid0.Coords) : Fin 4 → Nat :=
  let c0_911 : Index := 0#32
  let arg1 : BitVec 32 := BitVec.ofNat 32 (i 1).val
  let c1_i32_758 : BitVec 32 := 1#32
  let v1365 : BitVec 32 := Scalar.subi arg1 c1_i32_758
  let c0_i32_910 : BitVec 32 := 0#32
  let v1568 : BitVec 32 := Scalar.addi v1365 c0_i32_910
  let v1569 : Index := Scalar.indexCast v1568
  let c256_912 : Index := 256#32
  let c0_913 : Index := 0#32
  ![0, v1569.toNat, 256, 0]
def k0_off37 (i : grid0.Coords) : Fin 3 → Nat :=
  let c0_964 : Index := 0#32
  let arg1 : BitVec 32 := BitVec.ofNat 32 (i 1).val
  let c1_i32_758 : BitVec 32 := 1#32
  let v1365 : BitVec 32 := Scalar.subi arg1 c1_i32_758
  let c512_i32_759 : BitVec 32 := 512#32
  let v1366 : BitVec 32 := Scalar.muli v1365 c512_i32_759
  let v1367 : BitVec 32 := v1366
  let v1647 : Index := Scalar.indexCast v1367
  let c896_965 : Index := 896#32
  ![0, v1647.toNat, 896]
def k0_off38 (i : grid0.Coords) : Fin 4 → Nat :=
  let c0_971 : Index := 0#32
  let arg1 : BitVec 32 := BitVec.ofNat 32 (i 1).val
  let c1_i32_758 : BitVec 32 := 1#32
  let v1365 : BitVec 32 := Scalar.subi arg1 c1_i32_758
  let c0_i32_970 : BitVec 32 := 0#32
  let v1653 : BitVec 32 := Scalar.addi v1365 c0_i32_970
  let v1654 : Index := Scalar.indexCast v1653
  let c384_972 : Index := 384#32
  let c0_973 : Index := 0#32
  ![0, v1654.toNat, 384, 0]
def k0_off39 (i : grid0.Coords) : Fin 4 → Nat :=
  let c0_1079 : Index := 0#32
  let arg1 : BitVec 32 := BitVec.ofNat 32 (i 1).val
  let c1_i32_758 : BitVec 32 := 1#32
  let v1365 : BitVec 32 := Scalar.subi arg1 c1_i32_758
  let c0_i32_1078 : BitVec 32 := 0#32
  let v1810 : BitVec 32 := Scalar.addi v1365 c0_i32_1078
  let v1811 : Index := Scalar.indexCast v1810
  let c512_1080 : Index := 512#32
  let c0_1081 : Index := 0#32
  ![0, v1811.toNat, 512, 0]
def k0_mult4 (i : grid0.Coords) : BitVec 32 :=
  let arg1 : BitVec 32 := BitVec.ofNat 32 (i 1).val
  let c512_i32 : BitVec 32 := 512#32
  let v545 : BitVec 32 := Scalar.muli arg1 c512_i32
  v545
def k0_off40 (i : grid0.Coords) : Fin 3 → Nat :=
  let c0_213 : Index := 0#32
  let arg1 : BitVec 32 := BitVec.ofNat 32 (i 1).val
  let c512_i32 : BitVec 32 := 512#32
  let v545 : BitVec 32 := Scalar.muli arg1 c512_i32
  let v546 : BitVec 32 := v545
  let v550 : Index := Scalar.indexCast v546
  let c0_214 : Index := 0#32
  ![0, v550.toNat, 0]
def k0_off41 (i : grid0.Coords) : Fin 3 → Nat :=
  let c0_219 : Index := 0#32
  let arg1 : BitVec 32 := BitVec.ofNat 32 (i 1).val
  let c512_i32 : BitVec 32 := 512#32
  let v545 : BitVec 32 := Scalar.muli arg1 c512_i32
  let v546 : BitVec 32 := v545
  let v556 : Index := Scalar.indexCast v546
  let c128_220 : Index := 128#32
  ![0, v556.toNat, 128]
def k0_off42 (i : grid0.Coords) : Fin 3 → Nat :=
  let c0_225 : Index := 0#32
  let arg1 : BitVec 32 := BitVec.ofNat 32 (i 1).val
  let c512_i32 : BitVec 32 := 512#32
  let v545 : BitVec 32 := Scalar.muli arg1 c512_i32
  let v546 : BitVec 32 := v545
  let v562 : Index := Scalar.indexCast v546
  let c256_226 : Index := 256#32
  ![0, v562.toNat, 256]
def k0_off43 (i : grid0.Coords) : Fin 3 → Nat :=
  let c0_231 : Index := 0#32
  let arg1 : BitVec 32 := BitVec.ofNat 32 (i 1).val
  let c512_i32 : BitVec 32 := 512#32
  let v545 : BitVec 32 := Scalar.muli arg1 c512_i32
  let v546 : BitVec 32 := v545
  let v568 : Index := Scalar.indexCast v546
  let c384_232 : Index := 384#32
  ![0, v568.toNat, 384]
def k0_off44 (i : grid0.Coords) : Fin 3 → Nat :=
  let c0_237 : Index := 0#32
  let arg1 : BitVec 32 := BitVec.ofNat 32 (i 1).val
  let c512_i32 : BitVec 32 := 512#32
  let v545 : BitVec 32 := Scalar.muli arg1 c512_i32
  let v546 : BitVec 32 := v545
  let v574 : Index := Scalar.indexCast v546
  let c512_238 : Index := 512#32
  ![0, v574.toNat, 512]
def k0_off45 (i : grid0.Coords) : Fin 4 → Nat :=
  let c0_244 : Index := 0#32
  let arg1 : BitVec 32 := BitVec.ofNat 32 (i 1).val
  let c0_i32_243 : BitVec 32 := 0#32
  let v580 : BitVec 32 := Scalar.addi arg1 c0_i32_243
  let v581 : Index := Scalar.indexCast v580
  let c0_245 : Index := 0#32
  let c0_246 : Index := 0#32
  ![0, v581.toNat, 0, 0]
def k0_off46 (i : grid0.Coords) : Fin 3 → Nat :=
  let c0_271 : Index := 0#32
  let arg1 : BitVec 32 := BitVec.ofNat 32 (i 1).val
  let c512_i32 : BitVec 32 := 512#32
  let v545 : BitVec 32 := Scalar.muli arg1 c512_i32
  let v546 : BitVec 32 := v545
  let v622 : Index := Scalar.indexCast v546
  let c640 : Index := 640#32
  ![0, v622.toNat, 640]
def k0_off47 (i : grid0.Coords) : Fin 3 → Nat :=
  let c0_300 : Index := 0#32
  let arg1 : BitVec 32 := BitVec.ofNat 32 (i 1).val
  let c512_i32 : BitVec 32 := 512#32
  let v545 : BitVec 32 := Scalar.muli arg1 c512_i32
  let v546 : BitVec 32 := v545
  let v666 : Index := Scalar.indexCast v546
  let c768 : Index := 768#32
  ![0, v666.toNat, 768]
def k0_off48 (i : grid0.Coords) : Fin 4 → Nat :=
  let c0_306 : Index := 0#32
  let arg1 : BitVec 32 := BitVec.ofNat 32 (i 1).val
  let c0_i32_305 : BitVec 32 := 0#32
  let v672 : BitVec 32 := Scalar.addi arg1 c0_i32_305
  let v673 : Index := Scalar.indexCast v672
  let c128_307 : Index := 128#32
  let c0_308 : Index := 0#32
  ![0, v673.toNat, 128, 0]
def k0_off49 (i : grid0.Coords) : Fin 4 → Nat :=
  let c0_366 : Index := 0#32
  let arg1 : BitVec 32 := BitVec.ofNat 32 (i 1).val
  let c0_i32_365 : BitVec 32 := 0#32
  let v758 : BitVec 32 := Scalar.addi arg1 c0_i32_365
  let v759 : Index := Scalar.indexCast v758
  let c256_367 : Index := 256#32
  let c0_368 : Index := 0#32
  ![0, v759.toNat, 256, 0]
def k0_off50 (i : grid0.Coords) : Fin 3 → Nat :=
  let c0_421 : Index := 0#32
  let arg1 : BitVec 32 := BitVec.ofNat 32 (i 1).val
  let c512_i32 : BitVec 32 := 512#32
  let v545 : BitVec 32 := Scalar.muli arg1 c512_i32
  let v546 : BitVec 32 := v545
  let v841 : Index := Scalar.indexCast v546
  let c896 : Index := 896#32
  ![0, v841.toNat, 896]
def k0_off51 (i : grid0.Coords) : Fin 4 → Nat :=
  let c0_427 : Index := 0#32
  let arg1 : BitVec 32 := BitVec.ofNat 32 (i 1).val
  let c0_i32_426 : BitVec 32 := 0#32
  let v847 : BitVec 32 := Scalar.addi arg1 c0_i32_426
  let v848 : Index := Scalar.indexCast v847
  let c384_428 : Index := 384#32
  let c0_429 : Index := 0#32
  ![0, v848.toNat, 384, 0]
def k0_off52 (i : grid0.Coords) : Fin 4 → Nat :=
  let c0_539 : Index := 0#32
  let arg1 : BitVec 32 := BitVec.ofNat 32 (i 1).val
  let c0_i32_538 : BitVec 32 := 0#32
  let v1012 : BitVec 32 := Scalar.addi arg1 c0_i32_538
  let v1013 : Index := Scalar.indexCast v1012
  let c512_540 : Index := 512#32
  let c0_541 : Index := 0#32
  ![0, v1013.toNat, 512, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "log2e_scale" => some (((Real.log 2)⁻¹ * (11863283 / 67108864) : ℝ) : EReal)
  | "mask" => some ⊥
  | _ => none
-- ==== ReferenceIdeal.lean ====
abbrev S16x2048x6x64 : Shape := ⟨4, ![16, 2048, 6, 64]⟩
abbrev S16x2048x6 : Shape := ⟨3, ![16, 2048, 6]⟩
abbrev S16x2048x4x2x32 : Shape := ⟨5, ![16, 2048, 4, 2, 32]⟩
abbrev S16x2048x4x64 : Shape := ⟨4, ![16, 2048, 4, 64]⟩
abbrev S32 : Shape := ⟨1, ![32]⟩
abbrev S64 : Shape := ⟨1, ![64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x6x2048x2048 : Shape := ⟨4, ![16, 6, 2048, 2048]⟩
abbrev S16x6x2048 : Shape := ⟨3, ![16, 6, 2048]⟩
abbrev S16x6x2048x1 : Shape := ⟨4, ![16, 6, 2048, 1]⟩
abbrev S16x6x1x2048 : Shape := ⟨4, ![16, 6, 1, 2048]⟩
abbrev S16x6x64x2048 : Shape := ⟨4, ![16, 6, 64, 2048]⟩
abbrev S16x4x2x2048x2048 : Shape := ⟨5, ![16, 4, 2, 2048, 2048]⟩
abbrev S16x4x2x2048 : Shape := ⟨4, ![16, 4, 2, 2048]⟩
abbrev S16x4x2x2048x1 : Shape := ⟨5, ![16, 4, 2, 2048, 1]⟩
abbrev S16x4x64x2x2048 : Shape := ⟨5, ![16, 4, 64, 2, 2048]⟩
abbrev S16x2048x4x2x64 : Shape := ⟨5, ![16, 2048, 4, 2, 64]⟩
abbrev S16x2048x4x1x64 : Shape := ⟨5, ![16, 2048, 4, 1, 64]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩
abbrev S16x2048x384 : Shape := ⟨3, ![16, 2048, 384]⟩
abbrev S16x2048x256 : Shape := ⟨3, ![16, 2048, 256]⟩
abbrev S16x2048x640 : Shape := ⟨3, ![16, 2048, 640]⟩

abbrev nBuf : Space → Nat
  | .hbm => 120
  | .vmem => 0
  | .smem => 0
  | _ => 0

abbrev bufTy : (tb : Table) → Fin (tcTables nBuf tb) → BufTy
  | .hbm, ⟨0, _⟩ => ⟨S16x2048x6x64, .f32⟩
  | .hbm, ⟨1, _⟩ => ⟨S16x2048x6x64, .f32⟩
  | .hbm, ⟨2, _⟩ => ⟨S16x2048x6x64, .f32⟩
  | .hbm, ⟨3, _⟩ => ⟨S16x2048x6, .f32⟩
  | .hbm, ⟨4, _⟩ => ⟨S16x2048x4x2x32, .f32⟩
  | .hbm, ⟨5, _⟩ => ⟨S16x2048x4x2x32, .f32⟩
  | .hbm, ⟨6, _⟩ => ⟨S16x2048x4x64, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S16x2048x6, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S16x6x2048x2048, .f32⟩
  | .hbm, ⟨22, _⟩ => ⟨S_, .f32⟩
  | .hbm, ⟨23, _⟩ => ⟨S16x6x2048x2048, .f32⟩
  | .hbm, ⟨24, _⟩ => ⟨S16x6x2048x2048, .f32⟩
  | .hbm, ⟨25, _⟩ => ⟨S16x6x2048, .f32⟩
  | .hbm, ⟨26, _⟩ => ⟨S16x6x2048x1, .f32⟩
  | .hbm, ⟨27, _⟩ => ⟨S16x6x2048x2048, .f32⟩
  | .hbm, ⟨28, _⟩ => ⟨S16x6x2048x2048, .f32⟩
  | .hbm, ⟨29, _⟩ => ⟨S16x6x2048, .f32⟩
  | .hbm, ⟨30, _⟩ => ⟨S16x6x1x2048, .f32⟩
  | .hbm, ⟨31, _⟩ => ⟨S16x6x2048x2048, .f32⟩
  | .hbm, ⟨32, _⟩ => ⟨S16x6x2048x2048, .f32⟩
  | .hbm, ⟨33, _⟩ => ⟨S_, .f32⟩
  | .hbm, ⟨34, _⟩ => ⟨S_, .f32⟩
  | .hbm, ⟨35, _⟩ => ⟨S16x6x2048x2048, .i1⟩
  | .hbm, ⟨36, _⟩ => ⟨S16x6x2048x2048, .f32⟩
  | .hbm, ⟨37, _⟩ => ⟨S16x6x2048x2048, .f32⟩
  | .hbm, ⟨38, _⟩ => ⟨S_, .f32⟩
  | .hbm, ⟨39, _⟩ => ⟨S16x6x2048, .f32⟩
  | .hbm, ⟨40, _⟩ => ⟨S_, .f32⟩
  | .hbm, ⟨41, _⟩ => ⟨S16x6x2048, .f32⟩
  | .hbm, ⟨42, _⟩ => ⟨S16x6x2048, .f32⟩
  | .hbm, ⟨43, _⟩ => ⟨S16x6x2048x1, .f32⟩
  | .hbm, ⟨44, _⟩ => ⟨S16x6x2048x2048, .f32⟩
  | .hbm, ⟨45, _⟩ => ⟨S16x6x2048x2048, .f32⟩
  | .hbm, ⟨46, _⟩ => ⟨S16x6x2048x2048, .f32⟩
  | .hbm, ⟨47, _⟩ => ⟨S_, .f32⟩
  | .hbm, ⟨48, _⟩ => ⟨S16x6x2048, .f32⟩
  | .hbm, ⟨49, _⟩ => ⟨S16x6x2048x1, .f32⟩
  | .hbm, ⟨50, _⟩ => ⟨S16x6x2048x2048, .f32⟩
  | .hbm, ⟨51, _⟩ => ⟨S16x6x2048x2048, .f32⟩
  | .hbm, ⟨52, _⟩ => ⟨S16x6x64x2048, .f32⟩
  | .hbm, ⟨53, _⟩ => ⟨S16x2048x6x64, .f32⟩
  | .hbm, ⟨54, _⟩ => ⟨S16x4x2x2048x2048, .f32⟩
  | .hbm, ⟨55, _⟩ => ⟨S_, .f32⟩
  | .hbm, ⟨56, _⟩ => ⟨S16x4x2x2048x2048, .f32⟩
  | .hbm, ⟨57, _⟩ => ⟨S16x4x2x2048x2048, .f32⟩
  | .hbm, ⟨58, _⟩ => ⟨S_, .f32⟩
  | .hbm, ⟨59, _⟩ => ⟨S_, .f32⟩
  | .hbm, ⟨60, _⟩ => ⟨S16x4x2x2048x2048, .i1⟩
  | .hbm, ⟨61, _⟩ => ⟨S16x4x2x2048x2048, .f32⟩
  | .hbm, ⟨62, _⟩ => ⟨S16x4x2x2048x2048, .f32⟩
  | .hbm, ⟨63, _⟩ => ⟨S_, .f32⟩
  | .hbm, ⟨64, _⟩ => ⟨S16x4x2x2048, .f32⟩
  | .hbm, ⟨65, _⟩ => ⟨S_, .f32⟩
  | .hbm, ⟨66, _⟩ => ⟨S16x4x2x2048, .f32⟩
  | .hbm, ⟨67, _⟩ => ⟨S16x4x2x2048, .f32⟩
  | .hbm, ⟨68, _⟩ => ⟨S16x4x2x2048x1, .f32⟩
  | .hbm, ⟨69, _⟩ => ⟨S16x4x2x2048x2048, .f32⟩
  | .hbm, ⟨70, _⟩ => ⟨S16x4x2x2048x2048, .f32⟩
  | .hbm, ⟨71, _⟩ => ⟨S16x4x2x2048x2048, .f32⟩
  | .hbm, ⟨72, _⟩ => ⟨S_, .f32⟩
  | .hbm, ⟨73, _⟩ => ⟨S16x4x2x2048, .f32⟩
  | .hbm, ⟨74, _⟩ => ⟨S16x4x2x2048x1, .f32⟩
  | .hbm, ⟨75, _⟩ => ⟨S16x4x2x2048x2048, .f32⟩
  | .hbm, ⟨76, _⟩ => ⟨S16x4x2x2048x2048, .f32⟩
  | .hbm, ⟨77, _⟩ => ⟨S16x4x64x2x2048, .f32⟩
  | .hbm, ⟨78, _⟩ => ⟨S16x2048x4x2x64, .f32⟩
  | .hbm, ⟨79, _⟩ => ⟨S32, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S32, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S16x2048x4x1x64, .f32⟩
  | .hbm, ⟨91, _⟩ => ⟨S16x2048x4x64, .f32⟩
  | .hbm, ⟨92, _⟩ => ⟨S16x2048x4x1x64, .f32⟩
  | .hbm, ⟨93, _⟩ => ⟨S16x2048x4x64, .f32⟩
  | .hbm, ⟨94, _⟩ => ⟨S16x2048x4x64, .f32⟩
  | .hbm, ⟨95, _⟩ => ⟨S16x2048x4x64, .f32⟩
  | .hbm, ⟨96, _⟩ => ⟨S16x2048x4x64, .f32⟩
  | .hbm, ⟨97, _⟩ => ⟨S16x2048x4x64, .f32⟩
  | .hbm, ⟨98, _⟩ => ⟨S_, .f32⟩
  | .hbm, ⟨99, _⟩ => ⟨S16x2048x4, .f32⟩
  | .hbm, ⟨100, _⟩ => ⟨S16x2048x4x1, .f32⟩
  | .hbm, ⟨101, _⟩ => ⟨S_, .f32⟩
  | .hbm, ⟨102, _⟩ => ⟨S16x2048x4x1, .f32⟩
  | .hbm, ⟨103, _⟩ => ⟨S16x2048x4x1, .f32⟩
  | .hbm, ⟨104, _⟩ => ⟨S_, .f32⟩
  | .hbm, ⟨105, _⟩ => ⟨S16x2048x4x1, .f32⟩
  | .hbm, ⟨106, _⟩ => ⟨S16x2048x4x1, .f32⟩
  | .hbm, ⟨107, _⟩ => ⟨S16x2048x4x1, .f32⟩
  | .hbm, ⟨108, _⟩ => ⟨S16x2048x4x64, .f32⟩
  | .hbm, ⟨109, _⟩ => ⟨S16x2048x4x64, .f32⟩
  | .hbm, ⟨110, _⟩ => ⟨S1x1x1x64, .f32⟩
  | .hbm, ⟨111, _⟩ => ⟨S16x2048x4x64, .f32⟩
  | .hbm, ⟨112, _⟩ => ⟨S16x2048x4x64, .f32⟩
  | .hbm, ⟨113, _⟩ => ⟨S_, .f32⟩
  | .hbm, ⟨114, _⟩ => ⟨S16x2048x4x64, .f32⟩
  | .hbm, ⟨115, _⟩ => ⟨S16x2048x4x64, .f32⟩
  | .hbm, ⟨116, _⟩ => ⟨S16x2048x384, .f32⟩
  | .hbm, ⟨117, _⟩ => ⟨S16x2048x256, .f32⟩
  | .hbm, ⟨118, _⟩ => ⟨S16x2048x640, .f32⟩
  | .hbm, ⟨119, _⟩ => ⟨S16x2048x640, .bf16⟩
  | _, _ => ⟨S16x2048x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_call0_cst : Ref sig .tc := ⟨.hbm, 12, rfl⟩
abbrev main_call0_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x640 : Shape := ⟨3, ![16, 2048, 640]⟩
abbrev S16x2048x384 : Shape := ⟨3, ![16, 2048, 384]⟩
abbrev S16x1024 : Shape := ⟨2, ![16, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S640x1024 : Shape := ⟨2, ![640, 1024]⟩
abbrev S384x1024 : Shape := ⟨2, ![384, 1024]⟩
abbrev S1x1024 : Shape := ⟨2, ![1, 1024]⟩
abbrev S16x1x1024 : Shape := ⟨3, ![16, 1, 1024]⟩
abbrev S1x512x1024 : Shape := ⟨3, ![1, 512, 1024]⟩
abbrev S1x512x640 : Shape := ⟨3, ![1, 512, 640]⟩
abbrev S1x512x384 : Shape := ⟨3, ![1, 512, 384]⟩
abbrev S1x1x1024 : Shape := ⟨3, ![1, 1, 1024]⟩
abbrev S512x2816 : Shape := ⟨2, ![512, 2816]⟩
abbrev S512x640 : Shape := ⟨2, ![512, 640]⟩
abbrev S512x1024 : Shape := ⟨2, ![512, 1024]⟩
abbrev S512x384 : Shape := ⟨2, ![512, 384]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 28
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S16x2048x640, .bf16⟩
  | .hbm, ⟨2, _⟩ => ⟨S16x2048x384, .bf16⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S1024x1024, .bf16⟩
  | .hbm, ⟨15, _⟩ => ⟨S640x1024, .bf16⟩
  | .hbm, ⟨16, _⟩ => ⟨S384x1024, .bf16⟩
  | .hbm, ⟨17, _⟩ => ⟨S1024x5632, .bf16⟩
  | .hbm, ⟨18, _⟩ => ⟨S2816x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S16x1x1024, .f32⟩
  | .hbm, ⟨24, _⟩ => ⟨S16x1x1024, .f32⟩
  | .hbm, ⟨25, _⟩ => ⟨S16x1x1024, .f32⟩
  | .hbm, ⟨26, _⟩ => ⟨S16x1x1024, .f32⟩
  | .hbm, ⟨27, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x640, .bf16⟩
  | .local _ .vmem, ⟨3, _⟩ => ⟨S1x512x640, .bf16⟩
  | .local _ .vmem, ⟨4, _⟩ => ⟨S1x512x384, .bf16⟩
  | .local _ .vmem, ⟨5, _⟩ => ⟨S1x512x384, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S640x1024, .bf16⟩
  | .local _ .vmem, ⟨15, _⟩ => ⟨S384x1024, .bf16⟩
  | .local _ .vmem, ⟨16, _⟩ => ⟨S1x1024, .f32⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S512x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S640x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S16x2048x1024 : Shape := ⟨3, ![16, 2048, 1024]⟩
abbrev S16x2048x640 : Shape := ⟨3, ![16, 2048, 640]⟩
abbrev S16x2048x384 : Shape := ⟨3, ![16, 2048, 384]⟩
abbrev S16x1024 : Shape := ⟨2, ![16, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 119
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x640, .bf16⟩
  | .hbm, ⟨2, _⟩ => ⟨S16x2048x384, .bf16⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x2048x640, .f32⟩
  | .hbm, ⟨19, _⟩ => ⟨S16x2048x384, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1, .f32⟩
  | .hbm, ⟨50, _⟩ => ⟨S16x2048x1, .f32⟩
  | .hbm, ⟨51, _⟩ => ⟨S16x2048x1, .f32⟩
  | .hbm, ⟨52, _⟩ => ⟨S16x2048x1024, .f32⟩
  | .hbm, ⟨53, _⟩ => ⟨S16x2048x1024, .f32⟩
  | .hbm, ⟨54, _⟩ => ⟨S1x1x1024, .f32⟩
  | .hbm, ⟨55, _⟩ => ⟨S16x2048x1024, .f32⟩
  | .hbm, ⟨56, _⟩ => ⟨S16x2048x1024, .f32⟩
  | .hbm, ⟨57, _⟩ => ⟨S1x1x1024, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x1x1024, .f32⟩
  | .hbm, ⟨62, _⟩ => ⟨S16x1x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S16x2048x5632, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S16x2048x2816, .f32⟩
  | .hbm, ⟨72, _⟩ => ⟨S_, .f32⟩
  | .hbm, ⟨73, _⟩ => ⟨S16x2048x2816, .f32⟩
  | .hbm, ⟨74, _⟩ => ⟨S16x2048x2816, .f32⟩
  | .hbm, ⟨75, _⟩ => ⟨S_, .f32⟩
  | .hbm, ⟨76, _⟩ => ⟨S16x2048x2816, .f32⟩
  | .hbm, ⟨77, _⟩ => ⟨S16x2048x2816, .f32⟩
  | .hbm, ⟨78, _⟩ => ⟨S16x2048x2816, .f32⟩
  | .hbm, ⟨79, _⟩ => ⟨S16x2048x2816, .f32⟩
  | .hbm, ⟨80, _⟩ => ⟨S16x2048x1024, .f32⟩
  | .hbm, ⟨81, _⟩ => ⟨S_, .f32⟩
  | .hbm, ⟨82, _⟩ => ⟨S16x2048x1024, .f32⟩
  | .hbm, ⟨83, _⟩ => ⟨S16x2048x1024, .f32⟩
  | .hbm, ⟨84, _⟩ => ⟨S_, .f32⟩
  | .hbm, ⟨85, _⟩ => ⟨S16x1x1024, .f32⟩
  | .hbm, ⟨86, _⟩ => ⟨S16x1x1024, .f32⟩
  | .hbm, ⟨87, _⟩ => ⟨S16x2048x1024, .f32⟩
  | .hbm, ⟨88, _⟩ => ⟨S16x2048x1024, .f32⟩
  | .hbm, ⟨89, _⟩ => ⟨S16x2048x1024, .f32⟩
  | .hbm, ⟨90, _⟩ => ⟨S_, .f32⟩
  | .hbm, ⟨91, _⟩ => ⟨S16x2048, .f32⟩
  | .hbm, ⟨92, _⟩ => ⟨S16x2048x1, .f32⟩
  | .hbm, ⟨93, _⟩ => ⟨S_, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S16x2048x1024, .f32⟩
  | .hbm, ⟨99, _⟩ => ⟨S_, .f32⟩
  | .hbm, ⟨100, _⟩ => ⟨S16x2048, .f32⟩
  | .hbm, ⟨101, _⟩ => ⟨S16x2048x1, .f32⟩
  | .hbm, ⟨102, _⟩ => ⟨S_, .f32⟩
  | .hbm, ⟨103, _⟩ => ⟨S16x2048x1, .f32⟩
  | .hbm, ⟨104, _⟩ => ⟨S16x2048x1, .f32⟩
  | .hbm, ⟨105, _⟩ => ⟨S16x2048x1024, .f32⟩
  | .hbm, ⟨106, _⟩ => ⟨S16x2048x1024, .f32⟩
  | .hbm, ⟨107, _⟩ => ⟨S_, .f32⟩
  | .hbm, ⟨108, _⟩ => ⟨S16x2048x1, .f32⟩
  | .hbm, ⟨109, _⟩ => ⟨S16x2048x1, .f32⟩
  | .hbm, ⟨110, _⟩ => ⟨S16x2048x1, .f32⟩
  | .hbm, ⟨111, _⟩ => ⟨S16x2048x1024, .f32⟩
  | .hbm, ⟨112, _⟩ => ⟨S16x2048x1024, .f32⟩
  | .hbm, ⟨113, _⟩ => ⟨S1x1x1024, .f32⟩
  | .hbm, ⟨114, _⟩ => ⟨S16x2048x1024, .f32⟩
  | .hbm, ⟨115, _⟩ => ⟨S16x2048x1024, .f32⟩
  | .hbm, ⟨116, _⟩ => ⟨S1x1x1024, .f32⟩
  | .hbm, ⟨117, _⟩ => ⟨S16x2048x1024, .f32⟩
  | .hbm, ⟨118, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x1024 : Shape := ⟨2, ![16, 1024]⟩
abbrev S1024x2694 : Shape := ⟨2, ![1024, 2694]⟩
abbrev S6 : Shape := ⟨1, ![6]⟩
abbrev S_ : Shape := ⟨0, ![]⟩
abbrev S512x512 : Shape := ⟨2, ![512, 512]⟩
abbrev S1024x384 : Shape := ⟨2, ![1024, 384]⟩
abbrev S1024x6 : Shape := ⟨2, ![1024, 6]⟩
abbrev S1024x256 : Shape := ⟨2, ![1024, 256]⟩
abbrev S1024x768 : Shape := ⟨2, ![1024, 768]⟩
abbrev S1024x128 : Shape := ⟨2, ![1024, 128]⟩
abbrev S1024x2816 : Shape := ⟨2, ![1024, 2816]⟩
abbrev S128 : Shape := ⟨1, ![128]⟩
abbrev S1x128 : Shape := ⟨2, ![1, 128]⟩
abbrev S16x1x1024 : Shape := ⟨3, ![16, 1, 1024]⟩
abbrev S16x640x2048 : Shape := ⟨3, ![16, 640, 2048]⟩
abbrev S16x4x640x512 : Shape := ⟨4, ![16, 4, 640, 512]⟩
abbrev S1x16x384x2048 : Shape := ⟨4, ![1, 16, 384, 2048]⟩
abbrev S1x16x256x2048 : Shape := ⟨4, ![1, 16, 256, 2048]⟩
abbrev S16x2048x384 : Shape := ⟨3, ![16, 2048, 384]⟩
abbrev S16x8x2048 : Shape := ⟨3, ![16, 8, 2048]⟩
abbrev S1x512x1024 : Shape := ⟨3, ![1, 512, 1024]⟩
abbrev S1x1x1024 : Shape := ⟨3, ![1, 1, 1024]⟩
abbrev S1x640x512 : Shape := ⟨3, ![1, 640, 512]⟩
abbrev S1x1x640x512 : Shape := ⟨4, ![1, 1, 640, 512]⟩
abbrev S1x1x384x512 : Shape := ⟨4, ![1, 1, 384, 512]⟩
abbrev S1x1x256x512 : Shape := ⟨4, ![1, 1, 256, 512]⟩
abbrev S1x512x384 : Shape := ⟨3, ![1, 512, 384]⟩
abbrev S1x8x512 : Shape := ⟨3, ![1, 8, 512]⟩
abbrev S512x1024 : Shape := ⟨2, ![512, 1024]⟩
abbrev S1x1024 : Shape := ⟨2, ![1, 1024]⟩
abbrev S512x2816 : Shape := ⟨2, ![512, 2816]⟩
abbrev S512x640 : Shape := ⟨2, ![512, 640]⟩
abbrev S640x512 : Shape := ⟨2, ![640, 512]⟩
abbrev S512x256 : Shape := ⟨2, ![512, 256]⟩
abbrev S1x512x256 : Shape := ⟨3, ![1, 512, 256]⟩
abbrev S384x512 : Shape := ⟨2, ![384, 512]⟩
abbrev S256x512 : Shape := ⟨2, ![256, 512]⟩
abbrev S512x384 : Shape := ⟨2, ![512, 384]⟩
abbrev S512x128 : Shape := ⟨2, ![512, 128]⟩
abbrev S128x512 : Shape := ⟨2, ![128, 512]⟩
abbrev S8x512 : Shape := ⟨2, ![8, 512]⟩
abbrev S512x1 : Shape := ⟨2, ![512, 1]⟩
abbrev S1x512x128 : Shape := ⟨3, ![1, 512, 128]⟩
abbrev S16x6x64x2048 : Shape := ⟨4, ![16, 6, 64, 2048]⟩
abbrev S16x2048x6x64 : Shape := ⟨4, ![16, 2048, 6, 64]⟩
abbrev S16x6x2048 : Shape := ⟨3, ![16, 6, 2048]⟩
abbrev S16x2048x6 : Shape := ⟨3, ![16, 2048, 6]⟩
abbrev S16x4x64x2048 : Shape := ⟨4, ![16, 4, 64, 2048]⟩
abbrev S16x2048x4x64 : Shape := ⟨4, ![16, 2048, 4, 64]⟩
abbrev S16x30x384 : Shape := ⟨3, ![16, 30, 384]⟩

abbrev nBuf : Space → Nat
  | .hbm => 60
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x1024, .f32⟩
  | .hbm, ⟨3, _⟩ => ⟨S1024x2694, .f32⟩
  | .hbm, ⟨4, _⟩ => ⟨S6, .f32⟩
  | .hbm, ⟨5, _⟩ => ⟨S_, .f32⟩
  | .hbm, ⟨6, _⟩ => ⟨S512x512, .f32⟩
  | .hbm, ⟨7, _⟩ => ⟨S512x512, .i32⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .bf16⟩
  | .hbm, ⟨17, _⟩ => ⟨S1024x384, .f32⟩
  | .hbm, ⟨18, _⟩ => ⟨S1024x384, .f32⟩
  | .hbm, ⟨19, _⟩ => ⟨S1024x384, .f32⟩
  | .hbm, ⟨20, _⟩ => ⟨S1024x6, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x768, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x2816, .f32⟩
  | .hbm, ⟨32, _⟩ => ⟨S1024x2816, .bf16⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S16x1x1024, .f32⟩
  | .hbm, ⟨38, _⟩ => ⟨S16x1x1024, .f32⟩
  | .hbm, ⟨39, _⟩ => ⟨S16x640x2048, .bf16⟩
  | .hbm, ⟨40, _⟩ => ⟨S16x2048x1024, .bf16⟩
  | .hbm, ⟨41, _⟩ => ⟨S16x4x640x512, .bf16⟩
  | .hbm, ⟨42, _⟩ => ⟨S1x16x384x2048, .f32⟩
  | .hbm, ⟨43, _⟩ => ⟨S1x16x384x2048, .f32⟩
  | .hbm, ⟨44, _⟩ => ⟨S1x16x256x2048, .f32⟩
  | .hbm, ⟨45, _⟩ => ⟨S1x16x256x2048, .f32⟩
  | .hbm, ⟨46, _⟩ => ⟨S16x2048x384, .f32⟩
  | .hbm, ⟨47, _⟩ => ⟨S16x8x2048, .f32⟩
  | .hbm, ⟨48, _⟩ => ⟨S16x8x2048, .f32⟩
  | .hbm, ⟨49, _⟩ => ⟨S16x6x64x2048, .f32⟩
  | .hbm, ⟨50, _⟩ => ⟨S16x2048x6x64, .f32⟩
  | .hbm, ⟨51, _⟩ => ⟨S16x6x64x2048, .f32⟩
  | .hbm, ⟨52, _⟩ => ⟨S16x2048x6x64, .f32⟩
  | .hbm, ⟨53, _⟩ => ⟨S16x6x2048, .f32⟩
  | .hbm, ⟨54, _⟩ => ⟨S16x2048x6, .f32⟩
  | .hbm, ⟨55, _⟩ => ⟨S16x4x64x2048, .f32⟩
  | .hbm, ⟨56, _⟩ => ⟨S16x2048x4x64, .f32⟩
  | .hbm, ⟨57, _⟩ => ⟨S16x4x64x2048, .f32⟩
  | .hbm, ⟨58, _⟩ => ⟨S16x2048x4x64, .f32⟩
  | .hbm, ⟨59, _⟩ => ⟨S16x30x384, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S1x128, .f32⟩
  | .local _ .vmem, ⟨8, _⟩ => ⟨S512x512, .bf16⟩
  | .local _ .vmem, ⟨9, _⟩ => ⟨S1x640x512, .bf16⟩
  | .local _ .vmem, ⟨10, _⟩ => ⟨S1x640x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1x640x512, .bf16⟩
  | .local _ .vmem, ⟨14, _⟩ => ⟨S1x1x640x512, .bf16⟩
  | .local _ .vmem, ⟨15, _⟩ => ⟨S1x1x384x512, .f32⟩
  | .local _ .vmem, ⟨16, _⟩ => ⟨S1x1x384x512, .f32⟩
  | .local _ .vmem, ⟨17, _⟩ => ⟨S1x1x384x512, .f32⟩
  | .local _ .vmem, ⟨18, _⟩ => ⟨S1x1x384x512, .f32⟩
  | .local _ .vmem, ⟨19, _⟩ => ⟨S1x1x256x512, .f32⟩
  | .local _ .vmem, ⟨20, _⟩ => ⟨S1x1x256x512, .f32⟩
  | .local _ .vmem, ⟨21, _⟩ => ⟨S1x1x256x512, .f32⟩
  | .local _ .vmem, ⟨22, _⟩ => ⟨S1x1x256x512, .f32⟩
  | .local _ .vmem, ⟨23, _⟩ => ⟨S1x512x384, .f32⟩
  | .local _ .vmem, ⟨24, _⟩ => ⟨S1x512x384, .f32⟩
  | .local _ .vmem, ⟨25, _⟩ => ⟨S1x8x512, .f32⟩
  | .local _ .vmem, ⟨26, _⟩ => ⟨S1x8x512, .f32⟩
  | .local _ .vmem, ⟨27, _⟩ => ⟨S1x8x512, .f32⟩
  | .local _ .vmem, ⟨28, _⟩ => ⟨S1x8x512, .f32⟩
  | .local _ .vmem, ⟨29, _⟩ => ⟨S1x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call1_v0 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_call2_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev main_v20_4 : Ref sig .tc := ⟨.hbm, 43, rfl⟩
abbrev main_v20_5 : Ref sig .tc := ⟨.hbm, 44, rfl⟩
abbrev main_v20_6 : Ref sig .tc := ⟨.hbm, 45, rfl⟩
abbrev main_v20_7 : Ref sig .tc := ⟨.hbm, 46, rfl⟩
abbrev main_v20_8 : Ref sig .tc := ⟨.hbm, 47, rfl⟩
abbrev main_v20_9 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x640x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x384x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x384x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S16x2048x1024 : Shape := ⟨3, ![16, 2048, 1024]⟩
abbrev S16x1024 : Shape := ⟨2, ![16, 1024]⟩
abbrev S1024x2694 : Shape := ⟨2, ![1024, 2694]⟩
abbrev S6 : Shape := ⟨1, ![6]⟩
abbrev S16x1x1024 : Shape := ⟨3, ![16, 1, 1024]⟩
abbrev S_ : Shape := ⟨0, ![]⟩
abbrev S16x2048x2694 : Shape := ⟨3, ![16, 2048, 2694]⟩
abbrev S16x2048x384 : Shape := ⟨3, ![16, 2048, 384]⟩
abbrev S16x2048x6 : Shape := ⟨3, ![16, 2048, 6]⟩
abbrev S16x2048x256 : Shape := ⟨3, ![16, 2048, 256]⟩
abbrev S16x2048x640 : Shape := ⟨3, ![16, 2048, 640]⟩
abbrev S1x1x6 : Shape := ⟨3, ![1, 1, 6]⟩
abbrev S16x30x384 : Shape := ⟨3, ![16, 30, 384]⟩
abbrev S16x2078x384 : Shape := ⟨3, ![16, 2078, 384]⟩
abbrev S16x640x2048 : Shape := ⟨3, ![16, 640, 2048]⟩
abbrev S16x2048x6x64 : Shape := ⟨4, ![16, 2048, 6, 64]⟩
abbrev S16x2048x4x64 : Shape := ⟨4, ![16, 2048, 4, 64]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x1024, .f32⟩
  | .hbm, ⟨3, _⟩ => ⟨S1024x2694, .f32⟩
  | .hbm, ⟨4, _⟩ => ⟨S6, .f32⟩
  | .hbm, ⟨5, _⟩ => ⟨S16x1x1024, .f32⟩
  | .hbm, ⟨6, _⟩ => ⟨S16x1x1024, .f32⟩
  | .hbm, ⟨7, _⟩ => ⟨S_, .f32⟩
  | .hbm, ⟨8, _⟩ => ⟨S16x1x1024, .f32⟩
  | .hbm, ⟨9, _⟩ => ⟨S16x1x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x2694, .f32⟩
  | .hbm, ⟨15, _⟩ => ⟨S16x2048x384, .f32⟩
  | .hbm, ⟨16, _⟩ => ⟨S16x2048x384, .f32⟩
  | .hbm, ⟨17, _⟩ => ⟨S16x2048x384, .f32⟩
  | .hbm, ⟨18, _⟩ => ⟨S16x2048x6, .f32⟩
  | .hbm, ⟨19, _⟩ => ⟨S16x2048x256, .f32⟩
  | .hbm, ⟨20, _⟩ => ⟨S16x2048x256, .f32⟩
  | .hbm, ⟨21, _⟩ => ⟨S16x2048x256, .f32⟩
  | .hbm, ⟨22, _⟩ => ⟨S16x2048x384, .f32⟩
  | .hbm, ⟨23, _⟩ => ⟨S16x2048x384, .f32⟩
  | .hbm, ⟨24, _⟩ => ⟨S_, .f32⟩
  | .hbm, ⟨25, _⟩ => ⟨S16x2048x384, .f32⟩
  | .hbm, ⟨26, _⟩ => ⟨S16x2048x384, .f32⟩
  | .hbm, ⟨27, _⟩ => ⟨S16x2048x640, .f32⟩
  | .hbm, ⟨28, _⟩ => ⟨S1x1x6, .f32⟩
  | .hbm, ⟨29, _⟩ => ⟨S16x2048x6, .f32⟩
  | .hbm, ⟨30, _⟩ => ⟨S16x2048x6, .f32⟩
  | .hbm, ⟨31, _⟩ => ⟨S16x2048x6, .f32⟩
  | .hbm, ⟨32, _⟩ => ⟨S_, .f32⟩
  | .hbm, ⟨33, _⟩ => ⟨S16x2048x6, .f32⟩
  | .hbm, ⟨34, _⟩ => ⟨S16x2048x6, .f32⟩
  | .hbm, ⟨35, _⟩ => ⟨S16x2048x6, .f32⟩
  | .hbm, ⟨36, _⟩ => ⟨S16x2048x6, .f32⟩
  | .hbm, ⟨37, _⟩ => ⟨S16x2048x6, .i1⟩
  | .hbm, ⟨38, _⟩ => ⟨S16x2048x6, .f32⟩
  | .hbm, ⟨39, _⟩ => ⟨S16x2048x6, .f32⟩
  | .hbm, ⟨40, _⟩ => ⟨S16x2048x6, .f32⟩
  | .hbm, ⟨41, _⟩ => ⟨S16x2048x6, .f32⟩
  | .hbm, ⟨42, _⟩ => ⟨S16x2048x6, .f32⟩
  | .hbm, ⟨43, _⟩ => ⟨S16x2048x6, .f32⟩
  | .hbm, ⟨44, _⟩ => ⟨S16x2048x6, .f32⟩
  | .hbm, ⟨45, _⟩ => ⟨S16x2048x6, .f32⟩
  | .hbm, ⟨46, _⟩ => ⟨S16x2048x6, .f32⟩
  | .hbm, ⟨47, _⟩ => ⟨S16x2048x384, .f32⟩
  | .hbm, ⟨48, _⟩ => ⟨S16x2048x384, .f32⟩
  | .hbm, ⟨49, _⟩ => ⟨S_, .f32⟩
  | .hbm, ⟨50, _⟩ => ⟨S16x2048x384, .f32⟩
  | .hbm, ⟨51, _⟩ => ⟨S16x2048x384, .f32⟩
  | .hbm, ⟨52, _⟩ => ⟨S_, .f32⟩
  | .hbm, ⟨53, _⟩ => ⟨S16x2048x384, .f32⟩
  | .hbm, ⟨54, _⟩ => ⟨S16x2048x384, .f32⟩
  | .hbm, ⟨55, _⟩ => ⟨S16x2048x384, .f32⟩
  | .hbm, ⟨56, _⟩ => ⟨S_, .f32⟩
  | .hbm, ⟨57, _⟩ => ⟨S16x30x384, .f32⟩
  | .hbm, ⟨58, _⟩ => ⟨S16x2078x384, .f32⟩
  | .hbm, ⟨59, _⟩ => ⟨S16x640x2048, .f32⟩
  | .hbm, ⟨60, _⟩ => ⟨S16x640x2048, .bf16⟩
  | .hbm, ⟨61, _⟩ => ⟨S16x2048x6x64, .f32⟩
  | .hbm, ⟨62, _⟩ => ⟨S16x2048x6x64, .f32⟩
  | .hbm, ⟨63, _⟩ => ⟨S16x2048x4x64, .f32⟩
  | .hbm, ⟨64, _⟩ => ⟨S16x2048x4x64, .f32⟩
  | .hbm, ⟨65, _⟩ => ⟨S16x30x384, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel4.lean ====
abbrev S16x1024 : Shape := ⟨2, ![16, 1024]⟩
abbrev S32x1024 : Shape := ⟨2, ![32, 1024]⟩
abbrev S2x1024x6144 : Shape := ⟨3, ![2, 1024, 6144]⟩
abbrev S2x6144 : Shape := ⟨2, ![2, 6144]⟩
abbrev S48x1024 : Shape := ⟨2, ![48, 1024]⟩
abbrev S2x1x6144 : Shape := ⟨3, ![2, 1, 6144]⟩
abbrev S2x48x6144 : Shape := ⟨3, ![2, 48, 6144]⟩
abbrev S1x1024x1024 : Shape := ⟨3, ![1, 1024, 1024]⟩
abbrev S1x1x1024 : Shape := ⟨3, ![1, 1, 1024]⟩
abbrev S1x48x1024 : Shape := ⟨3, ![1, 48, 1024]⟩
abbrev S1024x1024 : Shape := ⟨2, ![1024, 1024]⟩
abbrev S1x1024 : Shape := ⟨2, ![1, 1024]⟩
abbrev S2x16x6144 : Shape := ⟨3, ![2, 16, 6144]⟩
abbrev S2x32x6144 : Shape := ⟨3, ![2, 32, 6144]⟩

abbrev nBuf : Space → Nat
  | .hbm => 9
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S32x1024, .f32⟩
  | .hbm, ⟨2, _⟩ => ⟨S2x1024x6144, .f32⟩
  | .hbm, ⟨3, _⟩ => ⟨S2x6144, .f32⟩
  | .hbm, ⟨4, _⟩ => ⟨S48x1024, .f32⟩
  | .hbm, ⟨5, _⟩ => ⟨S2x1x6144, .f32⟩
  | .hbm, ⟨6, _⟩ => ⟨S2x48x6144, .f32⟩
  | .hbm, ⟨7, _⟩ => ⟨S2x16x6144, .f32⟩
  | .hbm, ⟨8, _⟩ => ⟨S2x32x6144, .f32⟩
  | .local _ .vmem, ⟨0, _⟩ => ⟨S48x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x48x1024, .f32⟩
  | .local _ .vmem, ⟨6, _⟩ => ⟨S1x48x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S32x1024 : Shape := ⟨2, ![32, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩
abbrev S32x6144 : Shape := ⟨2, ![32, 6144]⟩
abbrev S1x32x6144 : Shape := ⟨3, ![1, 32, 6144]⟩
abbrev S2x32x6144 : Shape := ⟨3, ![2, 32, 6144]⟩

abbrev nBuf : Space → Nat
  | .hbm => 78
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S32x1024, .f32⟩
  | .hbm, ⟨2, _⟩ => ⟨S2x1024x6144, .f32⟩
  | .hbm, ⟨3, _⟩ => ⟨S2x6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1x1024x6144, .f32⟩
  | .hbm, ⟨14, _⟩ => ⟨S1024x6144, .f32⟩
  | .hbm, ⟨15, _⟩ => ⟨S16x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S16x6144, .f32⟩
  | .hbm, ⟨20, _⟩ => ⟨S16x6144, .f32⟩
  | .hbm, ⟨21, _⟩ => ⟨S16x1024, .f32⟩
  | .hbm, ⟨22, _⟩ => ⟨S16x1024, .f32⟩
  | .hbm, ⟨23, _⟩ => ⟨S_, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S1x1024x6144, .f32⟩
  | .hbm, ⟨31, _⟩ => ⟨S1024x6144, .f32⟩
  | .hbm, ⟨32, _⟩ => ⟨S16x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S16x6144, .f32⟩
  | .hbm, ⟨37, _⟩ => ⟨S16x6144, .f32⟩
  | .hbm, ⟨38, _⟩ => ⟨S1x16x6144, .f32⟩
  | .hbm, ⟨39, _⟩ => ⟨S1x16x6144, .f32⟩
  | .hbm, ⟨40, _⟩ => ⟨S2x16x6144, .f32⟩
  | .hbm, ⟨41, _⟩ => ⟨S32x1024, .f32⟩
  | .hbm, ⟨42, _⟩ => ⟨S32x1024, .f32⟩
  | .hbm, ⟨43, _⟩ => ⟨S_, .f32⟩
  | .hbm, ⟨44, _⟩ => ⟨S32x1024, .f32⟩
  | .hbm, ⟨45, _⟩ => ⟨S32x1024, .f32⟩
  | .hbm, ⟨46, _⟩ => ⟨S_, .f32⟩
  | .hbm, ⟨47, _⟩ => ⟨S32x1024, .f32⟩
  | .hbm, ⟨48, _⟩ => ⟨S32x1024, .f32⟩
  | .hbm, ⟨49, _⟩ => ⟨S32x1024, .f32⟩
  | .hbm, ⟨50, _⟩ => ⟨S1x1024x6144, .f32⟩
  | .hbm, ⟨51, _⟩ => ⟨S1024x6144, .f32⟩
  | .hbm, ⟨52, _⟩ => ⟨S32x6144, .f32⟩
  | .hbm, ⟨53, _⟩ => ⟨S1x6144, .f32⟩
  | .hbm, ⟨54, _⟩ => ⟨S6144, .f32⟩
  | .hbm, ⟨55, _⟩ => ⟨S1x6144, .f32⟩
  | .hbm, ⟨56, _⟩ => ⟨S32x6144, .f32⟩
  | .hbm, ⟨57, _⟩ => ⟨S32x6144, .f32⟩
  | .hbm, ⟨58, _⟩ => ⟨S32x1024, .f32⟩
  | .hbm, ⟨59, _⟩ => ⟨S32x1024, .f32⟩
  | .hbm, ⟨60, _⟩ => ⟨S_, .f32⟩
  | .hbm, ⟨61, _⟩ => ⟨S32x1024, .f32⟩
  | .hbm, ⟨62, _⟩ => ⟨S32x1024, .f32⟩
  | .hbm, ⟨63, _⟩ => ⟨S_, .f32⟩
  | .hbm, ⟨64, _⟩ => ⟨S32x1024, .f32⟩
  | .hbm, ⟨65, _⟩ => ⟨S32x1024, .f32⟩
  | .hbm, ⟨66, _⟩ => ⟨S32x1024, .f32⟩
  | .hbm, ⟨67, _⟩ => ⟨S1x1024x6144, .f32⟩
  | .hbm, ⟨68, _⟩ => ⟨S1024x6144, .f32⟩
  | .hbm, ⟨69, _⟩ => ⟨S32x6144, .f32⟩
  | .hbm, ⟨70, _⟩ => ⟨S1x6144, .f32⟩
  | .hbm, ⟨71, _⟩ => ⟨S6144, .f32⟩
  | .hbm, ⟨72, _⟩ => ⟨S1x6144, .f32⟩
  | .hbm, ⟨73, _⟩ => ⟨S32x6144, .f32⟩
  | .hbm, ⟨74, _⟩ => ⟨S32x6144, .f32⟩
  | .hbm, ⟨75, _⟩ => ⟨S1x32x6144, .f32⟩
  | .hbm, ⟨76, _⟩ => ⟨S1x32x6144, .f32⟩
  | .hbm, ⟨77, _⟩ => ⟨S2x32x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩

abbrev nD : Nat := 1
abbrev τ : Topo := Topo.v7x

variable {F : FTy → Type} [FloatOps F]
-- ==== Kernel5.lean ====
abbrev S16x2048x384 : Shape := ⟨3, ![16, 2048, 384]⟩
abbrev S31x384 : Shape := ⟨2, ![31, 384]⟩
abbrev S384 : Shape := ⟨1, ![384]⟩
abbrev S1x384 : Shape := ⟨2, ![1, 384]⟩
abbrev S1x512x384 : Shape := ⟨3, ![1, 512, 384]⟩
abbrev S1x32x384 : Shape := ⟨3, ![1, 32, 384]⟩
abbrev S544x384 : Shape := ⟨2, ![544, 384]⟩
abbrev S32x384 : Shape := ⟨2, ![32, 384]⟩
abbrev S512x384 : Shape := ⟨2, ![512, 384]⟩
abbrev S536x384 : Shape := ⟨2, ![536, 384]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16x2048x384, .f32⟩
  | .hbm, ⟨1, _⟩ => ⟨S31x384, .f32⟩
  | .hbm, ⟨2, _⟩ => ⟨S384, .f32⟩
  | .hbm, ⟨3, _⟩ => ⟨S384, .f32⟩
  | .hbm, ⟨4, _⟩ => ⟨S384, .f32⟩
  | .hbm, ⟨5, _⟩ => ⟨S1x384, .f32⟩
  | .hbm, ⟨6, _⟩ => ⟨S1x384, .f32⟩
  | .hbm, ⟨7, _⟩ => ⟨S1x384, .f32⟩
  | .hbm, ⟨8, _⟩ => ⟨S16x2048x384, .bf16⟩
  | .local _ .vmem, ⟨0, _⟩ => ⟨S1x512x384, .f32⟩
  | .local _ .vmem, ⟨1, _⟩ => ⟨S1x512x384, .f32⟩
  | .local _ .vmem, ⟨2, _⟩ => ⟨S1x32x384, .f32⟩
  | .local _ .vmem, ⟨3, _⟩ => ⟨S1x32x384, .f32⟩
  | .local _ .vmem, ⟨4, _⟩ => ⟨S31x384, .f32⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S1x512x384, .bf16⟩
  | .local _ .vmem, ⟨9, _⟩ => ⟨S1x512x384, .bf16⟩
  | .local _ .vmem, ⟨10, _⟩ => ⟨S544x384, .f32⟩
  | .local _ .vmem, ⟨11, _⟩ => ⟨S544x384, .f32⟩
  | _, _ => ⟨S16x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16x2048x384 : Shape := ⟨3, ![16, 2048, 384]⟩
abbrev S31x384 : Shape := ⟨2, ![31, 384]⟩
abbrev S384 : Shape := ⟨1, ![384]⟩
abbrev S_ : Shape := ⟨0, ![]⟩
abbrev S16x30x384 : Shape := ⟨3, ![16, 30, 384]⟩
abbrev S16x2078x384 : Shape := ⟨3, ![16, 2078, 384]⟩
abbrev S1x384 : Shape := ⟨2, ![1, 384]⟩
abbrev S1x1x384 : Shape := ⟨3, ![1, 1, 384]⟩
abbrev S16x2048 : Shape := ⟨2, ![16, 2048]⟩
abbrev S16x2048x1 : Shape := ⟨3, ![16, 2048, 1]⟩

abbrev nBuf : Space → Nat
  | .hbm => 269
  | .vmem => 0
  | .smem => 0
  | _ => 0

abbrev hbmTy0_0 (i : Nat) : BufTy := match i % 128 with
  | 0 => ⟨S16x2048x384, .f32⟩
  | 1 => ⟨S31x384, .f32⟩
  | 2 => ⟨S384, .f32⟩
  | 3 => ⟨S384, .f32⟩
  | 4 => ⟨S384, .f32⟩
  | 5 => ⟨S_, .f32⟩
  | 6 => ⟨S16x30x384, .f32⟩
  | 7 => ⟨S16x2078x384, .f32⟩
  | 8 => ⟨S16x2048x384, .f32⟩
  | 9 => ⟨S1x384, .f32⟩
  | 10 => ⟨S384, .f32⟩
  | 11 => ⟨S1x1x384, .f32⟩
  | 12 => ⟨S16x2048x384, .f32⟩
  | 13 => ⟨S16x2048x384, .f32⟩
  | 14 => ⟨S_, .f32⟩
  | 15 => ⟨S16x2048x384, .f32⟩
  | 16 => ⟨S16x2048x384, .f32⟩
  | 17 => ⟨S16x2048x384, .f32⟩
  | 18 => ⟨S1x384, .f32⟩
  | 19 => ⟨S384, .f32⟩
  | 20 => ⟨S1x1x384, .f32⟩
  | 21 => ⟨S16x2048x384, .f32⟩
  | 22 => ⟨S16x2048x384, .f32⟩
  | 23 => ⟨S16x2048x384, .f32⟩
  | 24 => ⟨S16x2048x384, .f32⟩
  | 25 => ⟨S1x384, .f32⟩
  | 26 => ⟨S384, .f32⟩
  | 27 => ⟨S1x1x384, .f32⟩
  | 28 => ⟨S16x2048x384, .f32⟩
  | 29 => ⟨S16x2048x384, .f32⟩
  | 30 => ⟨S16x2048x384, .f32⟩
  | 31 => ⟨S16x2048x384, .f32⟩
  | 32 => ⟨S1x384, .f32⟩
  | 33 => ⟨S384, .f32⟩
  | 34 => ⟨S1x1x384, .f32⟩
  | 35 => ⟨S16x2048x384, .f32⟩
  | 36 => ⟨S16x2048x384, .f32⟩
  | 37 => ⟨S16x2048x384, .f32⟩
  | 38 => ⟨S16x2048x384, .f32⟩
  | 39 => ⟨S1x384, .f32⟩
  | 40 => ⟨S384, .f32⟩
  | 41 => ⟨S1x1x384, .f32⟩
  | 42 => ⟨S16x2048x384, .f32⟩
  | 43 => ⟨S16x2048x384, .f32⟩
  | 44 => ⟨S16x2048x384, .f32⟩
  | 45 => ⟨S16x2048x384, .f32⟩
  | 46 => ⟨S1x384, .f32⟩
  | 47 => ⟨S384, .f32⟩
  | 48 => ⟨S1x1x384, .f32⟩
  | 49 => ⟨S16x2048x384, .f32⟩
  | 50 => ⟨S16x2048x384, .f32⟩
  | 51 => ⟨S16x2048x384, .f32⟩
  | 52 => ⟨S16x2048x384, .f32⟩
  | 53 => ⟨S1x384, .f32⟩
  | 54 => ⟨S384, .f32⟩
  | 55 => ⟨S1x1x384, .f32⟩
  | 56 => ⟨S16x2048x384, .f32⟩
  | 57 => ⟨S16x2048x384, .f32⟩
  | 58 => ⟨S16x2048x384, .f32⟩
  | 59 => ⟨S16x2048x384, .f32⟩
  | 60 => ⟨S1x384, .f32⟩
  | 61 => ⟨S384, .f32⟩
  | 62 => ⟨S1x1x384, .f32⟩
  | 63 => ⟨S16x2048x384, .f32⟩
  | 64 => ⟨S16x2048x384, .f32⟩
  | 65 => ⟨S16x2048x384, .f32⟩
  | 66 => ⟨S16x2048x384, .f32⟩
  | 67 => ⟨S1x384, .f32⟩
  | 68 => ⟨S384, .f32⟩
  | 69 => ⟨S1x1x384, .f32⟩
  | 70 => ⟨S16x2048x384, .f32⟩
  | 71 => ⟨S16x2048x384, .f32⟩
  | 72 => ⟨S16x2048x384, .f32⟩
  | 73 => ⟨S16x2048x384, .f32⟩
  | 74 => ⟨S1x384, .f32⟩
  | 75 => ⟨S384, .f32⟩
  | 76 => ⟨S1x1x384, .f32⟩
  | 77 => ⟨S16x2048x384, .f32⟩
  | 78 => ⟨S16x2048x384, .f32⟩
  | 79 => ⟨S16x2048x384, .f32⟩
  | 80 => ⟨S16x2048x384, .f32⟩
  | 81 => ⟨S1x384, .f32⟩
  | 82 => ⟨S384, .f32⟩
  | 83 => ⟨S1x1x384, .f32⟩
  | 84 => ⟨S16x2048x384, .f32⟩
  | 85 => ⟨S16x2048x384, .f32⟩
  | 86 => ⟨S16x2048x384, .f32⟩
  | 87 => ⟨S16x2048x384, .f32⟩
  | 88 => ⟨S1x384, .f32⟩
  | 89 => ⟨S384, .f32⟩
  | 90 => ⟨S1x1x384, .f32⟩
  | 91 => ⟨S16x2048x384, .f32⟩
  | 92 => ⟨S16x2048x384, .f32⟩
  | 93 => ⟨S16x2048x384, .f32⟩
  | 94 => ⟨S16x2048x384, .f32⟩
  | 95 => ⟨S1x384, .f32⟩
  | 96 => ⟨S384, .f32⟩
  | 97 => ⟨S1x1x384, .f32⟩
  | 98 => ⟨S16x2048x384, .f32⟩
  | 99 => ⟨S16x2048x384, .f32⟩
  | 100 => ⟨S16x2048x384, .f32⟩
  | 101 => ⟨S16x2048x384, .f32⟩
  | 102 => ⟨S1x384, .f32⟩
  | 103 => ⟨S384, .f32⟩
  | 104 => ⟨S1x1x384, .f32⟩
  | 105 => ⟨S16x2048x384, .f32⟩
  | 106 => ⟨S16x2048x384, .f32⟩
  | 107 => ⟨S16x2048x384, .f32⟩
  | 108 => ⟨S16x2048x384, .f32⟩
  | 109 => ⟨S1x384, .f32⟩
  | 110 => ⟨S384, .f32⟩
  | 111 => ⟨S1x1x384, .f32⟩
  | 112 => ⟨S16x2048x384, .f32⟩
  | 113 => ⟨S16x2048x384, .f32⟩
  | 114 => ⟨S16x2048x384, .f32⟩
  | 115 => ⟨S16x2048x384, .f32⟩
  | 116 => ⟨S1x384, .f32⟩
  | 117 => ⟨S384, .f32⟩
  | 118 => ⟨S1x1x384, .f32⟩
  | 119 => ⟨S16x2048x384, .f32⟩
  | 120 => ⟨S16x2048x384, .f32⟩
  | 121 => ⟨S16x2048x384, .f32⟩
  | 122 => ⟨S16x2048x384, .f32⟩
  | 123 => ⟨S1x384, .f32⟩
  | 124 => ⟨S384, .f32⟩
  | 125 => ⟨S1x1x384, .f32⟩
  | 126 => ⟨S16x2048x384, .f32⟩
  | 127 => ⟨S16x2048x384, .f32⟩
  | _ => ⟨S16x2048x384, .f32⟩

abbrev hbmTy0_1 (i : Nat) : BufTy := match i % 128 with
  | 0 => ⟨S16x2048x384, .f32⟩
  | 1 => ⟨S16x2048x384, .f32⟩
  | 2 => ⟨S1x384, .f32⟩
  | 3 => ⟨S384, .f32⟩
  | 4 => ⟨S1x1x384, .f32⟩
  | 5 => ⟨S16x2048x384, .f32⟩
  | 6 => ⟨S16x2048x384, .f32⟩
  | 7 => ⟨S16x2048x384, .f32⟩
  | 8 => ⟨S16x2048x384, .f32⟩
  | 9 => ⟨S1x384, .f32⟩
  | 10 => ⟨S384, .f32⟩
  | 11 => ⟨S1x1x384, .f32⟩
  | 12 => ⟨S16x2048x384, .f32⟩
  | 13 => ⟨S16x2048x384, .f32⟩
  | 14 => ⟨S16x2048x384, .f32⟩
  | 15 => ⟨S16x2048x384, .f32⟩
  | 16 => ⟨S1x384, .f32⟩
  | 17 => ⟨S384, .f32⟩
  | 18 => ⟨S1x1x384, .f32⟩
  | 19 => ⟨S16x2048x384, .f32⟩
  | 20 => ⟨S16x2048x384, .f32⟩
  | 21 => ⟨S16x2048x384, .f32⟩
  | 22 => ⟨S16x2048x384, .f32⟩
  | 23 => ⟨S1x384, .f32⟩
  | 24 => ⟨S384, .f32⟩
  | 25 => ⟨S1x1x384, .f32⟩
  | 26 => ⟨S16x2048x384, .f32⟩
  | 27 => ⟨S16x2048x384, .f32⟩
  | 28 => ⟨S16x2048x384, .f32⟩
  | 29 => ⟨S16x2048x384, .f32⟩
  | 30 => ⟨S1x384, .f32⟩
  | 31 => ⟨S384, .f32⟩
  | 32 => ⟨S1x1x384, .f32⟩
  | 33 => ⟨S16x2048x384, .f32⟩
  | 34 => ⟨S16x2048x384, .f32⟩
  | 35 => ⟨S16x2048x384, .f32⟩
  | 36 => ⟨S16x2048x384, .f32⟩
  | 37 => ⟨S1x384, .f32⟩
  | 38 => ⟨S384, .f32⟩
  | 39 => ⟨S1x1x384, .f32⟩
  | 40 => ⟨S16x2048x384, .f32⟩
  | 41 => ⟨S16x2048x384, .f32⟩
  | 42 => ⟨S16x2048x384, .f32⟩
  | 43 => ⟨S16x2048x384, .f32⟩
  | 44 => ⟨S1x384, .f32⟩
  | 45 => ⟨S384, .f32⟩
  | 46 => ⟨S1x1x384, .f32⟩
  | 47 => ⟨S16x2048x384, .f32⟩
  | 48 => ⟨S16x2048x384, .f32⟩
  | 49 => ⟨S16x2048x384, .f32⟩
  | 50 => ⟨S16x2048x384, .f32⟩
  | 51 => ⟨S1x384, .f32⟩
  | 52 => ⟨S384, .f32⟩
  | 53 => ⟨S1x1x384, .f32⟩
  | 54 => ⟨S16x2048x384, .f32⟩
  | 55 => ⟨S16x2048x384, .f32⟩
  | 56 => ⟨S16x2048x384, .f32⟩
  | 57 => ⟨S16x2048x384, .f32⟩
  | 58 => ⟨S1x384, .f32⟩
  | 59 => ⟨S384, .f32⟩
  | 60 => ⟨S1x1x384, .f32⟩
  | 61 => ⟨S16x2048x384, .f32⟩
  | 62 => ⟨S16x2048x384, .f32⟩
  | 63 => ⟨S16x2048x384, .f32⟩
  | 64 => ⟨S16x2048x384, .f32⟩
  | 65 => ⟨S1x384, .f32⟩
  | 66 => ⟨S384, .f32⟩
  | 67 => ⟨S1x1x384, .f32⟩
  | 68 => ⟨S16x2048x384, .f32⟩
  | 69 => ⟨S16x2048x384, .f32⟩
  | 70 => ⟨S16x2048x384, .f32⟩
  | 71 => ⟨S16x2048x384, .f32⟩
  | 72 => ⟨S1x384, .f32⟩
  | 73 => ⟨S384, .f32⟩
  | 74 => ⟨S1x1x384, .f32⟩
  | 75 => ⟨S16x2048x384, .f32⟩
  | 76 => ⟨S16x2048x384, .f32⟩
  | 77 => ⟨S16x2048x384, .f32⟩
  | 78 => ⟨S16x2048x384, .f32⟩
  | 79 => ⟨S1x384, .f32⟩
  | 80 => ⟨S384, .f32⟩
  | 81 => ⟨S1x1x384, .f32⟩
  | 82 => ⟨S16x2048x384, .f32⟩
  | 83 => ⟨S16x2048x384, .f32⟩
  | 84 => ⟨S16x2048x384, .f32⟩
  | 85 => ⟨S16x2048x384, .f32⟩
  | 86 => ⟨S1x384, .f32⟩
  | 87 => ⟨S384, .f32⟩
  | 88 => ⟨S1x1x384, .f32⟩
  | 89 => ⟨S16x2048x384, .f32⟩
  | 90 => ⟨S16x2048x384, .f32⟩
  | 91 => ⟨S16x2048x384, .f32⟩
  | 92 => ⟨S16x2048x384, .f32⟩
  | 93 => ⟨S1x384, .f32⟩
  | 94 => ⟨S384, .f32⟩
  | 95 => ⟨S1x1x384, .f32⟩
  | 96 => ⟨S16x2048x384, .f32⟩
  | 97 => ⟨S16x2048x384, .f32⟩
  | 98 => ⟨S16x2048x384, .f32⟩
  | 99 => ⟨S1x1x384, .f32⟩
  | 100 => ⟨S16x2048x384, .f32⟩
  | 101 => ⟨S16x2048x384, .f32⟩
  | 102 => ⟨S_, .f32⟩
  | 103 => ⟨S16x2048, .f32⟩
  | 104 => ⟨S16x2048x1, .f32⟩
  | 105 => ⟨S_, .f32⟩
  | 106 => ⟨S16x2048x1, .f32⟩
  | 107 => ⟨S16x2048x1, .f32⟩
  | 108 => ⟨S16x2048x384, .f32⟩
  | 109 => ⟨S16x2048x384, .f32⟩
  | 110 => ⟨S16x2048x384, .f32⟩
  | 111 => ⟨S_, .f32⟩
  | 112 => ⟨S16x2048, .f32⟩
  | 113 => ⟨S16x2048x1, .f32⟩
  | 114 => ⟨S_, .f32⟩
  | 115 => ⟨S16x2048x1, .f32⟩
  | 116 => ⟨S16x2048x1, .f32⟩
  | 117 => ⟨S16x2048x384, .f32⟩
  | 118 => ⟨S16x2048x384, .f32⟩
  | 119 => ⟨S_, .f32⟩
  | 120 => ⟨S16x2048x1, .f32⟩
  | 121 => ⟨S16x2048x1, .f32⟩
  | 122 => ⟨S16x2048x1, .f32⟩
  | 123 => ⟨S16x2048x384, .f32⟩
  | 124 => ⟨S16x2048x384, .f32⟩
  | 125 => ⟨S1x1x384, .f32⟩
  | 126 => ⟨S16x2048x384, .f32⟩
  | 127 => ⟨S16x2048x384, .f32⟩
  | _ => ⟨S16x2048x384, .f32⟩

abbrev hbmTy0_2 (i : Nat) : BufTy := match i % 128 with
  | 0 => ⟨S1x1x384, .f32⟩
  | 1 => ⟨S16x2048x384, .f32⟩
  | 2 => ⟨S16x2048x384, .f32⟩
  | 3 => ⟨S16x2048x384, .f32⟩
  | 4 => ⟨S16x2048x384, .f32⟩
  | 5 => ⟨S_, .f32⟩
  | 6 => ⟨S16x2048x384, .f32⟩
  | 7 => ⟨S16x2048x384, .f32⟩
  | 8 => ⟨S_, .f32⟩
  | 9 => ⟨S16x2048x384, .f32⟩
  | 10 => ⟨S16x2048x384, .f32⟩
  | 11 => ⟨S16x2048x384, .f32⟩
  | 12 => ⟨S16x2048x384, .bf16⟩
  | _ => ⟨S16x2048x384, .f32⟩

abbrev hbmTy (i : Nat) : BufTy := match i / 128 with
  | 0 => hbmTy0_0 i
  | 1 => hbmTy0_1 i
  | 2 => hbmTy0_2 i
  | _ => ⟨S16x2048x384, .f32⟩

abbrev bufTy : (tb : Table) → Fin (tcTables nBuf tb) → BufTy
  | .hbm, ⟨i, _⟩ => hbmTy i
  | _, _ => ⟨S16x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_cst_1 : Ref sig .tc := ⟨.hbm, 230, rfl⟩
abbrev main_v223 : Ref sig .tc := ⟨.hbm, 231, rfl⟩
abbrev main_v224 : Ref sig .tc := ⟨.hbm, 232, rfl⟩
abbrev main_cst_2 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_3 : Ref sig .tc := ⟨.hbm, 239, rfl⟩
abbrev main_v230 : Ref sig .tc := ⟨.hbm, 240, rfl⟩
abbrev main_v231 : Ref sig .tc := ⟨.hbm, 241, rfl⟩
abbrev main_cst_4 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_cst_5 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_call0_v0 : Ref sig .tc := ⟨.hbm, 259, rfl⟩
abbrev main_call0_v1 : Ref sig .tc := ⟨.hbm, 260, rfl⟩
abbrev main_call0_cst : Ref sig .tc := ⟨.hbm, 261, rfl⟩
abbrev main_call0_v2 : Ref sig .tc := ⟨.hbm, 262, rfl⟩
abbrev main_call0_v3 : Ref sig .tc := ⟨.hbm, 263, rfl⟩
abbrev main_call0_cst_0 : Ref sig .tc := ⟨.hbm, 264, rfl⟩
abbrev main_call0_v4 : Ref sig .tc := ⟨.hbm, 265, rfl⟩
abbrev main_call0_v5 : Ref sig .tc := ⟨.hbm, 266, rfl⟩
abbrev main_v247 : Ref sig .tc := ⟨.hbm, 267, rfl⟩
abbrev main_v248 : Ref sig .tc := ⟨.hbm, 268, rfl⟩

abbrev nD : Nat := 1
abbrev τ : Topo := Topo.v7x

variable {F : FTy → Type} [FloatOps F]
-- ==== Proof.Slots.lean ====
module

public import proofs.«01_k».proof.Proof.Gen.KernelIdeal.Frame
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe

/-! ## Reading back one store -/

section Reads

variable {sig : RefSig} {κ : Kind} {sp : Space} {s : Shape} {e : EltTy} {Val : EltTy → Type} [∀ e, Nonempty (Val e)]

/-- A load of the box the last store wrote reads what it stored. -/
theorem rd_same (v : View sig κ sp s e) (f : v.ty.Contents Val) (r : Rect s) (w : r.shape.Idx → Val e)
    (L : List (View.Piece Val s e)) : v.readAt Val r.toLoadRect (v.writes Val f (⟨r, w⟩ :: L)) = w := by
  have h : ∀ j : r.toLoadRect.shape.Idx, ∃ p ∈ ([⟨r, w⟩] : List (View.Piece Val s e)), r.toLoadRect.idx j ∈ p.1.set := fun j =>
    ⟨_, List.mem_singleton.mpr rfl, LoadRect.idx_mem r.toLoadRect j⟩
  have := View.readAt_writes_of_cover v (v.writes Val f L) [⟨r, w⟩] r.toLoadRect h
  rw [View.readCov_cons_toLoadRect] at this
  exact this

/-- A load of a box apart from the last store reads what was there before. -/
theorem rd_skip (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  refine View.readAt_writes_of_forall_not_mem v (v.writes Val f L) [⟨r, w⟩] B fun j p hp => ?_
  rw [List.mem_singleton.mp hp]
  exact LoadRect.idx_not_mem_of_disj h j

end Reads

/-! ## The fourteen slots of the running maxima, sums and accumulators -/

variable {F : FTy → Type} [FloatOps F] [Named F]

/-- Slot `mi` of the running maxima (and of the running sums). -/
abbrev rowR (mi : Fin 14) : Rect S14x1x512 := Rect.unit ![mi.val, 0, 0] S1x1x512.size
  ((by decide +kernel : ∀ mi : Fin 14, ∀ a, (![mi.val, 0, 0] : Fin 3 → ℕ) a + S1x1x512.size a ≤ S14x1x512.size a) mi)

/-- Slot `mi` of the accumulators (and of the masked queries). -/
abbrev matR (mi : Fin 14) : Rect S14x128x512 := Rect.unit ![mi.val, 0, 0] S1x128x512.size
  ((by decide +kernel : ∀ mi : Fin 14, ∀ a, (![mi.val, 0, 0] : Fin 3 → ℕ) a + S1x128x512.size a ≤ S14x128x512.size a) mi)

theorem rowR_disj : ∀ a b : Fin 14, a ≠ b → LoadRect.disj (rowR a) (rowR b).toLoadRect = true := by decide +kernel
theorem matR_disj : ∀ a b : Fin 14, a ≠ b → LoadRect.disj (matR a) (matR b).toLoadRect = true := by decide +kernel

/-- Fourteen stores, one per slot, slot 13 the last. -/
def rows (g : Fin 14 → Vec F S1x1x512 .f32) : List (View.Piece (Elt F) S14x1x512 .f32) :=
  [⟨rowR 13, g 13⟩, ⟨rowR 12, g 12⟩, ⟨rowR 11, g 11⟩, ⟨rowR 10, g 10⟩, ⟨rowR 9, g 9⟩, ⟨rowR 8, g 8⟩, ⟨rowR 7, g 7⟩,
   ⟨rowR 6, g 6⟩, ⟨rowR 5, g 5⟩, ⟨rowR 4, g 4⟩, ⟨rowR 3, g 3⟩, ⟨rowR 2, g 2⟩, ⟨rowR 1, g 1⟩, ⟨rowR 0, g 0⟩]
def mats (g : Fin 14 → Vec F S1x128x512 .f32) : List (View.Piece (Elt F) S14x128x512 .f32) :=
  [⟨matR 13, g 13⟩, ⟨matR 12, g 12⟩, ⟨matR 11, g 11⟩, ⟨matR 10, g 10⟩, ⟨matR 9, g 9⟩, ⟨matR 8, g 8⟩, ⟨matR 7, g 7⟩,
   ⟨matR 6, g 6⟩, ⟨matR 5, g 5⟩, ⟨matR 4, g 4⟩, ⟨matR 3, g 3⟩, ⟨matR 2, g 2⟩, ⟨matR 1, g 1⟩, ⟨matR 0, g 0⟩]

/-! ## One update of a slot -/

/-- What a slot holds: the running maximum and sum of each query, and its accumulator. -/
structure St (F : FTy → Type) [FloatOps F] where
  m : Vec F S1x1x512 .f32
  l : Vec F S1x1x512 .f32
  acc : Vec F S1x128x512 .f32

/-- The factor of the exponents of map `mi`. -/
def cexp : Fin 14 → F .f32 :=
  ![Named.named κ "log2e" 0x3FB8AA3B#32, Named.named κ "log2e" 0x3FB8AA3B#32, Named.named κ "log2e" 0x3FB8AA3B#32,
    Named.named κ "log2e" 0x3FB8AA3B#32, Named.named κ "log2e" 0x3FB8AA3B#32, Named.named κ "log2e" 0x3FB8AA3B#32,
    Named.named κ "log2e_scale" 0x3E8293EE#32, Named.named κ "log2e_scale" 0x3E8293EE#32,
    Named.named κ "log2e_scale" 0x3E8293EE#32, Named.named κ "log2e_scale" 0x3E8293EE#32,
    Named.named κ "log2e_scale" 0x3E8293EE#32, Named.named κ "log2e_scale" 0x3E8293EE#32,
    Named.named κ "log2e_scale" 0x3E8293EE#32, Named.named κ "log2e_scale" 0x3E8293EE#32]

/-- The group of 128 key columns map `mi` reads, and the group of 128 value rows. -/
def kgr : Fin 14 → Fin 8 := ![0, 1, 2, 3, 4, 5, 6, 6, 6, 6, 7, 7, 7, 7]
def vgr : Fin 14 → Fin 5 := ![0, 0, 1, 1, 2, 2, 3, 3, 3, 3, 4, 4, 4, 4]

/-- Scores of 1024 keys, and of 512. -/
def score2 (kt : Vec F S1x1024x128 .bf16) (q : Vec F S1x128x512 .bf16) : FVec F S1024x512 .f32 :=
  matmul dot_S1024x128_S128x512_S1024x512_1_0_0_1_n_n none (shapeCast S1024x128 kt shapeCasts_S1x1024x128_S1024x128)
    (shapeCast S128x512 q shapeCasts_S1x128x512_S128x512) (constant S1024x512 .f32 0x00000000#32)
def score1 (kt : Vec F S1x512x128 .bf16) (q : Vec F S1x128x512 .bf16) : FVec F S512x512 .f32 :=
  matmul dot_S512x128_S128x512_S512x512_1_0_0_1_n_n none (shapeCast S512x128 kt shapeCasts_S1x512x128_S512x128)
    (shapeCast S128x512 q shapeCasts_S1x128x512_S128x512) (constant S512x512 .f32 0x00000000#32)

/-- Scores with the keys after each query left out. -/
def masked (s : FVec F S512x512 .f32) : FVec F S512x512 .f32 :=
  select (cmpi .sle (iota .tc S512x512 32 [0] iota_S512x512_d0_w32) (iota .tc S512x512 32 [1] iota_S512x512_d1_w32)) s
    (broadcast S512x512 (Named.named κ "mask" 0xF149F2CA#32))

def newM2 (s : FVec F S1024x512 .f32) (m : Vec F S1x1x512 .f32) : FVec F S1x512 .f32 :=
  maximumf (shapeCast S1x512 m shapeCasts_S1x1x512_S1x512)
    (shapeCast S1x512 (multiReduction .maximumf [0] S512 s 0xFF800000#32 reduces_S1024x512_S512 (.inl rfl) rfl) shapeCasts_S512_S1x512)
def newM1 (s : FVec F S512x512 .f32) (m : Vec F S1x1x512 .f32) : FVec F S1x512 .f32 :=
  maximumf (shapeCast S1x512 m shapeCasts_S1x1x512_S1x512)
    (shapeCast S1x512 (multiReduction .maximumf [0] S512 s 0xFF800000#32 reduces_S512x512_S512 (.inl rfl) rfl) shapeCasts_S512_S1x512)

/-- The factor of what was summed before, given the new maximum. -/
def decay (c : F .f32) (m : Vec F S1x1x512 .f32) (m' : FVec F S1x512 .f32) : FVec F S1x512 .f32 :=
  exp2 (mulf (subf (shapeCast S1x512 m shapeCasts_S1x1x512_S1x512) m') (broadcast S1x512 c))

/-- The weights of a block's keys, given the new maximum. -/
def weight2 (c : F .f32) (s : FVec F S1024x512 .f32) (m' : FVec F S1x512 .f32) : FVec F S1024x512 .f32 :=
  exp2 (mulf (subf s (broadcastTo S1024x512 m' broadcasts_S1x512_S1024x512)) (broadcast S1024x512 c))
def weight1 (c : F .f32) (s : FVec F S512x512 .f32) (m' : FVec F S1x512 .f32) : FVec F S512x512 .f32 :=
  exp2 (mulf (subf s (broadcastTo S512x512 m' broadcasts_S1x512_S512x512)) (broadcast S512x512 c))

/-- The values of two blocks side by side. -/
def vals2 (v w : Vec F S1x1x128x512 .bf16) : FVec F S128x1024 .bf16 :=
  concatenate S128x1024 1 [⟨S128x512, shapeCast S128x512 v shapeCasts_S1x1x128x512_S128x512⟩,
    ⟨S128x512, shapeCast S128x512 w shapeCasts_S1x1x128x512_S128x512⟩] concatenates_S128x512_S128x512_S128x1024_d1

/-- One update of a slot by 1024 keys. -/
def upd2 (c : F .f32) (s : FVec F S1024x512 .f32) (v : FVec F S128x1024 .bf16) (x : St F) : St F where
  m := shapeCast S1x1x512 (newM2 s x.m) shapeCasts_S1x512_S1x1x512
  l := shapeCast S1x1x512 (addf (mulf (decay c x.m (newM2 s x.m)) (shapeCast S1x512 x.l shapeCasts_S1x1x512_S1x512))
    (shapeCast S1x512 (multiReduction .add [0] S512 (weight2 c s (newM2 s x.m)) 0x00000000#32 reduces_S1024x512_S512 (.inl rfl) rfl)
      shapeCasts_S512_S1x512)) shapeCasts_S1x512_S1x1x512
  acc := shapeCast S1x128x512 (addf (mulf (broadcastTo S128x512 (decay c x.m (newM2 s x.m)) broadcasts_S1x512_S128x512)
      (shapeCast S128x512 x.acc shapeCasts_S1x128x512_S128x512))
    (matmul dot_S128x1024_S1024x512_S128x512_1_0_0_1_n_n none v (truncf .bf16 (weight2 c s (newM2 s x.m)) bitsLt_bf16_f32)
      (constant S128x512 .f32 0x00000000#32))) shapeCasts_S128x512_S1x128x512

/-- One update of a slot by 512 keys. -/
def upd1 (c : F .f32) (s : FVec F S512x512 .f32) (v : Vec F S1x1x128x512 .bf16) (x : St F) : St F where
  m := shapeCast S1x1x512 (newM1 s x.m) shapeCasts_S1x512_S1x1x512
  l := shapeCast S1x1x512 (addf (mulf (decay c x.m (newM1 s x.m)) (shapeCast S1x512 x.l shapeCasts_S1x1x512_S1x512))
    (shapeCast S1x512 (multiReduction .add [0] S512 (weight1 c s (newM1 s x.m)) 0x00000000#32 reduces_S512x512_S512 (.inl rfl) rfl)
      shapeCasts_S512_S1x512)) shapeCasts_S1x512_S1x1x512
  acc := shapeCast S1x128x512 (addf (mulf (broadcastTo S128x512 (decay c x.m (newM1 s x.m)) broadcasts_S1x512_S128x512)
      (shapeCast S128x512 x.acc shapeCasts_S1x128x512_S128x512))
    (matmul dot_S128x512_S512x512_S128x512_1_0_0_1_n_n none (shapeCast S128x512 v shapeCasts_S1x1x128x512_S128x512)
      (truncf .bf16 (weight1 c s (newM1 s x.m)) bitsLt_bf16_f32)
      (constant S128x512 .f32 0x00000000#32))) shapeCasts_S128x512_S1x128x512

/-! ## The tiles a step reads -/

section Tiles

variable (i : grid0.Coords)
variable (arg3 : Memref sig .tc .vmem S1x2048x1024 .bf16) (arg4 : Memref sig .tc .vmem S1x4x640x512 .bf16)
variable (arg9 : Memref sig .tc .vmem S14x128x512 .bf16)
variable (X3 : BufTy.Contents (Elt F) arg3.view.ty) (X4 : BufTy.Contents (Elt F) arg4.view.ty) (X9 : BufTy.Contents (Elt F) arg9.view.ty)

def kOff2 (k : Fin (k0_t1_loop i).trips) : Fin 8 → Fin 3 → ℕ :=
  ![k0_off1 i k, k0_off2 i k, k0_off3 i k, k0_off4 i k, k0_off5 i k, k0_off7 i k, k0_off8 i k, k0_off11 i k]
def kOff1 : Fin 8 → Fin 3 → ℕ :=
  ![k0_off27 i, k0_off28 i, k0_off29 i, k0_off30 i, k0_off31 i, k0_off33 i, k0_off34 i, k0_off37 i]
def kOff0 : Fin 8 → Fin 3 → ℕ :=
  ![k0_off40 i, k0_off41 i, k0_off42 i, k0_off43 i, k0_off44 i, k0_off46 i, k0_off47 i, k0_off50 i]
def vOff2 (k : Fin (k0_t1_loop i).trips) (h : BitVec 32) : Fin 5 → Fin 4 → ℕ :=
  ![k0_off6 i k h, k0_off9 i k h, k0_off10 i k h, k0_off12 i k h, k0_off13 i k h]
def vOff1 : Fin 5 → Fin 4 → ℕ := ![k0_off32 i, k0_off35 i, k0_off36 i, k0_off38 i, k0_off39 i]
def vOff0 : Fin 5 → Fin 4 → ℕ := ![k0_off45 i, k0_off48 i, k0_off49 i, k0_off51 i, k0_off52 i]

theorem kOff2_inb : ∀ (i : grid0.Coords) (k : Fin (k0_t1_loop i).trips) (g : Fin 8) (a), kOff2 i k g a + S1x1024x128.size a ≤ S1x2048x1024.size a := by
  decide +kernel
theorem kOff1_inb : ∀ (i : grid0.Coords) (_ : k0_cond1 i = 1#1) (g : Fin 8) (a), kOff1 i g a + S1x512x128.size a ≤ S1x2048x1024.size a := by
  decide +kernel
theorem kOff0_inb : ∀ (i : grid0.Coords) (g : Fin 8) (a), kOff0 i g a + S1x512x128.size a ≤ S1x2048x1024.size a := by
  decide +kernel
theorem vOff2_inb : ∀ (i : grid0.Coords) (k : Fin (k0_t1_loop i).trips) (h : Fin 2) (g : Fin 5) (a),
    vOff2 i k (BitVec.ofNat 32 h.val) g a + S1x1x128x512.size a ≤ S1x4x640x512.size a := by
  decide +kernel
theorem vOff1_inb : ∀ (i : grid0.Coords) (_ : k0_cond1 i = 1#1) (g : Fin 5) (a), vOff1 i g a + S1x1x128x512.size a ≤ S1x4x640x512.size a := by
  decide +kernel
theorem vOff0_inb : ∀ (i : grid0.Coords) (g : Fin 5) (a), vOff0 i g a + S1x1x128x512.size a ≤ S1x4x640x512.size a := by
  decide +kernel

def kT2 (k : Fin (k0_t1_loop i).trips) (g : Fin 8) : Vec F S1x1024x128 .bf16 :=
  View.readAt (Elt F) arg3.view (Rect.unit (s := S1x2048x1024) (kOff2 i k g) S1x1024x128.size (kOff2_inb i k g)).toLoadRect X3
def kT1 (hc : k0_cond1 i = 1#1) (g : Fin 8) : Vec F S1x512x128 .bf16 :=
  View.readAt (Elt F) arg3.view (Rect.unit (s := S1x2048x1024) (kOff1 i g) S1x512x128.size (kOff1_inb i hc g)).toLoadRect X3
def kT0 (g : Fin 8) : Vec F S1x512x128 .bf16 :=
  View.readAt (Elt F) arg3.view (Rect.unit (s := S1x2048x1024) (kOff0 i g) S1x512x128.size (kOff0_inb i g)).toLoadRect X3
def vT2 (k : Fin (k0_t1_loop i).trips) (h : Fin 2) (g : Fin 5) : Vec F S1x1x128x512 .bf16 :=
  View.readAt (Elt F) arg4.view (Rect.unit (s := S1x4x640x512) (vOff2 i k (BitVec.ofNat 32 h.val) g) S1x1x128x512.size (vOff2_inb i k h g)).toLoadRect X4
def vT1 (hc : k0_cond1 i = 1#1) (g : Fin 5) : Vec F S1x1x128x512 .bf16 :=
  View.readAt (Elt F) arg4.view (Rect.unit (s := S1x4x640x512) (vOff1 i g) S1x1x128x512.size (vOff1_inb i hc g)).toLoadRect X4
def vT0 (g : Fin 5) : Vec F S1x1x128x512 .bf16 :=
  View.readAt (Elt F) arg4.view (Rect.unit (s := S1x4x640x512) (vOff0 i g) S1x1x128x512.size (vOff0_inb i g)).toLoadRect X4

/-- The masked queries of map `mi`. -/
def qT (mi : Fin 14) : Vec F S1x128x512 .bf16 := View.readAt (Elt F) arg9.view (matR mi).toLoadRect X9

/-- One step of map `mi` by the two blocks of a trip, by the odd block, by the diagonal block. -/
def step2 (k : Fin (k0_t1_loop i).trips) (mi : Fin 14) : St F → St F :=
  upd2 (cexp mi) (score2 (kT2 i arg3 X3 k (kgr mi)) (qT arg9 X9 mi)) (vals2 (vT2 i arg4 X4 k 0 (vgr mi)) (vT2 i arg4 X4 k 1 (vgr mi)))
def step1 (hc : k0_cond1 i = 1#1) (mi : Fin 14) : St F → St F :=
  upd1 (cexp mi) (score1 (kT1 i arg3 X3 hc (kgr mi)) (qT arg9 X9 mi)) (vT1 i arg4 X4 hc (vgr mi))
def step0 (mi : Fin 14) : St F → St F :=
  upd1 (cexp mi) (masked (score1 (kT0 i arg3 X3 (kgr mi)) (qT arg9 X9 mi))) (vT0 i arg4 X4 (vgr mi))

end Tiles

/-- What the three buffers hold in slot `mi`. -/
def rdSt (arg10 arg11 : Memref sig .tc .vmem S14x1x512 .f32) (arg12 : Memref sig .tc .vmem S14x128x512 .f32)
    (f10 : BufTy.Contents (Elt F) arg10.view.ty) (f11 : BufTy.Contents (Elt F) arg11.view.ty) (f12 : BufTy.Contents (Elt F) arg12.view.ty)
    (mi : Fin 14) : St F where
  m := View.readAt (Elt F) arg10.view (rowR mi).toLoadRect f10
  l := View.readAt (Elt F) arg11.view (rowR mi).toLoadRect f11
  acc := View.readAt (Elt F) arg12.view (matR mi).toLoadRect f12

end Cert.KernelIdeal.Attn

end
-- ==== Proof.Trip.lean ====
module

public import proofs.«01_k».proof.Proof.Slots

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F] [Named F]
variable (c : Dev nD) (i : grid0.Coords)
variable (arg2 : Memref sig .tc .vmem S1x640x512 .bf16) (harg2 : arg2.IsWhole) (arg3 : Memref sig .tc .vmem S1x2048x1024 .bf16) (harg3 : arg3.IsWhole)
variable (arg4 : Memref sig .tc .vmem S1x4x640x512 .bf16) (harg4 : arg4.IsWhole) (arg5 : Memref sig .tc .vmem S1x8x512 .f32) (harg5 : arg5.IsWhole)
variable (arg6 : Memref sig .tc .vmem S4x32 .f32) (harg6 : arg6.IsWhole) (arg7 : Memref sig .tc .vmem S1x128 .f32) (harg7 : arg7.IsWhole)
variable (arg8 : Memref sig .tc .vmem S1x512x640 .bf16) (harg8 : arg8.IsWhole) (arg9 : Memref sig .tc .vmem S14x128x512 .bf16) (harg9 : arg9.IsWhole)
variable (arg10 : Memref sig .tc .vmem S14x1x512 .f32) (harg10 : arg10.IsWhole) (arg11 : Memref sig .tc .vmem S14x1x512 .f32) (harg11 : arg11.IsWhole)
variable (arg12 : Memref sig .tc .vmem S14x128x512 .f32) (harg12 : arg12.IsWhole)
variable (arg1 v510 : BitVec 32) (v524 : BitVec 1) (v525 : BitVec 32)
variable (X3 : BufTy.Contents (Elt F) arg3.view.ty) (X4 : BufTy.Contents (Elt F) arg4.view.ty) (X9 : BufTy.Contents (Elt F) arg9.view.ty)
variable (f10 : BufTy.Contents (Elt F) arg10.view.ty) (f11 : BufTy.Contents (Elt F) arg11.view.ty) (f12 : BufTy.Contents (Elt F) arg12.view.ty)

set_option maxHeartbeats 2000000 in
/-- One trip stores, slot by slot, the slot's update. -/
theorem trip_pieces (k : Fin (k0_t1_loop i).trips) :
    tripL_k0_t1 (F := F) Variants.none c none i arg2 harg2 arg3 harg3 arg4 harg4 arg5 harg5 arg6 harg6 arg7 harg7 arg8 harg8 arg9 harg9 arg10 harg10 arg11 harg11 arg12 harg12 arg1 v510 v524 v525 X3 X4 X9 k f10 f11 f12
      = (rows fun mi => (step2 i arg3 arg4 arg9 X3 X4 X9 k mi (rdSt arg10 arg11 arg12 f10 f11 f12 mi)).m,
         rows fun mi => (step2 i arg3 arg4 arg9 X3 X4 X9 k mi (rdSt arg10 arg11 arg12 f10 f11 f12 mi)).l,
         mats fun mi => (step2 i arg3 arg4 arg9 X3 X4 X9 k mi (rdSt arg10 arg11 arg12 f10 f11 f12 mi)).acc) := by
  delta tripL_k0_t1 trip_k0_t1
  rfl

end Cert.KernelIdeal.Attn

end
-- ==== Proof.Run.lean ====
module

public import proofs.«01_k».proof.Proof.Trip

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F] [Named F]
variable (c : Dev nD) (i : grid0.Coords)
variable (arg2 : Memref sig .tc .vmem S1x640x512 .bf16) (harg2 : arg2.IsWhole) (arg3 : Memref sig .tc .vmem S1x2048x1024 .bf16) (harg3 : arg3.IsWhole)
variable (arg4 : Memref sig .tc .vmem S1x4x640x512 .bf16) (harg4 : arg4.IsWhole) (arg5 : Memref sig .tc .vmem S1x8x512 .f32) (harg5 : arg5.IsWhole)
variable (arg6 : Memref sig .tc .vmem S4x32 .f32) (harg6 : arg6.IsWhole) (arg7 : Memref sig .tc .vmem S1x128 .f32) (harg7 : arg7.IsWhole)
variable (arg8 : Memref sig .tc .vmem S1x512x640 .bf16) (harg8 : arg8.IsWhole) (arg9 : Memref sig .tc .vmem S14x128x512 .bf16) (harg9 : arg9.IsWhole)
variable (arg10 : Memref sig .tc .vmem S14x1x512 .f32) (harg10 : arg10.IsWhole) (arg11 : Memref sig .tc .vmem S14x1x512 .f32) (harg11 : arg11.IsWhole)
variable (arg12 : Memref sig .tc .vmem S14x128x512 .f32) (harg12 : arg12.IsWhole)
variable (x0 : Vec F S1x640x512 .bf16) (x1 : Vec F S1x2048x1024 .bf16) (x2 : Vec F S1x4x640x512 .bf16) (x3 : Vec F S1x8x512 .f32)
variable (x4 : Vec F S4x32 .f32) (x5 : Vec F S1x128 .f32)

/-- The pieces of the three buffers. -/
abbrev Pcs (F : FTy → Type) : Type :=
  List (View.Piece (Elt F) S14x1x512 .f32) × List (View.Piece (Elt F) S14x1x512 .f32) × List (View.Piece (Elt F) S14x128x512 .f32)

/-- What slot `mi` of the three buffers reads after the stores of `L`. -/
abbrev rdL (L : Pcs F) (mi : Fin 14) : St F :=
  rdSt arg10 arg11 arg12 (arg10.view.writes (Elt F) arg10.view.junk L.1) (arg11.view.writes (Elt F) arg11.view.junk L.2.1)
    (arg12.view.writes (Elt F) arg12.view.junk L.2.2) mi

/-- The stores of one slot's update, put in front of `L`. -/
abbrev putSt (mi : Fin 14) (x : St F) (L : Pcs F) : Pcs F :=
  (⟨rowR mi, x.m⟩ :: L.1, ⟨rowR mi, x.l⟩ :: L.2.1, ⟨matR mi, x.acc⟩ :: L.2.2)

/-- The fourteen slots updated one after another. -/
def seqL (stp : Fin 14 → St F → St F) (L : Pcs F) : Pcs F :=
  [(0 : Fin 14), 1, 2, 3, 4, 5, 6, 7, 8, 9, 10, 11, 12, 13].foldl (fun L mi => putSt mi (stp mi (rdL arg10 arg11 arg12 L mi)) L) L

/-- The stores of the masked queries. -/
abbrev qList : List (View.Piece (Elt F) S14x128x512 .bf16) := kernelRun0_A.sl.HS0_20 c arg2 harg2 arg5 harg5 x0 x3
abbrev X9 : BufTy.Contents (Elt F) arg9.view.ty := arg9.view.writes (Elt F) arg9.view.junk (qList c arg2 harg2 arg5 harg5 x0 x3)

/-- The stores that reset the three buffers. -/
def init : Pcs F := (kernelRun0_A.sl.HS1_1, kernelRun0_A.sl.HS2_1, kernelRun0_A.sl.HS3_1)

/-- The stores of the trips, before those that reset. -/
def trips : Pcs F :=
  pb_k0_t1 Variants.none c none i arg2 harg2 arg3 harg3 arg4 harg4 arg5 harg5 arg6 harg6 arg7 harg7 arg8 harg8 arg9 harg9 arg10 harg10 arg11 harg11 arg12 harg12 (BitVec.ofNat 32 (i 1).val) (kernelRun0_A.sl.v510 i) (kernelRun0_A.sl.v524 i) (kernelRun0_A.sl.v525 i)
    (harg3.unread x1) (harg4.unread x2) (X9 c arg2 harg2 arg5 harg5 arg9 x0 x3)
    (arg10.view.writes (Elt F) arg10.view.junk init.1) (arg11.view.writes (Elt F) arg11.view.junk init.2.1)
    (arg12.view.writes (Elt F) arg12.view.junk init.2.2)
    (Scf.trips (k0_t1_loop i).lb (k0_t1_loop i).ub (k0_t1_loop i).st)

abbrev appL (L L' : Pcs F) : Pcs F := (L.1 ++ L'.1, L.2.1 ++ L'.2.1, L.2.2 ++ L'.2.2)

def base0 : Pcs F := appL (trips c i arg2 harg2 arg3 harg3 arg4 harg4 arg5 harg5 arg6 harg6 arg7 harg7 arg8 harg8 arg9 harg9 arg10 harg10 arg11 harg11 arg12 harg12 x0 x1 x2 x3) init

/-- The remainder loop's stores (it has no trip). -/
def rest : Pcs F :=
  pb_k0_t2 Variants.none c none i arg2 harg2 arg3 harg3 arg4 harg4 arg5 harg5 arg6 harg6 arg7 harg7 arg8 harg8 arg9 harg9 arg10 harg10 arg11 harg11 arg12 harg12 (BitVec.ofNat 32 (i 1).val) (kernelRun0_A.sl.v510 i) (kernelRun0_A.sl.v524 i) (kernelRun0_A.sl.v525 i)
    (kernelRun0_A.sl.v531 i) (harg3.unread x1) (harg4.unread x2) (X9 c arg2 harg2 arg5 harg5 arg9 x0 x3)
    (arg10.view.writes (Elt F) arg10.view.junk (base0 c i arg2 harg2 arg3 harg3 arg4 harg4 arg5 harg5 arg6 harg6 arg7 harg7 arg8 harg8 arg9 harg9 arg10 harg10 arg11 harg11 arg12 harg12 x0 x1 x2 x3).1)
    (arg11.view.writes (Elt F) arg11.view.junk (base0 c i arg2 harg2 arg3 harg3 arg4 harg4 arg5 harg5 arg6 harg6 arg7 harg7 arg8 harg8 arg9 harg9 arg10 harg10 arg11 harg11 arg12 harg12 x0 x1 x2 x3).2.1)
    (arg12.view.writes (Elt F) arg12.view.junk (base0 c i arg2 harg2 arg3 harg3 arg4 harg4 arg5 harg5 arg6 harg6 arg7 harg7 arg8 harg8 arg9 harg9 arg10 harg10 arg11 harg11 arg12 harg12 x0 x1 x2 x3).2.2)
    (Scf.trips (k0_t2_loop i).lb (k0_t2_loop i).ub (k0_t2_loop i).st)

def base : Pcs F := appL (rest c i arg2 harg2 arg3 harg3 arg4 harg4 arg5 harg5 arg6 harg6 arg7 harg7 arg8 harg8 arg9 harg9 arg10 harg10 arg11 harg11 arg12 harg12 x0 x1 x2 x3) (base0 c i arg2 harg2 arg3 harg3 arg4 harg4 arg5 harg5 arg6 harg6 arg7 harg7 arg8 harg8 arg9 harg9 arg10 harg10 arg11 harg11 arg12 harg12 x0 x1 x2 x3)

/-! ## What the kernel stores -/

def lamV (x : Vec F S4x32 .f32) : FVec F S1x1 .f32 := k0_pay597 (k0_pay594 x) (k0_pay595 x) (k0_pay596 x)

def rowI : IVec S128x512 32 := iota .tc S128x512 32 [0] iota_S128x512_d0_w32

def outFox (a b : St F) : Vec F S1x512x128 .bf16 := k0_pay599 rowI a.acc a.l b.acc b.l

def outDiff (lam : FVec F S1x1 .f32) (g : Vec F S1x128 .f32) (a b p q : St F) : Vec F S1x512x128 .bf16 :=
  k0_pay607 (k0_pay598 rowI) (k0_pay603 lam (k0_pay598 rowI) a.acc a.l b.acc b.l p.acc p.l q.acc q.l)
    (k0_pay605 lam (k0_pay598 rowI) a.acc a.l b.acc b.l p.acc p.l q.acc q.l)
    (k0_pay606 lam (k0_pay598 rowI) a.acc a.l b.acc b.l p.acc p.l q.acc q.l) g

def outs (lam : FVec F S1x1 .f32) (g : Vec F S1x128 .f32) (st : Fin 14 → St F) : List (View.Piece (Elt F) S1x512x640 .bf16) :=
  [⟨Rect.unit (s := S1x512x640) ![0, 0, 512] S1x512x128.size inb_S1x512x640_S1x512x128_0_0_512, outDiff lam g (st 10) (st 11) (st 12) (st 13)⟩,
   ⟨Rect.unit (s := S1x512x640) ![0, 0, 384] S1x512x128.size inb_S1x512x640_S1x512x128_0_0_384, outDiff lam g (st 6) (st 7) (st 8) (st 9)⟩,
   ⟨Rect.unit (s := S1x512x640) ![0, 0, 256] S1x512x128.size inb_S1x512x640_S1x512x128_0_0_256, outFox (st 4) (st 5)⟩,
   ⟨Rect.unit (s := S1x512x640) ![0, 0, 128] S1x512x128.size inb_S1x512x640_S1x512x128_0_0_128, outFox (st 2) (st 3)⟩,
   ⟨Rect.unit (s := S1x512x640) ![0, 0, 0] S1x512x128.size inb_S1x512x640_S1x512x128_0_0_0, outFox (st 0) (st 1)⟩]

abbrev rd6 : Vec F S4x32 .f32 :=
  View.readAt (Elt F) arg6.view (Rect.unit (s := S4x32) ![0, 0] S4x32.size inb_S4x32_S4x32_0_0).toLoadRect (harg6.unread x4)
abbrev rd7 : Vec F S1x128 .f32 :=
  View.readAt (Elt F) arg7.view (Rect.unit (s := S1x128) ![0, 0] S1x128.size inb_S1x128_S1x128_0_0).toLoadRect (harg7.unread x5)

abbrev stp0 : Fin 14 → St F → St F :=
  step0 i arg3 arg4 arg9 (harg3.unread x1) (harg4.unread x2) (X9 c arg2 harg2 arg5 harg5 arg9 x0 x3)
abbrev stp1 (hc : k0_cond1 i = 1#1) : Fin 14 → St F → St F :=
  step1 i arg3 arg4 arg9 (harg3.unread x1) (harg4.unread x2) (X9 c arg2 harg2 arg5 harg5 arg9 x0 x3) hc

omit [FloatOps F] [Named F] in
theorem cons_of {α : Type _} {A p : α} {a : List α} (h : A = p) : A :: a = p :: a := by rw [h]

/-- One update of the sequence, when the stores before it and after it are known. -/
theorem put_of (mi : Fin 14) (stp : Fin 14 → St F → St F) {L : Pcs F} {p a q b r d} {A B D}
    (h : L = (a, b, d)) (hA : A = p :: a) (hB : B = q :: b) (hD : D = r :: d)
    (hp : ⟨rowR mi, (stp mi (rdL arg10 arg11 arg12 (a, b, d) mi)).m⟩ = p)
    (hq : ⟨rowR mi, (stp mi (rdL arg10 arg11 arg12 (a, b, d) mi)).l⟩ = q)
    (hr : ⟨matR mi, (stp mi (rdL arg10 arg11 arg12 (a, b, d) mi)).acc⟩ = r) :
    putSt mi (stp mi (rdL arg10 arg11 arg12 L mi)) L = (A, B, D) := by
  subst h hA hB hD hp hq hr; rfl

set_option maxHeartbeats 2000000 in
theorem seq_A (hc0 : ¬cond0_0 i) : ∃ X, seqL arg10 arg11 arg12 (stp0 c i arg2 harg2 arg3 harg3 arg4 harg4 arg5 harg5 arg9 x0 x1 x2 x3) (base c i arg2 harg2 arg3 harg3 arg4 harg4 arg5 harg5 arg6 harg6 arg7 harg7 arg8 harg8 arg9 harg9 arg10 harg10 arg11 harg11 arg12 harg12 x0 x1 x2 x3)
      = (X, kernelRun0_A.sl.HS2_14 c i arg2 harg2 arg3 harg3 arg4 harg4 arg5 harg5 arg6 harg6 arg7 harg7 arg8 harg8 arg9 harg9 arg10 harg10 arg11 harg11 arg12 harg12 x0 x1 x2 x3, kernelRun0_A.sl.HS3_14 c i arg2 harg2 arg3 harg3 arg4 harg4 arg5 harg5 arg6 harg6 arg7 harg7 arg8 harg8 arg9 harg9 arg10 harg10 arg11 harg11 arg12 harg12 x0 x1 x2 x3) := by
  refine ⟨_ :: _, put_of _ _ _ _ _ ?_ rfl rfl rfl rfl rfl rfl⟩
  iterate 12 refine put_of _ _ _ _ _ ?_ rfl rfl rfl rfl rfl rfl
  refine put_of _ _ _ _ _ ?_ rfl rfl rfl ?_ ?_ ?_
  · rfl
  · rfl
  · rfl
  · rfl

set_option maxHeartbeats 4000000 in
theorem seq_B (hc0 : cond0_0 i) : ∃ X, seqL arg10 arg11 arg12 (stp0 c i arg2 harg2 arg3 harg3 arg4 harg4 arg5 harg5 arg9 x0 x1 x2 x3) (seqL arg10 arg11 arg12 (stp1 c i arg2 harg2 arg3 harg3 arg4 harg4 arg5 harg5 arg9 x0 x1 x2 x3 hc0) (base c i arg2 harg2 arg3 harg3 arg4 harg4 arg5 harg5 arg6 harg6 arg7 harg7 arg8 harg8 arg9 harg9 arg10 harg10 arg11 harg11 arg12 harg12 x0 x1 x2 x3))
      = (X, kernelRun0_B.sl.HS2_28 c i arg2 harg2 arg3 harg3 arg4 harg4 arg5 harg5 arg6 harg6 arg7 harg7 arg8 harg8 arg9 harg9 arg10 harg10 arg11 harg11 arg12 harg12 hc0 x0 x1 x2 x3, kernelRun0_B.sl.HS3_28 c i arg2 harg2 arg3 harg3 arg4 harg4 arg5 harg5 arg6 harg6 arg7 harg7 arg8 harg8 arg9 harg9 arg10 harg10 arg11 harg11 arg12 harg12 hc0 x0 x1 x2 x3) := by
  refine ⟨_ :: _, put_of _ _ _ _ _ ?_ rfl rfl rfl rfl rfl rfl⟩
  iterate 26 refine put_of _ _ _ _ _ ?_ rfl rfl rfl rfl rfl rfl
  refine put_of _ _ _ _ _ ?_ rfl rfl rfl ?_ ?_ ?_
  · rfl
  · rfl
  · rfl
  · rfl

set_option maxHeartbeats 2000000 in
theorem run_A (hc0 : ¬cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4 x5).1
      = outs (lamV (rd6 arg6 harg6 x4)) (rd7 arg7 harg7 x5)
          (rdL arg10 arg11 arg12 (seqL arg10 arg11 arg12 (stp0 c i arg2 harg2 arg3 harg3 arg4 harg4 arg5 harg5 arg9 x0 x1 x2 x3)
            (base c i arg2 harg2 arg3 harg3 arg4 harg4 arg5 harg5 arg6 harg6 arg7 harg7 arg8 harg8 arg9 harg9 arg10 harg10 arg11 harg11 arg12 harg12 x0 x1 x2 x3))) := by
  obtain ⟨X, h⟩ := seq_A c i arg2 harg2 arg3 harg3 arg4 harg4 arg5 harg5 arg6 harg6 arg7 harg7 arg8 harg8 arg9 harg9 arg10 harg10 arg11 harg11 arg12 harg12 x0 x1 x2 x3 hc0
  rw [h]
  delta kernelRun0_A
  rfl

set_option maxHeartbeats 2000000 in
theorem run_B (hc0 : cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 x5).1
      = outs (lamV (rd6 arg6 harg6 x4)) (rd7 arg7 harg7 x5)
          (rdL arg10 arg11 arg12 (seqL arg10 arg11 arg12 (stp0 c i arg2 harg2 arg3 harg3 arg4 harg4 arg5 harg5 arg9 x0 x1 x2 x3)
            (seqL arg10 arg11 arg12 (stp1 c i arg2 harg2 arg3 harg3 arg4 harg4 arg5 harg5 arg9 x0 x1 x2 x3 hc0)
              (base c i arg2 harg2 arg3 harg3 arg4 harg4 arg5 harg5 arg6 harg6 arg7 harg7 arg8 harg8 arg9 harg9 arg10 harg10 arg11 harg11 arg12 harg12 x0 x1 x2 x3)))) := by
  obtain ⟨X, h⟩ := seq_B c i arg2 harg2 arg3 harg3 arg4 harg4 arg5 harg5 arg6 harg6 arg7 harg7 arg8 harg8 arg9 harg9 arg10 harg10 arg11 harg11 arg12 harg12 x0 x1 x2 x3 hc0
  rw [h]
  delta kernelRun0_B
  rfl

end Cert.KernelIdeal.Attn

end
-- ==== Proof.State.lean ====
module

public import proofs.«01_k».proof.Proof.Run

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F] [Named F]
variable (c : Dev nD) (i : grid0.Coords)
variable (arg2 : Memref sig .tc .vmem S1x640x512 .bf16) (harg2 : arg2.IsWhole) (arg3 : Memref sig .tc .vmem S1x2048x1024 .bf16) (harg3 : arg3.IsWhole)
variable (arg4 : Memref sig .tc .vmem S1x4x640x512 .bf16) (harg4 : arg4.IsWhole) (arg5 : Memref sig .tc .vmem S1x8x512 .f32) (harg5 : arg5.IsWhole)
variable (arg6 : Memref sig .tc .vmem S4x32 .f32) (harg6 : arg6.IsWhole) (arg7 : Memref sig .tc .vmem S1x128 .f32) (harg7 : arg7.IsWhole)
variable (arg8 : Memref sig .tc .vmem S1x512x640 .bf16) (harg8 : arg8.IsWhole) (arg9 : Memref sig .tc .vmem S14x128x512 .bf16) (harg9 : arg9.IsWhole)
variable (arg10 : Memref sig .tc .vmem S14x1x512 .f32) (harg10 : arg10.IsWhole) (arg11 : Memref sig .tc .vmem S14x1x512 .f32) (harg11 : arg11.IsWhole)
variable (arg12 : Memref sig .tc .vmem S14x128x512 .f32) (harg12 : arg12.IsWhole)
variable (x0 : Vec F S1x640x512 .bf16) (x1 : Vec F S1x2048x1024 .bf16) (x2 : Vec F S1x4x640x512 .bf16) (x3 : Vec F S1x8x512 .f32)
variable (x4 : Vec F S4x32 .f32) (x5 : Vec F S1x128 .f32)

/-! ## What a slot reads after a stage -/

/-- A stage's stores of one buffer, by slots: the slot read is the last one stored. -/
theorem rd_list {s s' : Shape} (v : View sig .tc .vmem s .f32) (f : v.ty.Contents (Elt F)) (r : Fin 14 → Rect s)
    (hd : ∀ a b, a ≠ b → LoadRect.disj (r a) (r b).toLoadRect = true) (g : ∀ k, (r k).shape.Idx → Elt F .f32)
    (L : List (Fin 14)) (mi : Fin 14) (h : mi ∈ L) :
    v.readAt (Elt F) (r mi).toLoadRect (v.writes (Elt F) f (L.map fun k => (⟨r k, g k⟩ : View.Piece (Elt F) s .f32))) = g mi := by
  induction L with
  | nil => cases h
  | cons k L ih =>
    by_cases e : k = mi
    · subst e; exact rd_same _ _ _ _ _
    · rw [List.map_cons, rd_skip _ _ _ _ _ _ (hd k mi e)]
      exact ih ((List.mem_cons.mp h).resolve_left fun e' => e e'.symm)

theorem rd_rows (v : View sig .tc .vmem S14x1x512 .f32) (f : v.ty.Contents (Elt F)) (g : Fin 14 → Vec F S1x1x512 .f32) (mi : Fin 14) :
    v.readAt (Elt F) (rowR mi).toLoadRect (v.writes (Elt F) f (rows g)) = g mi :=
  rd_list (s' := S14x1x512) v f rowR rowR_disj g [13, 12, 11, 10, 9, 8, 7, 6, 5, 4, 3, 2, 1, 0] mi (by revert mi; decide)

theorem rd_mats (v : View sig .tc .vmem S14x128x512 .f32) (f : v.ty.Contents (Elt F)) (g : Fin 14 → Vec F S1x128x512 .f32) (mi : Fin 14) :
    v.readAt (Elt F) (matR mi).toLoadRect (v.writes (Elt F) f (mats g)) = g mi :=
  rd_list (s' := S14x128x512) v f matR matR_disj g [13, 12, 11, 10, 9, 8, 7, 6, 5, 4, 3, 2, 1, 0] mi (by revert mi; decide)

theorem rdL_put_same (mi : Fin 14) (x : St F) (L : Pcs F) : rdL arg10 arg11 arg12 (putSt mi x L) mi = x := by
  cases x
  simp only [rdL, rdSt, putSt, rd_same]

theorem rdL_put_skip (k mi : Fin 14) (h : k ≠ mi) (x : St F) (L : Pcs F) :
    rdL arg10 arg11 arg12 (putSt k x L) mi = rdL arg10 arg11 arg12 L mi := by
  simp only [rdL, rdSt, putSt, rd_skip _ _ _ _ _ _ (rowR_disj k mi h), rd_skip _ _ _ _ _ _ (matR_disj k mi h)]

/-- Slots updated one after another: each slot is updated once, from what it held before. -/
theorem rd_fold (stp : Fin 14 → St F → St F) (mi : Fin 14) : ∀ (ms : List (Fin 14)) (L : Pcs F), ms.Nodup →
    rdL arg10 arg11 arg12 (ms.foldl (fun L k => putSt k (stp k (rdL arg10 arg11 arg12 L k)) L) L) mi
      = if mi ∈ ms then stp mi (rdL arg10 arg11 arg12 L mi) else rdL arg10 arg11 arg12 L mi := by
  intro ms
  induction ms with
  | nil => intro L _; simp
  | cons k ms ih =>
    intro L hn
    obtain ⟨hk, hn⟩ := List.nodup_cons.mp hn
    rw [List.foldl_cons, ih _ hn]
    by_cases e : k = mi
    · subst e
      rw [if_neg hk, if_pos (List.mem_cons_self), rdL_put_same]
    · have e' : (mi ∈ k :: ms) ↔ mi ∈ ms := by
        rw [List.mem_cons]; exact or_iff_right fun h => e h.symm
      rw [rdL_put_skip _ _ _ _ _ e]
      by_cases h : mi ∈ ms
      · rw [if_pos h, if_pos (e'.mpr h)]
      · rw [if_neg h, if_neg fun h' => h (e'.mp h')]

theorem rd_seq (stp : Fin 14 → St F → St F) (L : Pcs F) (mi : Fin 14) :
    rdL arg10 arg11 arg12 (seqL arg10 arg11 arg12 stp L) mi = stp mi (rdL arg10 arg11 arg12 L mi) := by
  unfold seqL
  rw [rd_fold _ _ _ _ _ _ _ (by decide), if_pos (by revert mi; decide)]

/-- What a slot holds at first. -/
def st0 : St F where
  m := fun _ => Named.named κ "mask" 0xF149F2CA#32
  l := fun _ => Scalar.ofBits .f32 0x00000000#32
  acc := fun _ => Scalar.ofBits .f32 0x00000000#32

theorem rd_init (mi : Fin 14) : rdL arg10 arg11 arg12 (init (F := F)) mi = st0 := by
  have h1 := View.readCov_fill (Val := Elt F) arg10.view inb_S14x1x512_S14x1x512_0_0_0 (k0_pay437 (F := F)) [] (rowR mi) (by decide)
  have h2 := View.readCov_fill (Val := Elt F) arg11.view inb_S14x1x512_S14x1x512_0_0_0 (k0_pay438 (F := F)) [] (rowR mi) (by decide)
  have h3 := View.readCov_fill (Val := Elt F) arg12.view inb_S14x128x512_S14x128x512_0_0_0 (k0_pay439 (F := F)) [] (matR mi) (by decide)
  exact congr (congr (congrArg St.mk (h1.trans rfl)) (h2.trans rfl)) (h3.trans rfl)

/-! ## The trips -/

theorem trips_le : ∀ i : grid0.Coords, (k0_t1_loop i).trips = 0 ∨ (k0_t1_loop i).trips = 1 := by decide +kernel
theorem rest_trips : ∀ i : grid0.Coords, (k0_t2_loop i).trips = 0 := by decide +kernel

theorem rest_nil : rest c i arg2 harg2 arg3 harg3 arg4 harg4 arg5 harg5 arg6 harg6 arg7 harg7 arg8 harg8 arg9 harg9 arg10 harg10 arg11 harg11 arg12 harg12 x0 x1 x2 x3 = ([], [], []) := by
  unfold rest
  rw [show Scf.trips (k0_t2_loop i).lb (k0_t2_loop i).ub (k0_t2_loop i).st = 0 from rest_trips i]
  rfl

theorem base_eq : base c i arg2 harg2 arg3 harg3 arg4 harg4 arg5 harg5 arg6 harg6 arg7 harg7 arg8 harg8 arg9 harg9 arg10 harg10 arg11 harg11 arg12 harg12 x0 x1 x2 x3 = base0 c i arg2 harg2 arg3 harg3 arg4 harg4 arg5 harg5 arg6 harg6 arg7 harg7 arg8 harg8 arg9 harg9 arg10 harg10 arg11 harg11 arg12 harg12 x0 x1 x2 x3 := by
  unfold base
  rw [rest_nil]
  rfl

/-- Where no pair of blocks comes before, a slot holds what it held at first. -/
theorem rd_base_none (h : (k0_t1_loop i).trips = 0) (mi : Fin 14) :
    rdL arg10 arg11 arg12 (base c i arg2 harg2 arg3 harg3 arg4 harg4 arg5 harg5 arg6 harg6 arg7 harg7 arg8 harg8 arg9 harg9 arg10 harg10 arg11 harg11 arg12 harg12 x0 x1 x2 x3) mi = st0 := by
  rw [base_eq, ← rd_init arg10 arg11 arg12 mi]
  unfold base0 trips
  rw [show Scf.trips (k0_t1_loop i).lb (k0_t1_loop i).ub (k0_t1_loop i).st = 0 from h]
  rfl

/-- Where one pair of blocks comes before, a slot has been updated by it. -/
theorem rd_base_one (h : (k0_t1_loop i).trips = 1) (mi : Fin 14) :
    rdL arg10 arg11 arg12 (base c i arg2 harg2 arg3 harg3 arg4 harg4 arg5 harg5 arg6 harg6 arg7 harg7 arg8 harg8 arg9 harg9 arg10 harg10 arg11 harg11 arg12 harg12 x0 x1 x2 x3) mi
      = step2 i arg3 arg4 arg9 (harg3.unread x1) (harg4.unread x2) (X9 c arg2 harg2 arg5 harg5 arg9 x0 x3) ⟨0, by omega⟩ mi st0 := by
  rw [base_eq, ← rd_init arg10 arg11 arg12 mi]
  unfold base0 trips
  rw [show Scf.trips (k0_t1_loop i).lb (k0_t1_loop i).ub (k0_t1_loop i).st = (⟨0, by omega⟩ : Fin (k0_t1_loop i).trips).val + 1 from h,
    pb_k0_t1_succ, trip_pieces]
  simp only [rdL, rdSt, appL, View.writes_append, rd_rows, rd_mats, pb_k0_t1.eq_1, View.writes_nil]

end Cert.KernelIdeal.Attn

end
-- ==== Proof.Online.lean ====
module

public import Idealize.ShloMosaic.Lib.Pipeline.ValueKit

@[expose] public section

noncomputable section

namespace Cert.KernelIdeal.Attn

open Idealize.ShloMosaic

/-! ## Extended reals -/

/-- A nonnegative real factor goes into a sum. -/
theorem mul_sum_of_nonneg {ι : Type*} (S : Finset ι) (r : ℝ) (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha,
      EReal.left_distrib_of_nonneg_of_ne_top (EReal.coe_nonneg.mpr hr) (EReal.coe_ne_top r), ih]

theorem sum_coe {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A score: a real number, or left out. -/
def IsScore (x : EReal) : Prop := x = ⊥ ∨ ∃ r : ℝ, x = r

theorem IsScore.lt_top {x : EReal} (h : IsScore x) : x < ⊤ := by
  rcases h with h | ⟨r, h⟩ <;> rw [h]
  · exact bot_lt_top
  · exact EReal.coe_lt_top r

/-- The greatest of `m` and of a block's scores, one of them real, is real. -/
theorem max_real {w : ℕ} (m : EReal) (s : Fin w → EReal) (hm : IsScore m) (hs : ∀ k, IsScore (s k)) (k : Fin w) (r : ℝ) (hk : s k = r) :
    ∃ M : ℝ, max m (Finset.univ.fold max ⊥ s) = M := by
  have h1 : max m (Finset.univ.fold max ⊥ s) ≠ ⊤ := by
    refine ne_of_lt (max_lt hm.lt_top ?_)
    exact (Finset.fold_max_lt ⊤).mpr ⟨bot_lt_top, fun x _ => (hs x).lt_top⟩
  have h2 : max m (Finset.univ.fold max ⊥ s) ≠ ⊥ := by
    refine ne_of_gt (lt_of_lt_of_le (EReal.bot_lt_coe r) (le_trans ?_ (le_max_right _ _)))
    exact (Finset.le_fold_max _).mpr (.inr ⟨k, Finset.mem_univ k, hk.ge⟩)
  exact ⟨_, (EReal.coe_toReal h1 h2).symm⟩

/-! ## The weight of a key -/

/-- Two to the score less the maximum, times the factor. -/
abbrev wt (c x m : EReal) : EReal := Ideal.exp2 ((x - m) * c)

theorem wt_bot {c : ℝ} (hc : 0 < c) (M : ℝ) : wt c ⊥ M = 0 := by
  rw [wt, EReal.bot_sub, EReal.bot_mul_coe_of_pos hc]; rfl

theorem wt_coe (c x M : ℝ) : wt c x M = ((2 : ℝ) ^ ((x - M) * c) : ℝ) := by
  rw [wt, ← EReal.coe_sub, ← EReal.coe_mul]; rfl

/-- Passing from one maximum to another. -/
theorem wt_shift {c : ℝ} (hc : 0 < c) (x : EReal) (hx : IsScore x) (M M' : ℝ) : wt c M M' * wt c x M = wt c x M' := by
  rcases hx with rfl | ⟨r, rfl⟩
  · rw [wt_bot hc, wt_bot hc, mul_zero]
  · rw [wt_coe, wt_coe, wt_coe, ← EReal.coe_mul, ← Real.rpow_add two_pos]
    congr 2; ring

/-- What the running maximum, sum and accumulator are after the first `n` keys. -/
def Inv (c : ℝ) (t v : ℕ → EReal) (n : ℕ) (m l a : EReal) : Prop :=
  (n = 0 ∧ m = ⊥ ∧ l = 0 ∧ a = 0) ∨
    ∃ M : ℝ, m = M ∧ l = ∑ κ ∈ Finset.range n, wt c (t κ) M ∧ a = ∑ κ ∈ Finset.range n, v κ * wt c (t κ) M

/-- The next `w` keys, one of them real. -/
theorem Inv.step {c : ℝ} (hc : 0 < c) {t v : ℕ → EReal} {n : ℕ} {m l a : EReal} (h : Inv c t v n m l a) (ht : ∀ κ, IsScore (t κ))
    {w : ℕ} (s : Fin w → EReal) (hs : ∀ k : Fin w, s k = t (n + k.val)) (k : Fin w) (r : ℝ) (hk : t (n + k.val) = r) :
    Inv c t v (n + w) (max m (Finset.univ.fold max ⊥ s))
      (wt c m (max m (Finset.univ.fold max ⊥ s)) * l + ∑ k, wt c (s k) (max m (Finset.univ.fold max ⊥ s)))
      (wt c m (max m (Finset.univ.fold max ⊥ s)) * a
        + ∑ k : Fin w, v (n + k.val) * wt c (s k) (max m (Finset.univ.fold max ⊥ s))) := by
  have hm : IsScore m := by
    rcases h with ⟨_, hm, _, _⟩ | ⟨M, hm, _, _⟩
    · exact .inl hm
    · exact .inr ⟨M, hm⟩
  obtain ⟨M', hM'⟩ := max_real m s hm (fun k => by rw [hs]; exact ht _) k r ((hs k).trans hk)
  rw [hM']
  refine .inr ⟨M', rfl, ?_, ?_⟩
  · rw [Finset.sum_range_add, Finset.sum_range (fun x => wt c (t (n + x)) M')]
    refine congrArg₂ (· + ·) ?_ (Finset.sum_congr rfl fun k _ => by rw [hs])
    rcases h with ⟨hn, hm, hl, _⟩ | ⟨M, hm, hl, _⟩
    · rw [hn, hl, mul_zero]; rfl
    · rw [hm, hl, wt_coe, mul_sum_of_nonneg _ _ (Real.rpow_nonneg zero_le_two _), ← wt_coe]
      exact Finset.sum_congr rfl fun κ _ => wt_shift hc _ (ht κ) _ _
  · rw [Finset.sum_range_add, Finset.sum_range (fun x => v (n + x) * wt c (t (n + x)) M')]
    refine congrArg₂ (· + ·) ?_ (Finset.sum_congr rfl fun k _ => by rw [hs])
    rcases h with ⟨hn, hm, _, ha⟩ | ⟨M, hm, _, ha⟩
    · rw [hn, ha, mul_zero]; rfl
    · rw [hm, ha, wt_coe, mul_sum_of_nonneg _ _ (Real.rpow_nonneg zero_le_two _), ← wt_coe]
      refine Finset.sum_congr rfl fun κ _ => ?_
      rw [mul_left_comm, wt_shift hc _ (ht κ)]

/-! ## The attention of one query, written plainly -/

/-- The values under the softmax of the scores. -/
def attend (s v : Fin 2048 → EReal) : EReal :=
  ∑ κ, v κ * Ideal.div (Ideal.exp (s κ - max ⊥ (Finset.univ.fold max ⊥ s)))
    (∑ κ', Ideal.exp (s κ' - max ⊥ (Finset.univ.fold max ⊥ s)))

/-- The natural logarithm of two, inverted, times the factor of the scores. -/
def cOf (sc : ℝ) : ℝ := (Real.log 2)⁻¹ * sc

theorem cOf_pos {sc : ℝ} (h : 0 < sc) : 0 < cOf sc := mul_pos (inv_pos.mpr (Real.log_pos one_lt_two)) h

/-- The quotient of accumulator and sum after every key up to the query is the attention. -/
theorem Inv.attend {sc : ℝ} (hsc : 0 < sc) {t v : ℕ → EReal} {n : ℕ} {m l a : EReal} (hn : 0 < n) (hn' : n ≤ 2048)
    (h : Inv (cOf sc) t v n m l a) (ht : ∀ κ, IsScore (t κ)) (h0 : ∃ r : ℝ, t 0 = r) (hlast : ∀ κ, n ≤ κ → t κ = ⊥)
    (s v' : Fin 2048 → EReal) (hs : ∀ κ, s κ = t κ.val * (sc : EReal)) (hv : ∀ κ, v' κ = v κ.val) :
    Ideal.div a l = Attn.attend s v' := by
  have hc := cOf_pos hsc
  obtain ⟨M, -, hl, ha⟩ := h.resolve_left fun h => hn.ne' h.1
  -- the scores of the plain form
  have hss : ∀ κ, IsScore (s κ) := fun κ => by
    rw [hs]
    rcases ht κ.val with h | ⟨r, h⟩ <;> rw [h]
    · exact .inl (EReal.bot_mul_coe_of_pos hsc)
    · exact .inr ⟨r * sc, (EReal.coe_mul _ _).symm⟩
  obtain ⟨r0, h0⟩ := h0
  obtain ⟨M', hM'⟩ := max_real ⊥ s (.inl rfl) hss 0 (r0 * sc) (by rw [hs]; show t 0 * _ = _; rw [h0, EReal.coe_mul])
  -- a key's two weights differ by one factor
  let e : ℕ → ℝ := fun κ => if t κ = ⊥ then 0 else Real.exp (((t κ).toReal * sc) - M')
  have he0 : ∀ κ, 0 ≤ e κ := fun κ => by
    show 0 ≤ ite _ _ _
    split
    · exact le_rfl
    · exact (Real.exp_pos _).le
  have he : ∀ κ : Fin 2048, Ideal.exp (s κ - M') = (e κ.val : EReal) := fun κ => by
    show _ = ((ite _ _ _ : ℝ) : EReal)
    rw [hs]
    rcases ht κ.val with h | ⟨r, h⟩ <;> rw [h]
    · rw [EReal.bot_mul_coe_of_pos hsc, EReal.bot_sub, if_pos rfl]; rfl
    · rw [if_neg (EReal.coe_ne_bot r), ← EReal.coe_mul, ← EReal.coe_sub]; rfl
  let γ : ℝ := Real.exp (M' - M * sc)
  have hγ : 0 < γ := Real.exp_pos _
  have hw : ∀ κ, wt (cOf sc) (t κ) M = ((γ * e κ : ℝ) : EReal) := fun κ => by
    show _ = ((γ * ite _ _ _ : ℝ) : EReal)
    rcases ht κ with h | ⟨r, h⟩ <;> rw [h]
    · rw [wt_bot hc, if_pos rfl, mul_zero]; rfl
    · rw [wt_coe, if_neg (EReal.coe_ne_bot r), EReal.toReal_coe, ← Real.exp_add, Real.rpow_def_of_pos two_pos]
      congr 2
      have := (Real.log_pos one_lt_two).ne'
      unfold cOf
      field_simp
      ring
  -- every key counted, the later ones with weight zero
  have hext : ∀ f : ℕ → EReal, (∀ κ, n ≤ κ → f κ = 0) → ∑ κ ∈ Finset.range n, f κ = ∑ κ : Fin 2048, f κ.val := fun f hf => by
    rw [← Finset.sum_range]
    refine Finset.sum_subset (fun x hx => ?_) fun x _ hx => hf x ?_
    · rw [Finset.mem_range] at hx ⊢; omega
    · rw [Finset.mem_range] at hx; omega
  have hz : ∀ κ, n ≤ κ → e κ = 0 := fun κ h => if_pos (hlast κ h)
  have hl' : l = ((γ * ∑ κ : Fin 2048, e κ.val : ℝ) : EReal) := by
    rw [hl, hext _ (fun κ h => by rw [hw, hz κ h, mul_zero]; rfl), Finset.mul_sum, ← sum_coe]
    exact Finset.sum_congr rfl fun κ _ => hw _
  have hpos : 0 < ∑ κ : Fin 2048, e κ.val := by
    refine Finset.sum_pos' (fun κ _ => he0 _) ⟨0, Finset.mem_univ _, ?_⟩
    show 0 < ite _ _ _
    rw [if_neg (by rw [show t (0 : Fin 2048).val = t 0 from rfl, h0]; exact EReal.coe_ne_bot r0)]
    exact Real.exp_pos _
  unfold Attn.attend
  rw [hM', hl', Ideal.div_coe (mul_pos hγ hpos).ne', ha,
    hext _ (fun κ h => by rw [hw, hz κ h, mul_zero, EReal.coe_zero, mul_zero]), mul_comm,
    mul_sum_of_nonneg _ _ (one_div_nonneg.mpr (mul_pos hγ hpos).le)]
  refine Finset.sum_congr rfl fun κ _ => ?_
  rw [he, show (∑ κ' : Fin 2048, Ideal.exp (s κ' - M')) = ((∑ κ : Fin 2048, e κ.val : ℝ) : EReal) from by
    rw [← sum_coe]; exact Finset.sum_congr rfl fun κ _ => he κ, Ideal.div_coe hpos.ne', hw, hv, mul_left_comm,
    ← EReal.coe_mul, ← EReal.coe_mul]
  congr 2
  field_simp

end Cert.KernelIdeal.Attn

end
-- ==== Proof.Point.lean ====
module

public import proofs.«01_k».proof.Proof.State
public import proofs.«01_k».proof.Proof.Online

@[expose] public section

set_option maxRecDepth 16384

noncomputable section

namespace Cert.KernelIdeal.Attn

open Cert.KernelIdeal Cert.KernelIdeal.Gen Idealize.ShloMosaic Idealize.ShloMosaic.TcCoe

theorem ofBits_bot : Ideal.ofBits .f32 0xFF800000#32 = ⊥ := by simp [Ideal.ofBits, Ideal.ieee]

theorem mask_bot : (Named.named (F := Ideal) (φ := .f32) κ "mask" 0xF149F2CA#32) = (⊥ : EReal) :=
  IdealRules.named_const.ideal_named_scalar _ _ _ _ rfl

/-! ## One update at a query and a row -/

/-- The running values of query `q`, row `r` of a slot after the first `n` keys. -/
def InvAt (c : ℝ) (t v : ℕ → EReal) (n : ℕ) (x : St Ideal) (r : Fin 128) (q : Fin 512) : Prop :=
  Inv c t v n (x.m (ix3 0 0 q)) (x.l (ix3 0 0 q)) (x.acc (ix3 0 r q))

theorem InvAt.start (c : ℝ) (t v : ℕ → EReal) (r : Fin 128) (q : Fin 512) : InvAt c t v 0 st0 r q := by
  refine .inl ⟨rfl, mask_bot, ?_, ?_⟩
  · show Ideal.ofBits .f32 0x00000000#32 = 0
    simp
  · show Ideal.ofBits .f32 0x00000000#32 = 0
    simp

theorem InvAt.upd1 {c : ℝ} (hc : 0 < c) {t v : ℕ → EReal} {n : ℕ} {x : St Ideal} {r : Fin 128} {q : Fin 512} (h : InvAt c t v n x r q)
    (ht : ∀ κ, IsScore (t κ)) (s : FVec Ideal S512x512 .f32) (hs : ∀ k : Fin 512, s (ix2 k q) = t (n + k.val))
    (vt : Vec Ideal S1x1x128x512 .bf16) (hv : ∀ k : Fin 512, vt (ix4 0 0 r k) = v (n + k.val)) (hr : ∃ ρ : ℝ, t n = ρ) :
    InvAt c t v (n + 512) (upd1 (c : EReal) s vt x) r q := by
  obtain ⟨ρ, hr⟩ := hr
  have hm : (Attn.upd1 (c : EReal) s vt x).m (ix3 0 0 q) = max (x.m (ix3 0 0 q)) (Finset.univ.fold max (⊥ : EReal) fun k => s (ix2 k q)) := by
    rw [← ofBits_bot]
    pointwise [Attn.upd1, newM1]
  have hl : (Attn.upd1 (c : EReal) s vt x).l (ix3 0 0 q)
      = wt c (x.m (ix3 0 0 q)) (max (x.m (ix3 0 0 q)) (Finset.univ.fold max (⊥ : EReal) fun k => s (ix2 k q))) * x.l (ix3 0 0 q)
        + ∑ k : Fin 512, wt c (s (ix2 k q)) (max (x.m (ix3 0 0 q)) (Finset.univ.fold max (⊥ : EReal) fun k => s (ix2 k q))) := by
    rw [← ofBits_bot]
    pointwise [Attn.upd1, newM1, decay, weight1]
    rfl
  have ha : (Attn.upd1 (c : EReal) s vt x).acc (ix3 0 r q)
      = wt c (x.m (ix3 0 0 q)) (max (x.m (ix3 0 0 q)) (Finset.univ.fold max (⊥ : EReal) fun k => s (ix2 k q))) * x.acc (ix3 0 r q)
        + ∑ k : Fin 512, vt (ix4 0 0 r k) * wt c (s (ix2 k q)) (max (x.m (ix3 0 0 q)) (Finset.univ.fold max (⊥ : EReal) fun k => s (ix2 k q))) := by
    rw [← ofBits_bot]
    pointwise [Attn.upd1, newM1, decay, weight1]
    rfl
  unfold InvAt
  rw [hm, hl, ha]
  have := Inv.step hc h ht (fun k : Fin 512 => s (ix2 k q)) hs 0 ρ hr
  simp only [← hv] at this
  exact this

theorem InvAt.upd2 {c : ℝ} (hc : 0 < c) {t v : ℕ → EReal} {n : ℕ} {x : St Ideal} {r : Fin 128} {q : Fin 512} (h : InvAt c t v n x r q)
    (ht : ∀ κ, IsScore (t κ)) (s : FVec Ideal S1024x512 .f32) (hs : ∀ k : Fin 1024, s (ix2 k q) = t (n + k.val))
    (vt wt' : Vec Ideal S1x1x128x512 .bf16) (hv : ∀ k : Fin 512, vt (ix4 0 0 r k) = v (n + k.val))
    (hw : ∀ k : Fin 512, wt' (ix4 0 0 r k) = v (n + (512 + k.val))) (hr : ∃ ρ : ℝ, t n = ρ) :
    InvAt c t v (n + 1024) (upd2 (c : EReal) s (vals2 vt wt') x) r q := by
  obtain ⟨ρ, hr⟩ := hr
  have hm : (Attn.upd2 (c : EReal) s (vals2 vt wt') x).m (ix3 0 0 q) = max (x.m (ix3 0 0 q)) (Finset.univ.fold max (⊥ : EReal) fun k => s (ix2 k q)) := by
    rw [← ofBits_bot]
    pointwise [Attn.upd2, newM2]
  have hl : (Attn.upd2 (c : EReal) s (vals2 vt wt') x).l (ix3 0 0 q)
      = wt c (x.m (ix3 0 0 q)) (max (x.m (ix3 0 0 q)) (Finset.univ.fold max (⊥ : EReal) fun k => s (ix2 k q))) * x.l (ix3 0 0 q)
        + ∑ k : Fin 1024, wt c (s (ix2 k q)) (max (x.m (ix3 0 0 q)) (Finset.univ.fold max (⊥ : EReal) fun k => s (ix2 k q))) := by
    rw [← ofBits_bot]
    pointwise [Attn.upd2, newM2, decay, weight2]
    rfl
  have ha : (Attn.upd2 (c : EReal) s (vals2 vt wt') x).acc (ix3 0 r q)
      = wt c (x.m (ix3 0 0 q)) (max (x.m (ix3 0 0 q)) (Finset.univ.fold max (⊥ : EReal) fun k => s (ix2 k q))) * x.acc (ix3 0 r q)
        + (∑ k : Fin 512, vt (ix4 0 0 r k) * wt c (s (ix2 ⟨k.val, by omega⟩ q)) (max (x.m (ix3 0 0 q)) (Finset.univ.fold max (⊥ : EReal) fun k => s (ix2 k q)))
        + ∑ k : Fin 512, wt' (ix4 0 0 r k) * wt c (s (ix2 ⟨512 + k.val, by omega⟩ q)) (max (x.m (ix3 0 0 q)) (Finset.univ.fold max (⊥ : EReal) fun k => s (ix2 k q)))) := by
    rw [← ofBits_bot]
    pointwise [Attn.upd2, newM2, decay, weight2, vals2]
    rfl
  unfold InvAt
  rw [hm, hl, ha]
  have := Inv.step hc h ht (fun k : Fin 1024 => s (ix2 k q)) hs 0 ρ hr
  rw [Fin.sum_univ_add (a := 512) (b := 512) (f := fun k : Fin 1024 => v (n + k.val) * _)] at this
  simp only [hv, hw]
  exact this

/-! ## Scores at a key and a query -/

theorem score2_at (kt : Vec Ideal S1x1024x128 .bf16) (qm : Vec Ideal S1x128x512 .bf16) (k : Fin 1024) (q : Fin 512) :
    score2 kt qm (ix2 k q) = ∑ x : Fin 128, (kt (ix3 0 k x) * qm (ix3 0 x q) : EReal) := by
  pointwise [score2]

theorem score1_at (kt : Vec Ideal S1x512x128 .bf16) (qm : Vec Ideal S1x128x512 .bf16) (k : Fin 512) (q : Fin 512) :
    score1 kt qm (ix2 k q) = ∑ x : Fin 128, (kt (ix3 0 k x) * qm (ix3 0 x q) : EReal) := by
  pointwise [score1]

theorem toInt_nat (a : ℕ) (ha : a < 2048) : (BitVec.ofNat 32 a).toInt = a := by
  have h : (BitVec.ofNat 32 a).toNat = a := by rw [BitVec.toNat_ofNat]; omega
  rw [BitVec.toInt_eq_toNat_of_lt (by rw [h]; omega), h]

theorem sle_nat (a b : ℕ) (ha : a < 2048) (hb : b < 2048) : IntOp.cmpi .sle (BitVec.ofNat 32 a) (BitVec.ofNat 32 b) = if a ≤ b then 1#1 else 0#1 := by
  by_cases h : a ≤ b
  · rw [if_pos h]; simp [IntOp.cmpi, BitVec.sle, toInt_nat, ha, hb, h]
  · rw [if_neg h]; simp [IntOp.cmpi, BitVec.sle, toInt_nat, ha, hb, h]

theorem masked_at (s : FVec Ideal S512x512 .f32) (k q : Fin 512) : masked s (ix2 k q) = if k.val ≤ q.val then (s (ix2 k q) : EReal) else ⊥ := by
  have e : masked s (ix2 k q) = Scalar.select (IntOp.cmpi .sle (BitVec.ofNat 32 k.val) (BitVec.ofNat 32 q.val)) (s (ix2 k q))
      (Named.named κ "mask" 0xF149F2CA#32) := by
    pointwise [masked]
  rw [e, mask_bot, sle_nat _ _ (by omega) (by omega)]
  by_cases h : k.val ≤ q.val
  · rw [if_pos h, if_pos h]; rfl
  · rw [if_neg h, if_neg h]; rfl

/-! ## The factors of the exponents -/

/-- The factor of the scores of map `mi` before the softmax. -/
def scOf (mi : Fin 14) : ℝ := if mi.val < 6 then 1 else 11863283 / 67108864

theorem scOf_pos (mi : Fin 14) : 0 < scOf mi := by
  unfold scOf
  split <;> norm_num

theorem log2e_eq : (Named.named (F := Ideal) (φ := .f32) κ "log2e" 0x3FB8AA3B#32) = ((cOf 1 : ℝ) : EReal) := by
  refine (IdealRules.named_const.ideal_named_scalar _ _ _ _ rfl).trans ?_
  rw [cOf, mul_one]

theorem log2es_eq : (Named.named (F := Ideal) (φ := .f32) κ "log2e_scale" 0x3E8293EE#32) = ((cOf (11863283 / 67108864) : ℝ) : EReal) := by
  refine (IdealRules.named_const.ideal_named_scalar _ _ _ _ rfl).trans ?_
  rw [cOf]

theorem cexp_eq (mi : Fin 14) : cexp (F := Ideal) mi = ((cOf (scOf mi) : ℝ) : EReal) := by
  fin_cases mi
  all_goals first | exact log2e_eq.trans (by simp [scOf]) | exact log2es_eq.trans (by simp [scOf])

end Cert.KernelIdeal.Attn

end
-- ==== Proof.Tiles.lean ====
module

public import proofs.«01_k».proof.Proof.Point
public import Idealize.ShloMosaic.Lib.WholeRead

@[expose] public section

set_option maxRecDepth 16384

noncomputable section

namespace Cert.KernelIdeal.Attn

open Cert.KernelIdeal Cert.KernelIdeal.Gen Idealize.ShloMosaic Idealize.ShloMosaic.TcCoe

/-! ## Where the tiles lie -/

theorem coord1_lt : ∀ i : grid0.Coords, (i 1).val < 4 := by decide +kernel

theorem kOff2_eq : ∀ (i : grid0.Coords) (k : Fin (k0_t1_loop i).trips) (g : Fin 8), kOff2 i k g = ![0, 1024 * k.val, 128 * g.val] := by
  decide +kernel
theorem kOff1_eq : ∀ (i : grid0.Coords) (_ : k0_cond1 i = 1#1) (g : Fin 8), kOff1 i g = ![0, 512 * ((i 1).val - 1), 128 * g.val] := by
  decide +kernel
theorem kOff0_eq : ∀ (i : grid0.Coords) (g : Fin 8), kOff0 i g = ![0, 512 * (i 1).val, 128 * g.val] := by
  decide +kernel
theorem vOff2_eq : ∀ (i : grid0.Coords) (k : Fin (k0_t1_loop i).trips) (h : Fin 2) (g : Fin 5),
    vOff2 i k (BitVec.ofNat 32 h.val) g = ![0, 2 * k.val + h.val, 128 * g.val, 0] := by
  decide +kernel
theorem vOff1_eq : ∀ (i : grid0.Coords) (_ : k0_cond1 i = 1#1) (g : Fin 5), vOff1 i g = ![0, (i 1).val - 1, 128 * g.val, 0] := by
  decide +kernel
theorem vOff0_eq : ∀ (i : grid0.Coords) (g : Fin 5), vOff0 i g = ![0, (i 1).val, 128 * g.val, 0] := by
  decide +kernel

section Tiles

variable (i : grid0.Coords)
variable {arg3 : Memref sig .tc .vmem S1x2048x1024 .bf16} (harg3 : arg3.IsWhole)
variable {arg4 : Memref sig .tc .vmem S1x4x640x512 .bf16} (harg4 : arg4.IsWhole)
variable (x1 : Vec Ideal S1x2048x1024 .bf16) (x2 : Vec Ideal S1x4x640x512 .bf16)

theorem kT2_at (k : Fin (k0_t1_loop i).trips) (hk : k.val = 0) (g : Fin 8) (a : Fin 1024) (x : Fin 128) :
    kT2 i arg3 (harg3.unread x1) k g (ix3 0 a x) = x1 (ix3 0 ⟨a.val, by omega⟩ ⟨128 * g.val + x.val, by omega⟩) := by
  refine (harg3.readAt_unread x1 _ _).trans (congrArg x1 (funext fun e => Fin.ext ?_))
  have h := congrFun (kOff2_eq i k g) e
  show kOff2 i k g e + 1 * _ = _
  rw [h]
  fin_cases e
  · rfl
  · show 1024 * k.val + 1 * a.val = a.val
    omega
  · show 128 * g.val + 1 * x.val = 128 * g.val + x.val
    omega

theorem kT1_at (hc : k0_cond1 i = 1#1) (g : Fin 8) (a : Fin 512) (x : Fin 128) (h : 512 * ((i 1).val - 1) + a.val < 2048) :
    kT1 i arg3 (harg3.unread x1) hc g (ix3 0 a x) = x1 (ix3 0 ⟨512 * ((i 1).val - 1) + a.val, h⟩ ⟨128 * g.val + x.val, by omega⟩) := by
  refine (harg3.readAt_unread x1 _ _).trans (congrArg x1 (funext fun e => Fin.ext ?_))
  have h := congrFun (kOff1_eq i hc g) e
  show kOff1 i g e + 1 * _ = _
  rw [h]
  fin_cases e
  · rfl
  · show 512 * ((i 1).val - 1) + 1 * a.val = _
    rw [Nat.one_mul]; rfl
  · show 128 * g.val + 1 * x.val = 128 * g.val + x.val
    omega

theorem kT0_at (g : Fin 8) (a : Fin 512) (x : Fin 128) (h : 512 * (i 1).val + a.val < 2048) :
    kT0 i arg3 (harg3.unread x1) g (ix3 0 a x) = x1 (ix3 0 ⟨512 * (i 1).val + a.val, h⟩ ⟨128 * g.val + x.val, by omega⟩) := by
  refine (harg3.readAt_unread x1 _ _).trans (congrArg x1 (funext fun e => Fin.ext ?_))
  have h := congrFun (kOff0_eq i g) e
  show kOff0 i g e + 1 * _ = _
  rw [h]
  fin_cases e
  · rfl
  · show 512 * (i 1).val + 1 * a.val = _
    rw [Nat.one_mul]; rfl
  · show 128 * g.val + 1 * x.val = 128 * g.val + x.val
    omega

theorem vT2_at (k : Fin (k0_t1_loop i).trips) (hk : k.val = 0) (h : Fin 2) (g : Fin 5) (r : Fin 128) (a : Fin 512) :
    vT2 i arg4 (harg4.unread x2) k h g (ix4 0 0 r a) = x2 (ix4 0 ⟨h.val, by omega⟩ ⟨128 * g.val + r.val, by omega⟩ a) := by
  refine (harg4.readAt_unread x2 _ _).trans (congrArg x2 (funext fun e => Fin.ext ?_))
  have h' := congrFun (vOff2_eq i k h g) e
  show vOff2 i k (BitVec.ofNat 32 h.val) g e + 1 * _ = _
  rw [h']
  fin_cases e
  · rfl
  · show 2 * k.val + h.val + 1 * 0 = h.val
    omega
  · show 128 * g.val + 1 * r.val = 128 * g.val + r.val
    omega
  · show 0 + 1 * a.val = a.val
    omega

theorem vT1_at (hc : k0_cond1 i = 1#1) (g : Fin 5) (r : Fin 128) (a : Fin 512) (h : (i 1).val - 1 < 4) :
    vT1 i arg4 (harg4.unread x2) hc g (ix4 0 0 r a) = x2 (ix4 0 ⟨(i 1).val - 1, h⟩ ⟨128 * g.val + r.val, by omega⟩ a) := by
  refine (harg4.readAt_unread x2 _ _).trans (congrArg x2 (funext fun e => Fin.ext ?_))
  have h' := congrFun (vOff1_eq i hc g) e
  show vOff1 i g e + 1 * _ = _
  rw [h']
  fin_cases e
  · rfl
  · show (i 1).val - 1 + 1 * 0 = (i 1).val - 1
    omega
  · show 128 * g.val + 1 * r.val = 128 * g.val + r.val
    omega
  · show 0 + 1 * a.val = a.val
    omega

theorem vT0_at (g : Fin 5) (r : Fin 128) (a : Fin 512) (h : (i 1).val < 4) :
    vT0 i arg4 (harg4.unread x2) g (ix4 0 0 r a) = x2 (ix4 0 ⟨(i 1).val, h⟩ ⟨128 * g.val + r.val, by omega⟩ a) := by
  refine (harg4.readAt_unread x2 _ _).trans (congrArg x2 (funext fun e => Fin.ext ?_))
  have h' := congrFun (vOff0_eq i g) e
  show vOff0 i g e + 1 * _ = _
  rw [h']
  fin_cases e
  · rfl
  · show (i 1).val + 1 * 0 = (i 1).val
    omega
  · show 128 * g.val + 1 * r.val = 128 * g.val + r.val
    omega
  · show 0 + 1 * a.val = a.val
    omega

end Tiles

end Cert.KernelIdeal.Attn

end
-- ==== Proof.Query.lean ====
module

public import proofs.«01_k».proof.Proof.Tiles

@[expose] public section

set_option maxRecDepth 16384

noncomputable section

namespace Cert.KernelIdeal.Attn

open Cert.KernelIdeal Cert.KernelIdeal.Gen Idealize.ShloMosaic Idealize.ShloMosaic.TcCoe

/-! ## What one slot of the masked queries holds -/

section

variable {F : FTy → Type} [FloatOps F]

/-- The rows of one quarter of a group of queries, the other rows zero. -/
def quarter (p : BitVec 32) (w : Vec F S1x128x512 .bf16) : Vec F S1x128x512 .bf16 :=
  let rows := iota .tc S128x512 32 [0] iota_S128x512_d0_w32
  let whole := divsi rows (broadcast S128x512 32#32)
  let sign := subi (extui 32 (cmpi .sgt rows (broadcast S128x512 0#32)) natLt_1_32) (extui 32 (cmpi .slt rows (broadcast S128x512 0#32)) natLt_1_32)
  let sign32 := Scalar.subi (Scalar.extui (Scalar.cmpi .sgt 32#32 0#32)) (Scalar.extui (Scalar.cmpi .slt 32#32 0#32))
  let floor := select (andi (cmpi .ne sign (broadcast S128x512 sign32))
    (cmpi .ne (remsi rows (broadcast S128x512 32#32)) (broadcast S128x512 0#32))) (subi whole (broadcast S128x512 1#32)) whole
  shapeCast S1x128x512 (truncf .bf16 (select (cmpi .eq floor (broadcast S128x512 p)) (k0_pay414 w)
    (broadcast S128x512 (FloatOps.ofBits .f32 0x00000000#32))) bitsLt_bf16_f32) shapeCasts_S128x512_S1x128x512

/-- The rows under a head's queries: three of minus one, then the query's bias in three parts, then zeros. -/
def biasRows (w : Vec F S1x1x512 .f32) : Vec F S1x64x512 .bf16 :=
  k0_pay409 (iota .tc S64x512 32 [0] iota_S64x512_d0_w32) w

end

/-- Row `x` lies in quarter `p`. -/
theorem quarter_test : ∀ (p : Fin 4) (x : Fin 128),
    IntOp.cmpi .eq (Scalar.select (IntOp.andi (IntOp.cmpi .ne (IntOp.subi (BitVec.setWidth 32 (IntOp.cmpi .sgt (BitVec.ofNat 32 x.val) 0#32))
        (BitVec.setWidth 32 (IntOp.cmpi .slt (BitVec.ofNat 32 x.val) 0#32)))
      (Scalar.subi (Scalar.extui (Scalar.cmpi .sgt 32#32 0#32)) (Scalar.extui (Scalar.cmpi .slt 32#32 0#32))))
      (IntOp.cmpi .ne (IntOp.remsi .vector (BitVec.ofNat 32 x.val) 32#32) 0#32))
      (IntOp.subi (IntOp.divsi .vector (BitVec.ofNat 32 x.val) 32#32) 1#32)
      (IntOp.divsi .vector (BitVec.ofNat 32 x.val) 32#32)) (BitVec.ofNat 32 p.val) = if x.val / 32 = p.val then 1#1 else 0#1 := by
  decide +kernel

theorem quarter_at (p : Fin 4) (w : Vec Ideal S1x128x512 .bf16) (x : Fin 128) (q : Fin 512) :
    quarter (BitVec.ofNat 32 p.val) w (ix3 0 x q) = if x.val / 32 = p.val then w (ix3 0 x q) else (0 : EReal) := by
  pointwise [quarter, k0_pay414]
  rw [quarter_test]
  split <;> rfl

/-- The bias rows of a query whose bias is `b`, by row. -/
def bias (b : EReal) (n : ℕ) : EReal :=
  if n < 3 then ((-1 : ℝ) : EReal) else if n = 3 then b else if n = 4 then b - b else if n = 5 then b - b - (b - b) else 0

theorem slt3 : ∀ x : Fin 64, IntOp.cmpi .slt (BitVec.ofNat 32 x.val) 3#32 = if x.val < 3 then 1#1 else 0#1 := by decide +kernel
theorem eq3 : ∀ x : Fin 64, IntOp.cmpi .eq (BitVec.ofNat 32 x.val) 3#32 = if x.val = 3 then 1#1 else 0#1 := by decide +kernel
theorem eq4 : ∀ x : Fin 64, IntOp.cmpi .eq (BitVec.ofNat 32 x.val) 4#32 = if x.val = 4 then 1#1 else 0#1 := by decide +kernel
theorem eq5 : ∀ x : Fin 64, IntOp.cmpi .eq (BitVec.ofNat 32 x.val) 5#32 = if x.val = 5 then 1#1 else 0#1 := by decide +kernel

theorem minus_one : Ideal.ofBits .f32 0xBF800000#32 = ((-1 : ℝ) : EReal) := by
  simp [Ideal.ofBits, Ideal.ieee]
  rw [← EReal.coe_mul]
  norm_num

theorem biasRows_at (w : Vec Ideal S1x1x512 .f32) (x : Fin 64) (q : Fin 512) :
    biasRows w (ix3 0 x q) = bias (w (ix3 0 0 q)) x.val := by
  unfold bias
  rw [← minus_one]
  pointwise [biasRows, k0_pay409]
  rw [slt3, eq3, eq4, eq5]
  (repeat' split) <;> first | rfl | omega

/-! ## The slots read back -/

section Read

variable {F : FTy → Type} [FloatOps F] [Named F]
variable (c : Dev nD)
variable (arg2 : Memref sig .tc .vmem S1x640x512 .bf16) (harg2 : arg2.IsWhole) (arg5 : Memref sig .tc .vmem S1x8x512 .f32) (harg5 : arg5.IsWhole)
variable (arg9 : Memref sig .tc .vmem S14x128x512 .bf16)
variable (x0 : Vec F S1x640x512 .bf16) (x3 : Vec F S1x8x512 .f32)

/-- Loads that place two indices alike read the same entry. -/
theorem readAt_idx {sig : RefSig} {κ : Kind} {sp : Space} {s : Shape} {e : EltTy} {Val : EltTy → Type} (v : View sig κ sp s e)
    (f : v.ty.Contents Val) (B B' : LoadRect s) (j : B.shape.Idx) (j' : B'.shape.Idx) (h : B.idx j = B'.idx j') :
    v.readAt Val B f j = v.readAt Val B' f j' :=
  congrArg (v.read Val f) h

/-- Of stores apart from each other each can be read back. -/
theorem rd_mem {sig : RefSig} {κ : Kind} {sp : Space} {s : Shape} {e : EltTy} {Val : EltTy → Type} [∀ e, Nonempty (Val e)]
    (v : View sig κ sp s e) (f : v.ty.Contents Val) (L : List (View.Piece Val s e))
    (hL : (L.map Sigma.fst).Pairwise fun a b => LoadRect.disj a b.toLoadRect = true) (p : View.Piece Val s e) (hp : p ∈ L) :
    v.readAt Val p.1.toLoadRect (v.writes Val f L) = p.2 := by
  induction L with
  | nil => exact absurd hp List.not_mem_nil
  | cons a L ih =>
    rw [List.map_cons, List.pairwise_cons] at hL
    rcases List.mem_cons.mp hp with rfl | hp
    · exact rd_same v f _ _ L
    · exact (rd_skip v f _ _ L _ (hL.1 _ (List.mem_map_of_mem hp))).trans (ih hL.2 hp)

/-- The loads of a group of 128 query rows of the second attention, of a head's 64, and of a head's bias. -/
abbrev groupR (g : Fin 2) : Rect S1x640x512 := Rect.unit ![0, 384 + 128 * g.val, 0] S1x128x512.size
  ((by decide +kernel : ∀ g : Fin 2, ∀ a, (![0, 384 + 128 * g.val, 0] : Fin 3 → ℕ) a + S1x128x512.size a ≤ S1x640x512.size a) g)
abbrev headR (hd : Fin 6) : Rect S1x640x512 := Rect.unit ![0, 64 * hd.val, 0] S1x64x512.size
  ((by decide +kernel : ∀ hd : Fin 6, ∀ a, (![0, 64 * hd.val, 0] : Fin 3 → ℕ) a + S1x64x512.size a ≤ S1x640x512.size a) hd)
abbrev biasR (hd : Fin 6) : Rect S1x8x512 := Rect.unit ![0, hd.val, 0] S1x1x512.size
  ((by decide +kernel : ∀ hd : Fin 6, ∀ a, (![0, hd.val, 0] : Fin 3 → ℕ) a + S1x1x512.size a ≤ S1x8x512.size a) hd)
/-- The upper and the lower half of a head's slot. -/
abbrev upR (hd : Fin 6) : Rect S14x128x512 := Rect.unit ![hd.val, 0, 0] S1x64x512.size
  ((by decide +kernel : ∀ hd : Fin 6, ∀ a, (![hd.val, 0, 0] : Fin 3 → ℕ) a + S1x64x512.size a ≤ S14x128x512.size a) hd)
abbrev loR (hd : Fin 6) : Rect S14x128x512 := Rect.unit ![hd.val, 64, 0] S1x64x512.size
  ((by decide +kernel : ∀ hd : Fin 6, ∀ a, (![hd.val, 64, 0] : Fin 3 → ℕ) a + S1x64x512.size a ≤ S14x128x512.size a) hd)

/-- The pieces of the head slots, and of the eight quarters. -/
def headPieces (hd : Fin 6) : List (View.Piece (Elt F) S14x128x512 .bf16) :=
  [⟨loR hd, biasRows (View.readAt (Elt F) arg5.view (biasR hd).toLoadRect (harg5.unread x3))⟩,
   ⟨upR hd, k0_pay400 (View.readAt (Elt F) arg2.view (headR hd).toLoadRect (harg2.unread x0))⟩]
def quarterPiece (g : Fin 2) (p : Fin 4) : View.Piece (Elt F) S14x128x512 .bf16 :=
  ⟨matR ⟨6 + 4 * g.val + p.val, by omega⟩,
    quarter (BitVec.ofNat 32 p.val) (View.readAt (Elt F) arg2.view (groupR g).toLoadRect (harg2.unread x0))⟩

theorem qList_eq : qList c arg2 harg2 arg5 harg5 x0 x3
    = quarterPiece arg2 harg2 x0 1 3 :: quarterPiece arg2 harg2 x0 1 2 :: quarterPiece arg2 harg2 x0 1 1 :: quarterPiece arg2 harg2 x0 1 0
      :: quarterPiece arg2 harg2 x0 0 3 :: quarterPiece arg2 harg2 x0 0 2 :: quarterPiece arg2 harg2 x0 0 1 :: quarterPiece arg2 harg2 x0 0 0
      :: (headPieces arg2 harg2 arg5 harg5 x0 x3 5 ++ headPieces arg2 harg2 arg5 harg5 x0 x3 4 ++ headPieces arg2 harg2 arg5 harg5 x0 x3 3
        ++ headPieces arg2 harg2 arg5 harg5 x0 x3 2 ++ headPieces arg2 harg2 arg5 harg5 x0 x3 1 ++ headPieces arg2 harg2 arg5 harg5 x0 x3 0) := by
  delta qList kernelRun0_A.sl.HS0_20
  rfl

theorem qList_apart : ((qList c arg2 harg2 arg5 harg5 x0 x3).map Sigma.fst).Pairwise fun a b => LoadRect.disj a b.toLoadRect = true := by
  rw [qList_eq]
  have : ([matR 13, matR 12, matR 11, matR 10, matR 9, matR 8, matR 7, matR 6, loR 5, upR 5, loR 4, upR 4, loR 3, upR 3, loR 2, upR 2,
    loR 1, upR 1, loR 0, upR 0] : List (Rect S14x128x512)).Pairwise fun a b => LoadRect.disj a b.toLoadRect = true := by decide +kernel
  exact this

theorem quarter_mem (g : Fin 2) (p : Fin 4) : quarterPiece arg2 harg2 x0 g p ∈ qList c arg2 harg2 arg5 harg5 x0 x3 := by
  rw [qList_eq]
  fin_cases g <;> fin_cases p <;> simp

theorem head_mem (hd : Fin 6) (a) (ha : a ∈ headPieces arg2 harg2 arg5 harg5 x0 x3 hd) : a ∈ qList c arg2 harg2 arg5 harg5 x0 x3 := by
  rw [qList_eq]
  fin_cases hd <;> simp_all

end Read

variable (c : Dev nD)
variable (arg2 : Memref sig .tc .vmem S1x640x512 .bf16) (harg2 : arg2.IsWhole) (arg5 : Memref sig .tc .vmem S1x8x512 .f32) (harg5 : arg5.IsWhole)
variable (arg9 : Memref sig .tc .vmem S14x128x512 .bf16)
variable (x0 : Vec Ideal S1x640x512 .bf16) (x3 : Vec Ideal S1x8x512 .f32)

/-- A quarter's slot: its own 32 query rows, zero elsewhere. -/
theorem qT_quarter (g : Fin 2) (p : Fin 4) (x : Fin 128) (q : Fin 512) :
    qT arg9 (X9 c arg2 harg2 arg5 harg5 arg9 x0 x3) ⟨6 + 4 * g.val + p.val, by omega⟩ (ix3 0 x q)
      = if x.val / 32 = p.val then x0 (ix3 0 ⟨384 + 128 * g.val + x.val, by omega⟩ q) else (0 : EReal) := by
  have h := rd_mem arg9.view arg9.view.junk _ (qList_apart c arg2 harg2 arg5 harg5 x0 x3) _ (quarter_mem c arg2 harg2 arg5 harg5 x0 x3 g p)
  refine (congrFun h (ix3 0 x q)).trans ((quarter_at p _ x q).trans ?_)
  refine congrArg (fun e => if x.val / 32 = p.val then e else (0 : EReal)) ?_
  refine (harg2.readAt_unread x0 _ _).trans (congrArg x0 (funext fun e => Fin.ext ?_))
  fin_cases e
  · rfl
  · show 384 + 128 * g.val + 1 * x.val = 384 + 128 * g.val + x.val
    omega
  · show 0 + 1 * q.val = q.val
    omega

/-- A head's slot: its 64 query rows, then the bias rows. -/
theorem qT_head_up (hd : Fin 6) (x : Fin 64) (q : Fin 512) :
    qT arg9 (X9 c arg2 harg2 arg5 harg5 arg9 x0 x3) ⟨hd.val, by omega⟩ (ix3 0 ⟨x.val, by omega⟩ q)
      = x0 (ix3 0 ⟨64 * hd.val + x.val, by omega⟩ q) := by
  have h := rd_mem arg9.view arg9.view.junk _ (qList_apart c arg2 harg2 arg5 harg5 x0 x3) _
    (head_mem c arg2 harg2 arg5 harg5 x0 x3 hd _ (List.mem_cons_of_mem _ (List.mem_singleton.mpr rfl)))
  refine (readAt_idx arg9.view _ (matR _).toLoadRect (upR hd).toLoadRect (ix3 0 ⟨x.val, by omega⟩ q) (ix3 0 x q) ?_).trans ?_
  · funext e
    apply Fin.ext
    fin_cases e <;> rfl
  refine (congrFun h (ix3 0 x q)).trans ?_
  pointwise [k0_pay400]
  refine (harg2.readAt_unread x0 _ _).trans (congrArg x0 (funext fun e => Fin.ext ?_))
  fin_cases e
  · rfl
  · show 64 * hd.val + 1 * x.val = 64 * hd.val + x.val
    omega
  · show 0 + 1 * q.val = q.val
    omega

theorem qT_head_lo (hd : Fin 6) (x : Fin 64) (q : Fin 512) :
    qT arg9 (X9 c arg2 harg2 arg5 harg5 arg9 x0 x3) ⟨hd.val, by omega⟩ (ix3 0 ⟨64 + x.val, by omega⟩ q)
      = bias (x3 (ix3 0 ⟨hd.val, by omega⟩ q)) x.val := by
  have h := rd_mem arg9.view arg9.view.junk _ (qList_apart c arg2 harg2 arg5 harg5 x0 x3) _
    (head_mem c arg2 harg2 arg5 harg5 x0 x3 hd _ (List.mem_cons.mpr (.inl rfl)))
  refine (readAt_idx arg9.view _ (matR _).toLoadRect (loR hd).toLoadRect (ix3 0 ⟨64 + x.val, by omega⟩ q) (ix3 0 x q) ?_).trans ?_
  · funext e
    apply Fin.ext
    fin_cases e
    · rfl
    · show 0 + 1 * (64 + x.val) = 64 + 1 * x.val
      omega
    · rfl
  refine (congrFun h (ix3 0 x q)).trans ((biasRows_at _ x q).trans (congrArg (bias · x.val) ?_))
  refine (harg5.readAt_unread x3 _ _).trans (congrArg x3 (funext fun e => Fin.ext ?_))
  fin_cases e
  · rfl
  · rfl
  · show 0 + 1 * q.val = q.val
    omega

end Cert.KernelIdeal.Attn

end
-- ==== Proof.Slot.lean ====
module

public import proofs.«01_k».proof.Proof.Query

@[expose] public section

set_option maxRecDepth 16384

noncomputable section

namespace Cert.KernelIdeal.Attn

open Cert.KernelIdeal Cert.KernelIdeal.Gen Idealize.ShloMosaic Idealize.ShloMosaic.TcCoe

variable (c : Dev nD) (i : grid0.Coords)
variable (arg2 : Memref sig .tc .vmem S1x640x512 .bf16) (harg2 : arg2.IsWhole) (arg3 : Memref sig .tc .vmem S1x2048x1024 .bf16) (harg3 : arg3.IsWhole)
variable (arg4 : Memref sig .tc .vmem S1x4x640x512 .bf16) (harg4 : arg4.IsWhole) (arg5 : Memref sig .tc .vmem S1x8x512 .f32) (harg5 : arg5.IsWhole)
variable (arg6 : Memref sig .tc .vmem S4x32 .f32) (harg6 : arg6.IsWhole) (arg7 : Memref sig .tc .vmem S1x128 .f32) (harg7 : arg7.IsWhole)
variable (arg8 : Memref sig .tc .vmem S1x512x640 .bf16) (harg8 : arg8.IsWhole) (arg9 : Memref sig .tc .vmem S14x128x512 .bf16) (harg9 : arg9.IsWhole)
variable (arg10 : Memref sig .tc .vmem S14x1x512 .f32) (harg10 : arg10.IsWhole) (arg11 : Memref sig .tc .vmem S14x1x512 .f32) (harg11 : arg11.IsWhole)
variable (arg12 : Memref sig .tc .vmem S14x128x512 .f32) (harg12 : arg12.IsWhole)
variable (x0 : Vec Ideal S1x640x512 .bf16) (x1 : Vec Ideal S1x2048x1024 .bf16) (x2 : Vec Ideal S1x4x640x512 .bf16) (x3 : Vec Ideal S1x8x512 .f32)

/-! ## How many keys come before the diagonal block -/

theorem trips_even : ∀ i : grid0.Coords, ¬cond0_0 i → 1024 * (k0_t1_loop i).trips = 512 * (i 1).val := by decide +kernel
theorem trips_odd : ∀ i : grid0.Coords, cond0_0 i → 1024 * (k0_t1_loop i).trips + 512 = 512 * (i 1).val := by decide +kernel

/-! ## Scores and values of one map, by key -/

/-- The score of key `κ` for query `q` of the block, before the mask; the same with the keys after the query left out; the
value of row `r`. -/
def raw (qm : Vec Ideal S1x128x512 .bf16) (mi : Fin 14) (q : Fin 512) (κ : ℕ) : EReal :=
  if h : κ < 2048 then ∑ x : Fin 128, (x1 (ix3 0 ⟨κ, h⟩ ⟨128 * (kgr mi).val + x.val, by omega⟩) * qm (ix3 0 x q) : EReal) else 0
def score (qm : Vec Ideal S1x128x512 .bf16) (mi : Fin 14) (q : Fin 512) (κ : ℕ) : EReal :=
  if κ ≤ 512 * (i 1).val + q.val then raw x1 qm mi q κ else ⊥
def value (mi : Fin 14) (r : Fin 128) (κ : ℕ) : EReal :=
  if h : κ < 2048 then x2 (ix4 0 ⟨κ / 512, by omega⟩ ⟨128 * (vgr mi).val + r.val, by omega⟩ ⟨κ % 512, by omega⟩) else 0

theorem block_entry {z z' : Fin 4} {y : Fin 640} {w w' : Fin 512} (hz : z.val = z'.val) (hw : w.val = w'.val) :
    (ix4 0 z y w : S1x4x640x512.Idx) = ix4 0 z' y w' := by
  rw [Fin.ext hz, Fin.ext hw]

section Steps

variable {mi : Fin 14} {q : Fin 512} {r : Fin 128} (X9 : BufTy.Contents (Elt Ideal) arg9.view.ty)

theorem score_is (hraw : ∀ κ, ∃ ρ : ℝ, raw x1 (qT arg9 X9 mi) mi q κ = ρ) (κ : ℕ) : IsScore (score i x1 (qT arg9 X9 mi) mi q κ) := by
  unfold score
  split
  · exact .inr (hraw κ)
  · exact .inl rfl

theorem score_real (hraw : ∀ κ, ∃ ρ : ℝ, raw x1 (qT arg9 X9 mi) mi q κ = ρ) (κ : ℕ) (h : κ ≤ 512 * (i 1).val + q.val) :
    ∃ ρ : ℝ, score i x1 (qT arg9 X9 mi) mi q κ = ρ := by
  unfold score
  rw [if_pos h]
  exact hraw κ

/-- The two blocks of the first trip. -/
theorem inv_pair (hraw : ∀ κ, ∃ ρ : ℝ, raw x1 (qT arg9 X9 mi) mi q κ = ρ) (k : Fin (k0_t1_loop i).trips) (hk : k.val = 0)
    (hi : 1024 ≤ 512 * (i 1).val) :
    InvAt (cOf (scOf mi)) (score i x1 (qT arg9 X9 mi) mi q) (value x2 mi r) 1024
      (step2 i arg3 arg4 arg9 (harg3.unread x1) (harg4.unread x2) X9 k mi st0) r q := by
  unfold step2
  rw [cexp_eq]
  refine (Nat.zero_add 1024) ▸ (InvAt.start _ _ _ r q).upd2 (cOf_pos (scOf_pos mi)) (score_is i arg9 x1 X9 hraw) _ (fun a => ?_) _ _
    (fun a => ?_) (fun a => ?_) (score_real i arg9 x1 X9 hraw 0 (by omega))
  · rw [score2_at, Nat.zero_add]
    unfold score raw
    rw [if_pos (by omega), dif_pos (by omega)]
    exact Finset.sum_congr rfl fun x _ => congrArg (· * _) (kT2_at i harg3 x1 k hk _ a x)
  · rw [vT2_at i harg4 x2 k hk]
    unfold value
    rw [dif_pos (by omega)]
    refine congrArg x2 (block_entry ?_ ?_)
    · show (0 : ℕ) = (0 + a.val) / 512
      omega
    · show a.val = (0 + a.val) % 512
      omega
  · rw [vT2_at i harg4 x2 k hk]
    unfold value
    rw [dif_pos (by omega)]
    refine congrArg x2 (block_entry ?_ ?_)
    · show (1 : ℕ) = (0 + (512 + a.val)) / 512
      omega
    · show a.val = (0 + (512 + a.val)) % 512
      omega

/-- The odd block before the diagonal. -/
theorem inv_odd (hraw : ∀ κ, ∃ ρ : ℝ, raw x1 (qT arg9 X9 mi) mi q κ = ρ) (hc : k0_cond1 i = 1#1) (hi : 1 ≤ (i 1).val) {x : St Ideal}
    (h : InvAt (cOf (scOf mi)) (score i x1 (qT arg9 X9 mi) mi q) (value x2 mi r) (512 * ((i 1).val - 1)) x r q) :
    InvAt (cOf (scOf mi)) (score i x1 (qT arg9 X9 mi) mi q) (value x2 mi r) (512 * (i 1).val)
      (step1 i arg3 arg4 arg9 (harg3.unread x1) (harg4.unread x2) X9 hc mi x) r q := by
  have hlt := coord1_lt i
  have e : 512 * (i 1).val = 512 * ((i 1).val - 1) + 512 := by omega
  unfold step1
  rw [cexp_eq, e]
  refine h.upd1 (cOf_pos (scOf_pos mi)) (score_is i arg9 x1 X9 hraw) _ (fun a => ?_) _ (fun a => ?_)
    (score_real i arg9 x1 X9 hraw _ (by omega))
  · rw [score1_at]
    unfold score raw
    rw [if_pos (by omega), dif_pos (by omega)]
    exact Finset.sum_congr rfl fun x _ => congrArg (· * _) (kT1_at i harg3 x1 hc _ a x (by omega))
  · rw [vT1_at i harg4 x2 hc _ _ _ (by omega)]
    unfold value
    rw [dif_pos (by omega)]
    refine congrArg x2 (block_entry ?_ ?_)
    · show (i 1).val - 1 = (512 * ((i 1).val - 1) + a.val) / 512
      omega
    · show a.val = (512 * ((i 1).val - 1) + a.val) % 512
      omega

/-- The diagonal block. -/
theorem inv_diag (hraw : ∀ κ, ∃ ρ : ℝ, raw x1 (qT arg9 X9 mi) mi q κ = ρ) {x : St Ideal}
    (h : InvAt (cOf (scOf mi)) (score i x1 (qT arg9 X9 mi) mi q) (value x2 mi r) (512 * (i 1).val) x r q) :
    InvAt (cOf (scOf mi)) (score i x1 (qT arg9 X9 mi) mi q) (value x2 mi r) (512 * (i 1).val + 512)
      (step0 i arg3 arg4 arg9 (harg3.unread x1) (harg4.unread x2) X9 mi x) r q := by
  have hlt := coord1_lt i
  unfold step0
  rw [cexp_eq]
  refine h.upd1 (cOf_pos (scOf_pos mi)) (score_is i arg9 x1 X9 hraw) _ (fun a => ?_) _ (fun a => ?_)
    (score_real i arg9 x1 X9 hraw _ (by omega))
  · rw [masked_at, score1_at]
    unfold score raw
    by_cases hq : a.val ≤ q.val
    · rw [if_pos hq, if_pos (by omega), dif_pos (by omega)]
      exact Finset.sum_congr rfl fun x _ => congrArg (· * _) (kT0_at i harg3 x1 _ a x (by omega))
    · rw [if_neg hq, if_neg (by omega)]
  · rw [vT0_at i harg4 x2 _ _ _ hlt]
    unfold value
    rw [dif_pos (by omega)]
    refine congrArg x2 (block_entry ?_ ?_)
    · show (i 1).val = (512 * (i 1).val + a.val) / 512
      omega
    · show a.val = (512 * (i 1).val + a.val) % 512
      omega

end Steps

/-- What a slot holds after the stages before the diagonal (and the odd block). -/
theorem inv_base (mi : Fin 14) (q : Fin 512) (r : Fin 128)
    (hraw : ∀ κ, ∃ ρ : ℝ, raw x1 (qT arg9 (X9 c arg2 harg2 arg5 harg5 arg9 x0 x3) mi) mi q κ = ρ) :
    InvAt (cOf (scOf mi)) (score i x1 (qT arg9 (X9 c arg2 harg2 arg5 harg5 arg9 x0 x3) mi) mi q) (value x2 mi r) (1024 * (k0_t1_loop i).trips)
      (rdL arg10 arg11 arg12 (base c i arg2 harg2 arg3 harg3 arg4 harg4 arg5 harg5 arg6 harg6 arg7 harg7 arg8 harg8 arg9 harg9 arg10 harg10 arg11 harg11 arg12 harg12 x0 x1 x2 x3) mi) r q := by
  rcases trips_le i with h | h
  · rw [rd_base_none (h := h), h]
    exact InvAt.start _ _ _ r q
  · rw [rd_base_one (h := h)]
    have hi : 1024 ≤ 512 * (i 1).val := by
      by_cases hc : cond0_0 i
      · have := trips_odd i hc
        omega
      · have := trips_even i hc
        omega
    have := inv_pair (r := r) i arg3 harg3 arg4 harg4 arg9 x1 x2 (X9 c arg2 harg2 arg5 harg5 arg9 x0 x3) hraw ⟨0, by omega⟩ rfl hi
    rw [show 1024 * (k0_t1_loop i).trips = 1024 by omega]
    exact this

/-- A slot at the end, in its division: the map's softmax over the keys up to the query, weighing the values. -/
theorem slot_attend (mi : Fin 14) (q : Fin 512) (r : Fin 128) (x : St Ideal) (qm : Vec Ideal S1x128x512 .bf16)
    (hraw : ∀ κ, ∃ ρ : ℝ, raw x1 qm mi q κ = ρ)
    (h : InvAt (cOf (scOf mi)) (score i x1 qm mi q) (value x2 mi r) (512 * (i 1).val + 512) x r q) :
    Ideal.div (x.acc (ix3 0 r q)) (x.l (ix3 0 0 q))
      = attend (fun κ => score i x1 qm mi q κ.val * (scOf mi : EReal)) (fun κ => value x2 mi r κ.val) := by
  have hlt := coord1_lt i
  refine Inv.attend (scOf_pos mi) (by omega) (by omega) h (fun κ => ?_) ?_ (fun κ hκ => ?_) _ _ (fun _ => rfl) (fun _ => rfl)
  · unfold score
    split
    · exact .inr (hraw κ)
    · exact .inl rfl
  · unfold score
    rw [if_pos (Nat.zero_le _)]
    exact hraw 0
  · unfold score
    rw [if_neg (by omega)]

theorem slot_even (hc0 : ¬cond0_0 i) (mi : Fin 14) (q : Fin 512) (r : Fin 128)
    (hraw : ∀ κ, ∃ ρ : ℝ, raw x1 (qT arg9 (X9 c arg2 harg2 arg5 harg5 arg9 x0 x3) mi) mi q κ = ρ) :
    InvAt (cOf (scOf mi)) (score i x1 (qT arg9 (X9 c arg2 harg2 arg5 harg5 arg9 x0 x3) mi) mi q) (value x2 mi r) (512 * (i 1).val + 512)
      (rdL arg10 arg11 arg12 (seqL arg10 arg11 arg12 (stp0 c i arg2 harg2 arg3 harg3 arg4 harg4 arg5 harg5 arg9 x0 x1 x2 x3)
        (base c i arg2 harg2 arg3 harg3 arg4 harg4 arg5 harg5 arg6 harg6 arg7 harg7 arg8 harg8 arg9 harg9 arg10 harg10 arg11 harg11 arg12 harg12 x0 x1 x2 x3)) mi) r q := by
  rw [rd_seq]
  have h := inv_base c i arg2 harg2 arg3 harg3 arg4 harg4 arg5 harg5 arg6 harg6 arg7 harg7 arg8 harg8 arg9 harg9 arg10 harg10 arg11 harg11 arg12 harg12 x0 x1 x2 x3 mi q r hraw
  rw [trips_even i hc0] at h
  exact inv_diag i arg3 harg3 arg4 harg4 arg9 x1 x2 _ hraw h

theorem slot_odd (hc0 : cond0_0 i) (mi : Fin 14) (q : Fin 512) (r : Fin 128)
    (hraw : ∀ κ, ∃ ρ : ℝ, raw x1 (qT arg9 (X9 c arg2 harg2 arg5 harg5 arg9 x0 x3) mi) mi q κ = ρ) :
    InvAt (cOf (scOf mi)) (score i x1 (qT arg9 (X9 c arg2 harg2 arg5 harg5 arg9 x0 x3) mi) mi q) (value x2 mi r) (512 * (i 1).val + 512)
      (rdL arg10 arg11 arg12 (seqL arg10 arg11 arg12 (stp0 c i arg2 harg2 arg3 harg3 arg4 harg4 arg5 harg5 arg9 x0 x1 x2 x3)
        (seqL arg10 arg11 arg12 (stp1 c i arg2 harg2 arg3 harg3 arg4 harg4 arg5 harg5 arg9 x0 x1 x2 x3 hc0)
        (base c i arg2 harg2 arg3 harg3 arg4 harg4 arg5 harg5 arg6 harg6 arg7 harg7 arg8 harg8 arg9 harg9 arg10 harg10 arg11 harg11 arg12 harg12 x0 x1 x2 x3))) mi) r q := by
  rw [rd_seq, rd_seq]
  have h := inv_base c i arg2 harg2 arg3 harg3 arg4 harg4 arg5 harg5 arg6 harg6 arg7 harg7 arg8 harg8 arg9 harg9 arg10 harg10 arg11 harg11 arg12 harg12 x0 x1 x2 x3 mi q r hraw
  have ht := trips_odd i hc0
  rw [show 1024 * (k0_t1_loop i).trips = 512 * ((i 1).val - 1) by omega] at h
  exact inv_diag i arg3 harg3 arg4 harg4 arg9 x1 x2 _ hraw (inv_odd i arg3 harg3 arg4 harg4 arg9 x1 x2 _ hraw hc0 (by omega) h)

end Cert.KernelIdeal.Attn

end
-- ==== Proof.Ref.lean ====
module

public import proofs.«01_k».proof.Proof.Gen.ReferenceIdeal.Run
public import proofs.«01_k».proof.Proof.Online

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe
open Cert.KernelIdeal.Attn (attend)

variable {F : FTy → Type} [FloatOps F] [Named F]

/-! ## The reference in stages -/

/-- Which keys a query sees. -/
def seen : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The running sums of the log gates. -/
def cums (A3 : FVec F S16x2048x6 .f32) : FVec F S16x2048x6 .f32 :=
  Host.reduceWindowAdd ![1, 2048, 1] ![1, 1, 1] ![0, 2047, 0] ![0, 0, 0] A3 (broadcastInDim S_ ![] bcast_S_S_ (constant S_ .f32 0x00000000#32))
    reduceWindows_S16x2048x6_S16x2048x6_w1s1p0_0_w2048s1p2047_0_w1s1p0_0 h_S_

def foxRaw (A0 A1 : FVec F S16x2048x6x64 .f32) (C : FVec F S16x2048x6 .f32) : FVec F S16x6x2048x2048 .f32 :=
  subf (addf (mulf (Host.dotGeneral dot_S16x2048x6x64_S16x2048x6x64_S16x6x2048x2048_3_3_1_1_02_02 none A0 A1)
      (broadcastInDim S16x6x2048x2048 ![] bcast_S_S16x6x2048x2048 (constant S_ .f32 0x3E000000#32)))
      (broadcastInDim S16x6x2048x2048 ![0, 1, 2, 3] bcast_S16x6x2048x1_S16x6x2048x2048_0_1_2_3 (broadcastInDim S16x6x2048x1 ![0, 1, 2] bcast_S16x6x2048_S16x6x2048x1_0_1_2
        (transpose S16x6x2048 [0, 2, 1] C transposes_S16x2048x6_S16x6x2048_0_2_1))))
    (broadcastInDim S16x6x2048x2048 ![0, 1, 2, 3] bcast_S16x6x1x2048_S16x6x2048x2048_0_1_2_3 (broadcastInDim S16x6x1x2048 ![0, 1, 3] bcast_S16x6x2048_S16x6x1x2048_0_1_3
      (transpose S16x6x2048 [0, 2, 1] C transposes_S16x2048x6_S16x6x2048_0_2_1)))

def foxScore (raw : FVec F S16x6x2048x2048 .f32) : FVec F S16x6x2048x2048 .f32 :=
  select (broadcastInDim S16x6x2048x2048 ![2, 3] bcast_S2048x2048_S16x6x2048x2048_2_3 seen) raw
    (broadcastInDim S16x6x2048x2048 ![] bcast_S_S16x6x2048x2048 (id (constant S_ .f32 0xFF800000#32)))

def foxExp (s : FVec F S16x6x2048x2048 .f32) : FVec F S16x6x2048x2048 .f32 :=
  Host.exp (subf s (broadcastInDim S16x6x2048x2048 ![0, 1, 2, 3] bcast_S16x6x2048x1_S16x6x2048x2048_0_1_2_3
    (broadcastInDim S16x6x2048x1 ![0, 1, 2] bcast_S16x6x2048_S16x6x2048x1_0_1_2
      (maximumf (broadcastInDim S16x6x2048 ![] bcast_S_S16x6x2048 (constant S_ .f32 0xFF800000#32))
        (Host.reduce FloatOps.maximumf s (constant S_ .f32 0xFF800000#32) reducesTo_S16x6x2048x2048_S16x6x2048_d3 h_S_)))))

def foxOut (A2 : FVec F S16x2048x6x64 .f32) (e : FVec F S16x6x2048x2048 .f32) : FVec F S16x2048x6x64 .f32 :=
  transpose S16x2048x6x64 [0, 3, 1, 2] (Host.dotGeneral dot_S16x2048x6x64_S16x6x2048x2048_S16x6x64x2048_1_3_3_2_02_01 none A2
    (Host.divf e (broadcastInDim S16x6x2048x2048 ![0, 1, 2, 3] bcast_S16x6x2048x1_S16x6x2048x2048_0_1_2_3 (broadcastInDim S16x6x2048x1 ![0, 1, 2] bcast_S16x6x2048_S16x6x2048x1_0_1_2
      (Host.reduceAdd e (constant S_ .f32 0x00000000#32) reducesTo_S16x6x2048x2048_S16x6x2048_d3 h_S_))))) transposes_S16x6x64x2048_S16x2048x6x64_0_3_1_2

def diffScore (A4 A5 : FVec F S16x2048x4x2x32 .f32) : FVec F S16x4x2x2048x2048 .f32 :=
  select (broadcastInDim S16x4x2x2048x2048 ![3, 4] bcast_S2048x2048_S16x4x2x2048x2048_3_4 seen)
    (mulf (Host.dotGeneral dot_S16x2048x4x2x32_S16x2048x4x2x32_S16x4x2x2048x2048_4_4_1_1_023_023 none A4 A5)
      (broadcastInDim S16x4x2x2048x2048 ![] bcast_S_S16x4x2x2048x2048 (constant S_ .f32 0x3E3504F3#32)))
    (broadcastInDim S16x4x2x2048x2048 ![] bcast_S_S16x4x2x2048x2048 (id (constant S_ .f32 0xFF800000#32)))

def diffExp (s : FVec F S16x4x2x2048x2048 .f32) : FVec F S16x4x2x2048x2048 .f32 :=
  Host.exp (subf s (broadcastInDim S16x4x2x2048x2048 ![0, 1, 2, 3, 4] bcast_S16x4x2x2048x1_S16x4x2x2048x2048_0_1_2_3_4
    (broadcastInDim S16x4x2x2048x1 ![0, 1, 2, 3] bcast_S16x4x2x2048_S16x4x2x2048x1_0_1_2_3
      (maximumf (broadcastInDim S16x4x2x2048 ![] bcast_S_S16x4x2x2048 (constant S_ .f32 0xFF800000#32))
        (Host.reduce FloatOps.maximumf s (constant S_ .f32 0xFF800000#32) reducesTo_S16x4x2x2048x2048_S16x4x2x2048_d4 h_S_)))))

def diffPair (A6 : FVec F S16x2048x4x64 .f32) (e : FVec F S16x4x2x2048x2048 .f32) : FVec F S16x2048x4x2x64 .f32 :=
  transpose S16x2048x4x2x64 [0, 4, 1, 3, 2] (Host.dotGeneral dot_S16x2048x4x64_S16x4x2x2048x2048_S16x4x64x2x2048_1_4_3_23_02_01 none A6
    (Host.divf e (broadcastInDim S16x4x2x2048x2048 ![0, 1, 2, 3, 4] bcast_S16x4x2x2048x1_S16x4x2x2048x2048_0_1_2_3_4
      (broadcastInDim S16x4x2x2048x1 ![0, 1, 2, 3] bcast_S16x4x2x2048_S16x4x2x2048x1_0_1_2_3
        (Host.reduceAdd e (constant S_ .f32 0x00000000#32) reducesTo_S16x4x2x2048x2048_S16x4x2x2048_d4 h_S_))))) transposes_S16x4x64x2x2048_S16x2048x4x2x64_0_4_1_3_2

def lamR (A7 A8 A9 A10 : FVec F S32 .f32) : FVec F S_ .f32 :=
  addf (subf (Host.exp (Host.reduceAdd (mulf A7 A8) (constant S_ .f32 0x00000000#32) reducesTo_S32_S_d0 h_S_))
    (Host.exp (Host.reduceAdd (mulf A9 A10) (constant S_ .f32 0x00000000#32) reducesTo_S32_S_d0 h_S_))) (constant S_ .f32 0x3E4CCCCD#32)

def diffSub (lam : FVec F S_ .f32) (p : FVec F S16x2048x4x2x64 .f32) : FVec F S16x2048x4x64 .f32 :=
  subf (shapeCast _ (extractStridedSlice S16x2048x4x1x64 ![0, 0, 0, 0, 0] p slices_S16x2048x4x2x64_S16x2048x4x1x64_0_0_0_0_0) shapeCasts_S16x2048x4x1x64_S16x2048x4x64)
    (mulf (broadcastInDim S16x2048x4x64 ![] bcast_S_S16x2048x4x64 lam)
      (shapeCast _ (extractStridedSlice S16x2048x4x1x64 ![0, 0, 0, 1, 0] p slices_S16x2048x4x2x64_S16x2048x4x1x64_0_0_0_1_0) shapeCasts_S16x2048x4x1x64_S16x2048x4x64))

def diffOut (d : FVec F S16x2048x4x64 .f32) (A11 : FVec F S64 .f32) : FVec F S16x2048x4x64 .f32 :=
  mulf (mulf (mulf d (broadcastInDim S16x2048x4x64 ![0, 1, 2, 3] bcast_S16x2048x4x1_S16x2048x4x64_0_1_2_3
      (Host.rsqrt (addf (Host.divf (broadcastInDim S16x2048x4x1 ![0, 1, 2] bcast_S16x2048x4_S16x2048x4x1_0_1_2
        (Host.reduceAdd (mulf d d) (constant S_ .f32 0x00000000#32) reducesTo_S16x2048x4x64_S16x2048x4_d3 h_S_))
        (broadcastInDim S16x2048x4x1 ![] bcast_S_S16x2048x4x1 (constant S_ .f32 0x42800000#32)))
        (broadcastInDim S16x2048x4x1 ![] bcast_S_S16x2048x4x1 (constant S_ .f32 0x3727C5AC#32))))))
      (broadcastInDim S16x2048x4x64 ![0, 1, 2, 3] bcast_S1x1x1x64_S16x2048x4x64_0_1_2_3 (broadcastInDim S1x1x1x64 ![3] bcast_S64_S1x1x1x64_3 A11)))
    (broadcastInDim S16x2048x4x64 ![] bcast_S_S16x2048x4x64 (constant S_ .f32 0x3F4CCCCD#32))

def both (f : FVec F S16x2048x6x64 .f32) (d : FVec F S16x2048x4x64 .f32) : FVec F S16x2048x640 .bf16 :=
  truncf .bf16 (concatenate S16x2048x640 2 [⟨S16x2048x384, (shapeCast _ f shapeCasts_S16x2048x6x64_S16x2048x384)⟩,
    ⟨S16x2048x256, (shapeCast _ d shapeCasts_S16x2048x4x64_S16x2048x256)⟩] concatenates_S16x2048x384_S16x2048x256_S16x2048x640_d2) bitsLt_bf16_f32

/-- The reference of its twelve arguments. -/
def REF (A0 A1 A2 : FVec F S16x2048x6x64 .f32) (A3 : FVec F S16x2048x6 .f32) (A4 A5 : FVec F S16x2048x4x2x32 .f32) (A6 : FVec F S16x2048x4x64 .f32)
    (A7 A8 A9 A10 : FVec F S32 .f32) (A11 : FVec F S64 .f32) : FVec F S16x2048x640 .bf16 :=
  both (foxOut A2 (foxExp (foxScore (foxRaw A0 A1 (cums A3)))))
    (diffOut (diffSub (lamR A7 A8 A9 A10) (diffPair A6 (diffExp (diffScore A4 A5)))) A11)

theorem res_eq (m : (ℓ : Loc nD τ sig) → Buf (Elt F) ℓ) (c : Dev nD) : res_main_v82 m c
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  unfold res_main_v82
  rfl

end Cert.ReferenceIdeal.Attn

end
-- ==== Proof.Host.lean ====
module

public import proofs.«01_k».proof.Proof.Query
public import proofs.«01_k».proof.Proof.Ref

@[expose] public section

set_option maxRecDepth 16384

noncomputable section

namespace Cert.KernelIdeal.Attn

open Cert.KernelIdeal Cert.KernelIdeal.Gen Idealize.ShloMosaic Idealize.ShloMosaic.TcCoe
open Cert.ReferenceIdeal.Attn (cums)

variable (m : (ℓ : Loc nD τ sig) → Buf (Elt Ideal) ℓ) (c : Dev nD)

/-! ## The arguments -/

abbrev a0 : FVec Ideal S16x2048x6x64 .f32 := m ((c : Thread nD τ).loc main_arg0)
abbrev a1 : FVec Ideal S16x2048x6x64 .f32 := m ((c : Thread nD τ).loc main_arg1)
abbrev a2 : FVec Ideal S16x2048x6x64 .f32 := m ((c : Thread nD τ).loc main_arg2)
abbrev a3 : FVec Ideal S16x2048x6 .f32 := m ((c : Thread nD τ).loc main_arg3)
abbrev a4 : FVec Ideal S16x2048x4x2x32 .f32 := m ((c : Thread nD τ).loc main_arg4)
abbrev a5 : FVec Ideal S16x2048x4x2x32 .f32 := m ((c : Thread nD τ).loc main_arg5)
abbrev a6 : FVec Ideal S16x2048x4x64 .f32 := m ((c : Thread nD τ).loc main_arg6)
abbrev a7 : FVec Ideal S32 .f32 := m ((c : Thread nD τ).loc main_arg7)
abbrev a8 : FVec Ideal S32 .f32 := m ((c : Thread nD τ).loc main_arg8)
abbrev a9 : FVec Ideal S32 .f32 := m ((c : Thread nD τ).loc main_arg9)
abbrev a10 : FVec Ideal S32 .f32 := m ((c : Thread nD τ).loc main_arg10)
abbrev a11 : FVec Ideal S64 .f32 := m ((c : Thread nD τ).loc main_arg11)

/-! ## The arrays the host prepares -/

/-- What the buffers hold before the host joins the key columns, before it joins the four lambda rows. -/
abbrev beforeKeys : Valuation τ sig (Elt Ideal) :=
  StableHlo.after (hostOps0 ++ hostOps0_1.take 23) (fun b => m (c, b))
abbrev beforeLam : Valuation τ sig (Elt Ideal) :=
  StableHlo.after (hostOps0 ++ (hostOps0_1 ++ hostOps0_2)) (fun b => m (c, b))

theorem V_keys (b : Ref sig .tc) : V m c b = StableHlo.after (hostOps0_1.drop 23 ++ (hostOps0_2 ++ hostOps0_3)) (beforeKeys m c) b := by
  rw [← StableHlo.after_append]
  rfl
theorem V_lam (b : Ref sig .tc) : V m c b = StableHlo.after hostOps0_3 (beforeLam m c) b := by
  rw [← StableHlo.after_append]
  rfl

/-- The key columns joined: each head's 64, its three bias columns, three of one, zeros; then the second attention's. -/
def joinKeys (A1 : FVec Ideal S16x2048x6x64 .f32) (hi mid lo : FVec Ideal S16x2048x6x1 .f32) (one : FVec Ideal S16x2048x6x3 .f32)
    (zero : FVec Ideal S16x2048x6x58 .f32) (A5 : FVec Ideal S16x2048x4x2x32 .f32) : FVec Ideal S16x2048x1024 .bf16 :=
  truncf .bf16 (concatenate S16x2048x1024 2
    [⟨S16x2048x768, shapeCast S16x2048x768 (concatenate S16x2048x6x128 3
      [⟨S16x2048x6x64, A1⟩, ⟨S16x2048x6x1, hi⟩, ⟨S16x2048x6x1, mid⟩, ⟨S16x2048x6x1, lo⟩, ⟨S16x2048x6x3, one⟩, ⟨S16x2048x6x58, zero⟩]
      concatenates_S16x2048x6x64_S16x2048x6x1_S16x2048x6x1_S16x2048x6x1_S16x2048x6x3_S16x2048x6x58_S16x2048x6x128_d3)
      shapeCasts_S16x2048x6x128_S16x2048x768⟩,
     ⟨S16x2048x256, shapeCast S16x2048x256 A5 shapeCasts_S16x2048x4x2x32_S16x2048x256⟩]
    concatenates_S16x2048x768_S16x2048x256_S16x2048x1024_d2) bitsLt_bf16_f32

/-- The running sums in three parts, each a column. -/
def hiOf (C : FVec Ideal S16x2048x6 .f32) : FVec Ideal S16x2048x6 .f32 := extf .f32 (truncf .bf16 C bitsLt_bf16_f32) bitsLt_bf16_f32
def column (C : FVec Ideal S16x2048x6 .f32) : FVec Ideal S16x2048x6x1 .f32 :=
  broadcastInDim S16x2048x6x1 ![0, 1, 2] bcast_S16x2048x6_S16x2048x6x1_0_1_2 C

def keyCols (A1 : FVec Ideal S16x2048x6x64 .f32) (C : FVec Ideal S16x2048x6 .f32) (A5 : FVec Ideal S16x2048x4x2x32 .f32) :
    FVec Ideal S16x2048x1024 .bf16 :=
  joinKeys A1 (column (hiOf C)) (column (hiOf (subf C (hiOf C)))) (column (hiOf (subf (subf C (hiOf C)) (hiOf (subf C (hiOf C))))))
    (broadcastInDim S16x2048x6x3 ![] bcast_S_S16x2048x6x3 (constant S_ .f32 0x3F800000#32))
    (broadcastInDim S16x2048x6x58 ![] bcast_S_S16x2048x6x58 (constant S_ .f32 0x00000000#32)) A5

/-- The four vectors of the lambda, one per row. -/
def lamRows (A7 A8 A9 A10 : FVec Ideal S32 .f32) : FVec Ideal S4x32 .f32 :=
  concatenate S4x32 0 [⟨S1x32, broadcastInDim S1x32 ![1] bcast_S32_S1x32_1 A7⟩, ⟨S1x32, broadcastInDim S1x32 ![1] bcast_S32_S1x32_1 A8⟩,
    ⟨S1x32, broadcastInDim S1x32 ![1] bcast_S32_S1x32_1 A9⟩, ⟨S1x32, broadcastInDim S1x32 ![1] bcast_S32_S1x32_1 A10⟩]
    concatenates_S1x32_S1x32_S1x32_S1x32_S4x32_d0

theorem keys_read : (V m c main_v25 : FVec Ideal S16x2048x1024 .bf16) = keyCols (a1 m c) (cums (a3 m c))
    (a5 m c) := by
  have h : (V m c main_v25 : FVec Ideal S16x2048x1024 .bf16) = joinKeys (beforeKeys m c main_arg1) (beforeKeys m c main_v16)
      (beforeKeys m c main_v17) (beforeKeys m c main_v18) (beforeKeys m c main_v19) (beforeKeys m c main_v20) (beforeKeys m c main_arg5) := by
    rw [V_keys]
    generalize beforeKeys m c = σ
    simp only [hostOps0_1, hostOps0_2, hostOps0_3, List.drop_succ_cons, List.drop_zero, List.cons_append, List.nil_append,
      StableHlo.after_cons, StableHlo.after_nil]
    after_region_results
    rfl
  have h1 : (beforeKeys m c main_arg1 : FVec Ideal S16x2048x6x64 .f32) = a1 m c := by
    simp only [beforeKeys, hostOps0, hostOps0_1, List.take_succ_cons, List.take_zero, List.cons_append, List.nil_append]
    entry_read
    rfl
  have h5 : (beforeKeys m c main_arg5 : FVec Ideal S16x2048x4x2x32 .f32) = a5 m c := by
    simp only [beforeKeys, hostOps0, hostOps0_1, List.take_succ_cons, List.take_zero, List.cons_append, List.nil_append]
    entry_read
    rfl
  rw [h, h1, h5]
  have h16 : (beforeKeys m c main_v16 : FVec Ideal S16x2048x6x1 .f32) = column (hiOf (cums (a3 m c))) := by
    simp only [beforeKeys, hostOps0, hostOps0_1, List.take_succ_cons, List.take_zero, List.cons_append, List.nil_append]
    entry_read
    rfl
  have h17 : (beforeKeys m c main_v17 : FVec Ideal S16x2048x6x1 .f32) = column (hiOf (subf (cums (a3 m c)) (hiOf (cums (a3 m c))))) := by
    simp only [beforeKeys, hostOps0, hostOps0_1, List.take_succ_cons, List.take_zero, List.cons_append, List.nil_append]
    entry_read
    rfl
  have h18 : (beforeKeys m c main_v18 : FVec Ideal S16x2048x6x1 .f32) = column (hiOf (subf (subf (cums (a3 m c)) (hiOf (cums (a3 m c)))) (hiOf (subf (cums (a3 m c)) (hiOf (cums (a3 m c))))))) := by
    simp only [beforeKeys, hostOps0, hostOps0_1, List.take_succ_cons, List.take_zero, List.cons_append, List.nil_append]
    entry_read
    rfl
  have h19 : (beforeKeys m c main_v19 : FVec Ideal S16x2048x6x3 .f32) = broadcastInDim S16x2048x6x3 ![] bcast_S_S16x2048x6x3 (constant (F := Ideal) S_ .f32 0x3F800000#32) := by
    simp only [beforeKeys, hostOps0, hostOps0_1, List.take_succ_cons, List.take_zero, List.cons_append, List.nil_append]
    entry_read
    rfl
  have h20 : (beforeKeys m c main_v20 : FVec Ideal S16x2048x6x58 .f32) = broadcastInDim S16x2048x6x58 ![] bcast_S_S16x2048x6x58 (constant (F := Ideal) S_ .f32 0x00000000#32) := by
    simp only [beforeKeys, hostOps0, hostOps0_1, List.take_succ_cons, List.take_zero, List.cons_append, List.nil_append]
    entry_read
    rfl
  rw [h16, h17, h18, h19, h20]
  rfl

theorem lam_read : (V m c main_v38 : FVec Ideal S4x32 .f32) = lamRows (a7 m c) (a8 m c)
    (a9 m c) (a10 m c) := by
  have h : (V m c main_v38 : FVec Ideal S4x32 .f32) = lamRows (beforeLam m c main_arg7) (beforeLam m c main_arg8) (beforeLam m c main_arg9) (beforeLam m c main_arg10) := by
    rw [V_lam]
    generalize beforeLam m c = σ
    simp only [hostOps0_3, StableHlo.after_cons, StableHlo.after_nil]
    after_region_results
    rfl
  have h7 : V m c main_arg7 = beforeLam m c main_arg7 := by
    rw [V_lam]
    generalize beforeLam m c = σ
    simp only [hostOps0_3, StableHlo.after_cons, StableHlo.after_nil]
    after_region_results
  have h8 : V m c main_arg8 = beforeLam m c main_arg8 := by
    rw [V_lam]
    generalize beforeLam m c = σ
    simp only [hostOps0_3, StableHlo.after_cons, StableHlo.after_nil]
    after_region_results
  have h9 : V m c main_arg9 = beforeLam m c main_arg9 := by
    rw [V_lam]
    generalize beforeLam m c = σ
    simp only [hostOps0_3, StableHlo.after_cons, StableHlo.after_nil]
    after_region_results
  have h10 : V m c main_arg10 = beforeLam m c main_arg10 := by
    rw [V_lam]
    generalize beforeLam m c = σ
    simp only [hostOps0_3, StableHlo.after_cons, StableHlo.after_nil]
    after_region_results
  rw [h, ← h7, ← h8, ← h9, ← h10, V_main_arg7, V_main_arg8, V_main_arg9, V_main_arg10]

theorem cum_read : (V m c main_v33 : FVec Ideal S16x8x2048 .f32) = pad S16x8x2048 ![0, 0, 0] ![0, 2, 0] ![0, 0, 0]
    (transpose S16x6x2048 [0, 2, 1] (cums (a3 m c)) transposes_S16x2048x6_S16x6x2048_0_2_1)
    (sitofp (F := Ideal) .f32 (constantI S_ 32 0#32)) pads_S16x6x2048_S16x8x2048_000_020_000 h_S_ := by
  simp only [V, hostOps0, hostOps0_1, hostOps0_2, hostOps0_3, List.flatten_cons, List.flatten_nil, List.append_nil, List.cons_append, List.nil_append]
  entry_read
  rfl

/-! ## At an index -/

theorem q_at (b : Fin 16) (z : Fin 640) (s : Fin 2048) : (V m c main_v15 : FVec Ideal S16x640x2048 .bf16) (ix3 b z s)
    = if h : z.val < 384 then (a0 m c (ix4 b s ⟨z.val / 64, by omega⟩ ⟨z.val % 64, by omega⟩)) * Ideal.ofBits .f32 0x3E000000#32
      else a4 m c (ix5 b s ⟨(z.val - 384) / 64, by omega⟩ ⟨(z.val - 384) / 32 % 2, by omega⟩ ⟨(z.val - 384) % 32, by omega⟩) := by
  simp only [V, hostOps0, hostOps0_1, hostOps0_2, hostOps0_3, List.flatten_cons, List.flatten_nil, List.append_nil, List.cons_append, List.nil_append]
  entry_read
  pointwise

theorem v_at (b : Fin 16) (j : Fin 4) (z : Fin 640) (s : Fin 512) : (V m c main_v31 : FVec Ideal S16x4x640x512 .bf16) (ix4 b j z s)
    = if h : z.val < 384 then (a2 m c (ix4 b ⟨j.val * 512 + s.val, by omega⟩ ⟨z.val / 64, by omega⟩ ⟨z.val % 64, by omega⟩))
      else a6 m c (ix4 b ⟨j.val * 512 + s.val, by omega⟩ ⟨(z.val - 384) / 64, by omega⟩ ⟨(z.val - 384) % 64, by omega⟩) := by
  simp only [V, hostOps0, hostOps0_1, hostOps0_2, hostOps0_3, List.flatten_cons, List.flatten_nil, List.append_nil, List.cons_append, List.nil_append]
  entry_read
  pointwise

theorem g_at (x : Fin 128) : (V m c main_v42 : FVec Ideal S1x128 .f32) (ix2 0 x) = a11 m c (ix1 ⟨x.val % 64, by omega⟩) := by
  simp only [V, hostOps0, hostOps0_1, hostOps0_2, hostOps0_3, List.flatten_cons, List.flatten_nil, List.append_nil, List.cons_append, List.nil_append]
  entry_read
  pointwise

theorem cum_at (b : Fin 16) (hd : Fin 6) (s : Fin 2048) :
    (V m c main_v33 : FVec Ideal S16x8x2048 .f32) (ix3 b ⟨hd.val, by omega⟩ s) = cums (a3 m c) (ix3 b s hd) := by
  rw [cum_read]
  generalize cums (a3 m c) = C
  pointwise

theorem lamRows_at (A7 A8 A9 A10 : FVec Ideal S32 .f32) (p : Fin 4) (x : Fin 32) :
    lamRows A7 A8 A9 A10 (ix2 p x) = (![A7, A8, A9, A10] p) (ix1 x) := by
  fin_cases p <;> pointwise [lamRows]

/-- The column under a head's keys that meets the bias rows, by row. -/
def biasKey (b : EReal) (n : ℕ) : EReal :=
  if n = 0 then b else if n = 1 then b - b else if n = 2 then b - b - (b - b) else if n < 6 then 1 else 0

theorem keyCols_at (A1 C A5) (b : Fin 16) (s : Fin 2048) (z : Fin 1024) : keyCols A1 C A5 (ix3 b s z)
    = if h : z.val < 768 then
        if h1 : z.val % 128 < 64 then A1 (ix4 b s ⟨z.val / 128, by omega⟩ ⟨z.val % 128, by omega⟩)
        else biasKey (C (ix3 b s ⟨z.val / 128, by omega⟩)) (z.val % 128 - 64)
      else A5 (ix5 b s ⟨(z.val - 768) / 64, by omega⟩ ⟨(z.val - 768) / 32 % 2, by omega⟩ ⟨(z.val - 768) % 32, by omega⟩) := by
  unfold biasKey
  pointwise [keyCols, joinKeys, column, hiOf]
  split
  · split
    · rfl
    · (repeat' split) <;> first | rfl | omega
  · rfl

end Cert.KernelIdeal.Attn

end
-- ==== Proof.RefAt.lean ====
module

public import proofs.«01_k».proof.Proof.Ref
public import Idealize.ShloMosaic.Lib.Pipeline.ValueKit

@[expose] public section

set_option maxRecDepth 16384

noncomputable section

namespace Cert.ReferenceIdeal.Attn

open Cert.ReferenceIdeal Cert.ReferenceIdeal.Gen Idealize.ShloMosaic Idealize.ShloMosaic.TcCoe
open Cert.ReferenceIdeal.Value
open Cert.KernelIdeal.Attn (attend)

instance : Std.Commutative (α := Ideal .f32) (FloatOps.maximumf (F := Ideal) (φ := .f32)) := ⟨fun a b => max_comm (α := EReal) a b⟩
instance : Std.Associative (α := Ideal .f32) (FloatOps.maximumf (F := Ideal) (φ := .f32)) := ⟨fun a b c => max_assoc (α := EReal) a b c⟩

theorem ofBits_bot : Ideal.ofBits .f32 0xFF800000#32 = ⊥ := by simp [Ideal.ofBits, Ideal.ieee]

/-! ## The greatest of a row -/

theorem foxMax_at (s : FVec Ideal S16x6x2048x2048 .f32) (b : Fin 16) (h : Fin 6) (q : Fin 2048) :
    Host.reduce FloatOps.maximumf s (constant S_ .f32 0xFF800000#32) reducesTo_S16x6x2048x2048_S16x6x2048_d3 h_S_ (ix3 b h q)
      = (Finset.univ : Finset (Fin 2048)).fold max (⊥ : EReal) fun k => s (ix4 b h q k) := by
  have hr : S16x6x2048x2048.Reduces [3] S16x6x2048 := by decide
  rw [Host.reduce_eq_fold_single _ _ _ _ hr, ← ofBits_bot]
  refine congrArg (fun f => Finset.fold max (Ideal.ofBits .f32 0xFF800000#32) f Finset.univ) (funext fun k => ?_)
  exact congrArg s (funext fun a => by fin_cases a <;> rfl)

theorem diffMax_at (s : FVec Ideal S16x4x2x2048x2048 .f32) (b : Fin 16) (h : Fin 4) (p : Fin 2) (q : Fin 2048) :
    Host.reduce FloatOps.maximumf s (constant S_ .f32 0xFF800000#32) reducesTo_S16x4x2x2048x2048_S16x4x2x2048_d4 h_S_ (ix4 b h p q)
      = (Finset.univ : Finset (Fin 2048)).fold max (⊥ : EReal) fun k => s (ix5 b h p q k) := by
  have hr : S16x4x2x2048x2048.Reduces [4] S16x4x2x2048 := by decide
  rw [Host.reduce_eq_fold_single _ _ _ _ hr, ← ofBits_bot]
  refine congrArg (fun f => Finset.fold max (Ideal.ofBits .f32 0xFF800000#32) f Finset.univ) (funext fun k => ?_)
  exact congrArg s (funext fun a => by fin_cases a <;> rfl)

def subMax6 (s : FVec Ideal S16x6x2048x2048 .f32) (M : FVec Ideal S16x6x2048 .f32) : FVec Ideal S16x6x2048x2048 .f32 :=
  Host.exp (subf s (broadcastInDim S16x6x2048x2048 ![0, 1, 2, 3] bcast_S16x6x2048x1_S16x6x2048x2048_0_1_2_3
    (broadcastInDim S16x6x2048x1 ![0, 1, 2] bcast_S16x6x2048_S16x6x2048x1_0_1_2
      (maximumf (broadcastInDim S16x6x2048 ![] bcast_S_S16x6x2048 (constant S_ .f32 0xFF800000#32)) M))))

theorem subMax6_at (s : FVec Ideal S16x6x2048x2048 .f32) (M : FVec Ideal S16x6x2048 .f32) (b : Fin 16) (h : Fin 6) (q k : Fin 2048) :
    subMax6 s M (ix4 b h q k) = Ideal.exp (s (ix4 b h q k) - max (⊥ : EReal) (M (ix3 b h q))) := by
  rw [← ofBits_bot]
  pointwise [subMax6]

def subMax4 (s : FVec Ideal S16x4x2x2048x2048 .f32) (M : FVec Ideal S16x4x2x2048 .f32) : FVec Ideal S16x4x2x2048x2048 .f32 :=
  Host.exp (subf s (broadcastInDim S16x4x2x2048x2048 ![0, 1, 2, 3, 4] bcast_S16x4x2x2048x1_S16x4x2x2048x2048_0_1_2_3_4
    (broadcastInDim S16x4x2x2048x1 ![0, 1, 2, 3] bcast_S16x4x2x2048_S16x4x2x2048x1_0_1_2_3
      (maximumf (broadcastInDim S16x4x2x2048 ![] bcast_S_S16x4x2x2048 (constant S_ .f32 0xFF800000#32)) M))))

theorem subMax4_at (s : FVec Ideal S16x4x2x2048x2048 .f32) (M : FVec Ideal S16x4x2x2048 .f32) (b : Fin 16) (h : Fin 4) (p : Fin 2) (q k : Fin 2048) :
    subMax4 s M (ix5 b h p q k) = Ideal.exp (s (ix5 b h p q k) - max (⊥ : EReal) (M (ix4 b h p q))) := by
  rw [← ofBits_bot]
  pointwise [subMax4]

/-! ## Sums that stay real -/

theorem foldl_real {ι : Type*} (l : List ι) (f : ι → EReal) (hf : ∀ k, ∃ r : ℝ, f k = r) (a : EReal) (ha : ∃ r : ℝ, a = r) :
    ∃ r : ℝ, l.foldl (fun a k => a + f k) a = r := by
  induction l generalizing a with
  | nil => exact ha
  | cons k l ih =>
    obtain ⟨r, h⟩ := ha
    obtain ⟨r', h'⟩ := hf k
    exact ih _ ⟨r + r', by show a + f k = _; rw [h, h', EReal.coe_add]⟩

theorem cums_real (A : FVec Ideal S16x2048x6 .f32) (hA : ∀ i, ∃ r : ℝ, (A i : EReal) = r) (i : S16x2048x6.Idx) :
    ∃ r : ℝ, (cums A i : EReal) = r := by
  unfold cums Host.reduceWindowAdd
  rw [Ideal.hostReduceWindowAdd_def]
  unfold Ideal.hostReduceWindowAdd Host.reduceWindow
  have h0 : ∃ r : ℝ, (Ideal.ofBits .f32 0x00000000#32 : EReal) = r := ⟨0, by simp⟩
  refine foldl_real _ _ (fun n => ?_) _ h0
  split
  · exact hA _
  · exact h0

/-! ## The stages at an index -/

theorem foxExp_at (s : FVec Ideal S16x6x2048x2048 .f32) (b : Fin 16) (h : Fin 6) (q k : Fin 2048) :
    foxExp s (ix4 b h q k) = Ideal.exp (s (ix4 b h q k) - max ⊥ ((Finset.univ : Finset (Fin 2048)).fold max (⊥ : EReal) fun k => s (ix4 b h q k))) := by
  rw [← foxMax_at]
  exact subMax6_at s _ b h q k

theorem diffExp_at (s : FVec Ideal S16x4x2x2048x2048 .f32) (b : Fin 16) (h : Fin 4) (p : Fin 2) (q k : Fin 2048) :
    diffExp s (ix5 b h p q k) = Ideal.exp (s (ix5 b h p q k) - max ⊥ ((Finset.univ : Finset (Fin 2048)).fold max (⊥ : EReal) fun k => s (ix5 b h p q k))) := by
  rw [← diffMax_at]
  exact subMax4_at s _ b h p q k

theorem foxScore_at (A0 A1 : FVec Ideal S16x2048x6x64 .f32) (C : FVec Ideal S16x2048x6 .f32) (b : Fin 16) (h : Fin 6) (q k : Fin 2048) :
    foxScore (foxRaw A0 A1 C) (ix4 b h q k) = Scalar.select (IntOp.cmpi .sle (BitVec.ofNat 32 k.val) (BitVec.ofNat 32 q.val))
      ((∑ x, A0 (ix4 b q h x) * A1 (ix4 b k h x)) * Ideal.ofBits .f32 0x3E000000#32 + C (ix3 b q h) - C (ix3 b k h)) (⊥ : EReal) := by
  rw [← ofBits_bot]
  pointwise [foxScore, foxRaw, seen]
  rfl

theorem diffScore_at (A4 A5 : FVec Ideal S16x2048x4x2x32 .f32) (b : Fin 16) (h : Fin 4) (p : Fin 2) (q k : Fin 2048) :
    diffScore A4 A5 (ix5 b h p q k) = Scalar.select (IntOp.cmpi .sle (BitVec.ofNat 32 k.val) (BitVec.ofNat 32 q.val))
      ((∑ x, A4 (ix5 b q h p x) * A5 (ix5 b k h p x)) * Ideal.ofBits .f32 0x3E3504F3#32) (⊥ : EReal) := by
  rw [← ofBits_bot]
  pointwise [diffScore, seen]
  rfl

theorem foxOut_at (A2 : FVec Ideal S16x2048x6x64 .f32) (s : FVec Ideal S16x6x2048x2048 .f32) (b : Fin 16) (h : Fin 6) (q : Fin 2048) (d : Fin 64) :
    foxOut A2 (foxExp s) (ix4 b q h d) = attend (fun k => s (ix4 b h q k)) (fun k => A2 (ix4 b k h d)) := by
  have e : foxOut A2 (foxExp s) (ix4 b q h d)
      = ∑ x, A2 (ix4 b x h d) * Ideal.div (foxExp s (ix4 b h q x)) (∑ x, foxExp s (ix4 b h q x)) := by
    pointwise [foxOut]
  rw [e]
  unfold attend
  simp only [foxExp_at]

theorem diffPair_at (A6 : FVec Ideal S16x2048x4x64 .f32) (s : FVec Ideal S16x4x2x2048x2048 .f32) (b : Fin 16) (h : Fin 4) (p : Fin 2) (q : Fin 2048) (d : Fin 64) :
    diffPair A6 (diffExp s) (ix5 b q h p d) = attend (fun k => s (ix5 b h p q k)) (fun k => A6 (ix4 b k h d)) := by
  have e : diffPair A6 (diffExp s) (ix5 b q h p d)
      = ∑ x, A6 (ix4 b x h d) * Ideal.div (diffExp s (ix5 b h p q x)) (∑ x, diffExp s (ix5 b h p q x)) := by
    pointwise [diffPair]
  rw [e]
  unfold attend
  simp only [diffExp_at]

theorem lamR_at (A7 A8 A9 A10 : FVec Ideal S32 .f32) :
    lamR A7 A8 A9 A10 ix0 = Ideal.exp (∑ x, A7 (ix1 x) * A8 (ix1 x)) - Ideal.exp (∑ x, A9 (ix1 x) * A10 (ix1 x)) + Ideal.ofBits .f32 0x3E4CCCCD#32 := by
  pointwise [lamR]

theorem diffSub_at (lam : FVec Ideal S_ .f32) (P : FVec Ideal S16x2048x4x2x64 .f32) (b : Fin 16) (h : Fin 4) (q : Fin 2048) (d : Fin 64) :
    diffSub lam P (ix4 b q h d) = P (ix5 b q h 0 d) - lam ix0 * P (ix5 b q h 1 d) := by
  pointwise [diffSub]

/-- A vector of 64 over its root mean square, times the scale and 0.8. -/
def norm64 (D : Fin 64 → EReal) (g : Fin 64 → EReal) (d : Fin 64) : EReal :=
  D d * Ideal.rsqrt (Ideal.div (∑ x, D x * D x) (Ideal.ofBits .f32 0x42800000#32) + Ideal.ofBits .f32 0x3727C5AC#32) * g d
    * Ideal.ofBits .f32 0x3F4CCCCD#32

theorem diffOut_at (A : FVec Ideal S16x2048x4x64 .f32) (g : FVec Ideal S64 .f32) (b : Fin 16) (h : Fin 4) (q : Fin 2048) (d : Fin 64) :
    diffOut A g (ix4 b q h d) = norm64 (fun d => A (ix4 b q h d)) (fun d => g (ix1 d)) d := by
  pointwise [diffOut, norm64]

theorem both_at (A : FVec Ideal S16x2048x6x64 .f32) (B : FVec Ideal S16x2048x4x64 .f32) (b : Fin 16) (q : Fin 2048) (z : Fin 640) :
    both A B (ix3 b q z) = if h : z.val < 384 then A (ix4 b q ⟨z.val / 64, by omega⟩ ⟨z.val % 64, by omega⟩)
      else B (ix4 b q ⟨(z.val - 384) / 64, by omega⟩ ⟨(z.val - 384) % 64, by omega⟩) := by
  pointwise [both]

end Cert.ReferenceIdeal.Attn

end
-- ==== Proof.Score.lean ====
module

public import proofs.«01_k».proof.Proof.Slot
public import proofs.«01_k».proof.Proof.Host
public import proofs.«01_k».proof.Proof.RefAt

@[expose] public section

set_option maxRecDepth 16384

noncomputable section

namespace Cert.KernelIdeal.Attn

open Cert.KernelIdeal Cert.KernelIdeal.Gen Idealize.ShloMosaic Idealize.ShloMosaic.TcCoe
open Cert.ReferenceIdeal.Attn

/-! ## The two sums over 128 columns -/

/-- The bias rows meet the bias columns in two terms. -/
theorem bias_term (u w : ℝ) (n : Fin 64) :
    biasKey (w : EReal) n.val * bias (u : EReal) n.val = (((if n = 0 then -w else 0) + (if n = 3 then u else 0) : ℝ) : EReal) := by
  have e0 : n = 0 ↔ n.val = 0 := Fin.ext_iff
  have e3 : n = 3 ↔ n.val = 3 := Fin.ext_iff
  have zw : (w : EReal) - w = ((0 : ℝ) : EReal) := by rw [← EReal.coe_sub, sub_self]
  have zu : (u : EReal) - u = ((0 : ℝ) : EReal) := by rw [← EReal.coe_sub, sub_self]
  have z0 : ((0 : ℝ) : EReal) - ((0 : ℝ) : EReal) = ((0 : ℝ) : EReal) := by rw [← EReal.coe_sub, sub_self]
  have one : (1 : EReal) = ((1 : ℝ) : EReal) := rfl
  have zero : (0 : EReal) = ((0 : ℝ) : EReal) := rfl
  unfold biasKey bias
  rw [zw, zu, z0, one, zero]
  simp only [e0, e3]
  split_ifs <;> first | omega | (rw [← EReal.coe_mul]; congr 1; ring)

theorem fox_sum (fq fk : Fin 64 → ℝ) (u w e : ℝ) (K Q : Fin 128 → EReal) (hK1 : ∀ x : Fin 64, K ⟨x.val, by omega⟩ = fk x)
    (hK2 : ∀ x : Fin 64, K ⟨64 + x.val, by omega⟩ = biasKey (w : EReal) x.val) (hQ1 : ∀ x : Fin 64, Q ⟨x.val, by omega⟩ = fq x * e)
    (hQ2 : ∀ x : Fin 64, Q ⟨64 + x.val, by omega⟩ = bias (u : EReal) x.val) :
    ∑ x, K x * Q x = (((∑ x, fq x * fk x) * e + u - w : ℝ) : EReal) := by
  have h1 : ∀ x : Fin 64, K (Fin.castAdd 64 x) * Q (Fin.castAdd 64 x) = ((fq x * fk x * e : ℝ) : EReal) := fun x => by
    refine (congr (congrArg (· * ·) (hK1 x)) (hQ1 x)).trans ?_
    rw [← EReal.coe_mul, ← EReal.coe_mul]
    congr 1
    ring
  have h2 : ∀ x : Fin 64, K (Fin.natAdd 64 x) * Q (Fin.natAdd 64 x) = (((if x = 0 then -w else 0) + (if x = 3 then u else 0) : ℝ) : EReal) := fun x =>
    (congr (congrArg (· * ·) (hK2 x)) (hQ2 x)).trans (bias_term u w x)
  rw [Fin.sum_univ_add (a := 64) (b := 64)]
  simp only [h1, h2]
  rw [sum_coe, sum_coe, ← EReal.coe_add]
  congr 1
  rw [Finset.sum_add_distrib, Finset.sum_ite_eq' , Finset.sum_ite_eq', ← Finset.sum_mul]
  simp
  ring

/-- Of 128 columns a quarter's 32 count. -/
theorem quarter_sum (p : Fin 4) (K Q : Fin 128 → EReal) :
    ∑ x, K x * (if x.val / 32 = p.val then Q x else 0) = ∑ y : Fin 32, K ⟨32 * p.val + y.val, by omega⟩ * Q ⟨32 * p.val + y.val, by omega⟩ := by
  rw [← (finProdFinEquiv (m := 4) (n := 32)).sum_comp, Fintype.sum_prod_type]
  rw [Finset.sum_eq_single p]
  · refine Finset.sum_congr rfl fun y _ => ?_
    have e : finProdFinEquiv (p, y) = (⟨32 * p.val + y.val, by omega⟩ : Fin 128) := Fin.ext (by
      show y.val + 32 * p.val = _
      exact Nat.add_comm _ _)
    rw [e, if_pos (by show (32 * p.val + y.val) / 32 = p.val; omega)]
  · intro a _ ha
    refine Finset.sum_eq_zero fun y _ => ?_
    rw [if_neg, mul_zero]
    intro h
    refine ha (Fin.ext ?_)
    have h : (y.val + 32 * a.val) / 32 = p.val := h
    omega
  · exact fun h => absurd (Finset.mem_univ p) h

theorem eighth : Ideal.ofBits .f32 0x3E000000#32 = ((1 / 8 : ℝ) : EReal) := by
  simp [Ideal.ofBits, Ideal.ieee]
  rw [← EReal.coe_mul]
  norm_num

theorem pair_scale : Ideal.ofBits .f32 0x3E3504F3#32 = ((11863283 / 67108864 : ℝ) : EReal) := by
  simp [Ideal.ofBits, Ideal.ieee]
  rw [← EReal.coe_mul]
  norm_num

theorem kgr_head : ∀ hd : Fin 6, (kgr ⟨hd.val, by omega⟩).val = hd.val := by decide +kernel
theorem kgr_diff : ∀ (g : Fin 2) (p : Fin 4), (kgr ⟨6 + 4 * g.val + p.val, by omega⟩).val = 6 + g.val := by decide +kernel

/-! ## The blocks of a point, in terms of the arguments -/

/-- The query's position in its batch. -/
def pos (i : grid0.Coords) (q : Fin 512) : Fin 2048 := ⟨512 * (i 1).val + q.val, by have := coord1_lt i; omega⟩

/-- What the blocks of a point of batch `b` hold. -/
structure Blocks (A0 A1 A2 : FVec Ideal S16x2048x6x64 .f32) (A3 : FVec Ideal S16x2048x6 .f32) (A4 A5 : FVec Ideal S16x2048x4x2x32 .f32)
    (A6 : FVec Ideal S16x2048x4x64 .f32) (b : Fin 16) (i : grid0.Coords)
    (x0 : Vec Ideal S1x640x512 .bf16) (x1 : Vec Ideal S1x2048x1024 .bf16) (x2 : Vec Ideal S1x4x640x512 .bf16) (x3 : Vec Ideal S1x8x512 .f32) : Prop where
  q : ∀ (z : Fin 640) (q : Fin 512), x0 (ix3 0 z q)
    = if h : z.val < 384 then A0 (ix4 b (pos i q) ⟨z.val / 64, by omega⟩ ⟨z.val % 64, by omega⟩) * Ideal.ofBits .f32 0x3E000000#32
      else A4 (ix5 b (pos i q) ⟨(z.val - 384) / 64, by omega⟩ ⟨(z.val - 384) / 32 % 2, by omega⟩ ⟨(z.val - 384) % 32, by omega⟩)
  k : ∀ (s : Fin 2048) (z : Fin 1024), x1 (ix3 0 s z) = keyCols A1 (cums A3) A5 (ix3 b s z)
  v : ∀ (j : Fin 4) (z : Fin 640) (s : Fin 512), x2 (ix4 0 j z s)
    = if h : z.val < 384 then A2 (ix4 b ⟨j.val * 512 + s.val, by omega⟩ ⟨z.val / 64, by omega⟩ ⟨z.val % 64, by omega⟩)
      else A6 (ix4 b ⟨j.val * 512 + s.val, by omega⟩ ⟨(z.val - 384) / 64, by omega⟩ ⟨(z.val - 384) % 64, by omega⟩)
  c : ∀ (hd : Fin 6) (q : Fin 512), x3 (ix3 0 ⟨hd.val, by omega⟩ q) = cums A3 (ix3 b (pos i q) hd)

section

variable {A0 A1 A2 : FVec Ideal S16x2048x6x64 .f32} {A3 : FVec Ideal S16x2048x6 .f32} {A4 A5 : FVec Ideal S16x2048x4x2x32 .f32}
variable {A6 : FVec Ideal S16x2048x4x64 .f32} {b : Fin 16} {i : grid0.Coords}
variable {x0 : Vec Ideal S1x640x512 .bf16} {x1 : Vec Ideal S1x2048x1024 .bf16} {x2 : Vec Ideal S1x4x640x512 .bf16} {x3 : Vec Ideal S1x8x512 .f32}
variable (B : Blocks A0 A1 A2 A3 A4 A5 A6 b i x0 x1 x2 x3)

include B

theorem Blocks.k_head (hd : Fin 6) (s : Fin 2048) (x : Fin 64) (z : Fin 1024) (hz : z.val = 128 * hd.val + x.val) :
    x1 (ix3 0 s z) = A1 (ix4 b s hd x) := by
  rw [B.k, keyCols_at, dif_pos (by omega), dif_pos (by omega)]
  congr 2 <;> apply Fin.ext
  · show z.val / 128 = hd.val
    omega
  · show z.val % 128 = x.val
    omega

theorem Blocks.k_bias (hd : Fin 6) (s : Fin 2048) (x : Fin 64) (z : Fin 1024) (hz : z.val = 128 * hd.val + (64 + x.val)) :
    x1 (ix3 0 s z) = biasKey (cums A3 (ix3 b s hd)) x.val := by
  rw [B.k, keyCols_at, dif_pos (by omega), dif_neg (by omega)]
  have e1 : (⟨z.val / 128, by omega⟩ : Fin 6) = hd := Fin.ext (by show z.val / 128 = hd.val; omega)
  have e2 : z.val % 128 - 64 = x.val := by omega
  exact congr (congrArg biasKey (congrArg (fun e => cums A3 (ix3 b s e)) e1)) e2

theorem Blocks.k_pair (h : Fin 4) (p : Fin 2) (s : Fin 2048) (x : Fin 32) (z : Fin 1024) (hz : z.val = 768 + 64 * h.val + 32 * p.val + x.val) :
    x1 (ix3 0 s z) = A5 (ix5 b s h p x) := by
  rw [B.k, keyCols_at, dif_neg (by omega)]
  congr 2 <;> apply Fin.ext
  · show (z.val - 768) / 64 = h.val
    omega
  · show (z.val - 768) / 32 % 2 = p.val
    omega
  · show (z.val - 768) % 32 = x.val
    omega

theorem Blocks.q_head (hd : Fin 6) (q : Fin 512) (x : Fin 64) (z : Fin 640) (hz : z.val = 64 * hd.val + x.val) :
    x0 (ix3 0 z q) = A0 (ix4 b (pos i q) hd x) * Ideal.ofBits .f32 0x3E000000#32 := by
  rw [B.q, dif_pos (by omega)]
  congr 3 <;> apply Fin.ext
  · show z.val / 64 = hd.val
    omega
  · show z.val % 64 = x.val
    omega

theorem Blocks.q_pair (h : Fin 4) (p : Fin 2) (q : Fin 512) (x : Fin 32) (z : Fin 640) (hz : z.val = 384 + 64 * h.val + 32 * p.val + x.val) :
    x0 (ix3 0 z q) = A4 (ix5 b (pos i q) h p x) := by
  rw [B.q, dif_neg (by omega)]
  congr 2 <;> apply Fin.ext
  · show (z.val - 384) / 64 = h.val
    omega
  · show (z.val - 384) / 32 % 2 = p.val
    omega
  · show (z.val - 384) % 32 = x.val
    omega

theorem Blocks.v_head (mi : Fin 14) (r : Fin 128) (hd : Fin 6) (d : Fin 64) (hz : 128 * (vgr mi).val + r.val = 64 * hd.val + d.val) (κ : Fin 2048) :
    value x2 mi r κ.val = A2 (ix4 b κ hd d) := by
  unfold value
  rw [dif_pos κ.isLt, B.v, dif_pos (by show 128 * (vgr mi).val + r.val < 384; omega)]
  congr 2 <;> apply Fin.ext
  · show κ.val / 512 * 512 + κ.val % 512 = κ.val
    omega
  · show (128 * (vgr mi).val + r.val) / 64 = hd.val
    omega
  · show (128 * (vgr mi).val + r.val) % 64 = d.val
    omega

theorem Blocks.v_pair (mi : Fin 14) (r : Fin 128) (h : Fin 4) (d : Fin 64) (hz : 128 * (vgr mi).val + r.val = 384 + 64 * h.val + d.val) (κ : Fin 2048) :
    value x2 mi r κ.val = A6 (ix4 b κ h d) := by
  unfold value
  rw [dif_pos κ.isLt, B.v, dif_neg (by show ¬128 * (vgr mi).val + r.val < 384; omega)]
  congr 2 <;> apply Fin.ext
  · show κ.val / 512 * 512 + κ.val % 512 = κ.val
    omega
  · show (128 * (vgr mi).val + r.val - 384) / 64 = h.val
    omega
  · show (128 * (vgr mi).val + r.val - 384) % 64 = d.val
    omega

/-! ## The slots' scores -/

variable (c : Dev nD)
variable (arg2 : Memref sig .tc .vmem S1x640x512 .bf16) (harg2 : arg2.IsWhole) (arg5 : Memref sig .tc .vmem S1x8x512 .f32) (harg5 : arg5.IsWhole)
variable (arg9 : Memref sig .tc .vmem S14x128x512 .bf16)
variable {f0 f1 : S16x2048x6x64.Idx → ℝ} {fc : S16x2048x6.Idx → ℝ} {f4 f5 : S16x2048x4x2x32.Idx → ℝ}

theorem Blocks.fox_raw (r0 : ∀ j, A0 j = (f0 j : EReal)) (r1 : ∀ j, A1 j = (f1 j : EReal)) (rc : ∀ j, cums A3 j = (fc j : EReal))
    (hd : Fin 6) (q : Fin 512) (κ : Fin 2048) :
    raw x1 (qT arg9 (X9 c arg2 harg2 arg5 harg5 arg9 x0 x3) ⟨hd.val, by omega⟩) ⟨hd.val, by omega⟩ q κ.val
      = (((∑ x, f0 (ix4 b (pos i q) hd x) * f1 (ix4 b κ hd x)) * (1 / 8) + fc (ix3 b (pos i q) hd) - fc (ix3 b κ hd) : ℝ) : EReal) := by
  have hk : (kgr ⟨hd.val, by omega⟩).val = hd.val := kgr_head hd
  unfold raw
  rw [dif_pos κ.isLt]
  refine fox_sum (fun x => f0 (ix4 b (pos i q) hd x)) (fun x => f1 (ix4 b κ hd x)) _ _ _ _ _ (fun x => ?_) (fun x => ?_) (fun x => ?_) (fun x => ?_)
  · exact (B.k_head hd κ x _ (by show 128 * (kgr _).val + x.val = _; rw [hk])).trans (r1 _)
  · exact (B.k_bias hd κ x _ (by show 128 * (kgr _).val + (64 + x.val) = _; rw [hk])).trans (by rw [rc])
  · rw [qT_head_up c arg2 harg2 arg5 harg5 arg9 x0 x3 hd x q, B.q_head hd q x _ rfl, r0, eighth]
  · rw [qT_head_lo c arg2 harg2 arg5 harg5 arg9 x0 x3 hd x q, B.c, rc]

theorem Blocks.diff_raw (r4 : ∀ j, A4 j = (f4 j : EReal)) (r5 : ∀ j, A5 j = (f5 j : EReal))
    (g : Fin 2) (p : Fin 4) (h : Fin 4) (pp : Fin 2) (hp : 2 * h.val + pp.val = 4 * g.val + p.val) (q : Fin 512) (κ : Fin 2048) :
    raw x1 (qT arg9 (X9 c arg2 harg2 arg5 harg5 arg9 x0 x3) ⟨6 + 4 * g.val + p.val, by omega⟩) ⟨6 + 4 * g.val + p.val, by omega⟩ q κ.val
      = ((∑ x, f4 (ix5 b (pos i q) h pp x) * f5 (ix5 b κ h pp x) : ℝ) : EReal) := by
  have hk : (kgr ⟨6 + 4 * g.val + p.val, by omega⟩).val = 6 + g.val := kgr_diff g p
  unfold raw
  rw [dif_pos κ.isLt]
  simp only [qT_quarter c arg2 harg2 arg5 harg5 arg9 x0 x3 g p]
  refine (quarter_sum p (fun x => x1 (ix3 0 _ ⟨128 * (kgr ⟨6 + 4 * g.val + p.val, by omega⟩).val + x.val, _⟩)) (fun x => x0 (ix3 0 ⟨384 + 128 * g.val + x.val, by omega⟩ q))).trans ?_
  rw [← sum_coe]
  refine Finset.sum_congr rfl fun x _ => ?_
  have e1 := B.k_pair h pp κ x ⟨128 * (kgr ⟨6 + 4 * g.val + p.val, by omega⟩).val + (32 * p.val + x.val), by omega⟩
    (by show 128 * (kgr ⟨6 + 4 * g.val + p.val, _⟩).val + (32 * p.val + x.val) = _; rw [hk]; omega)
  have e2 := B.q_pair h pp q x ⟨384 + 128 * g.val + (32 * p.val + x.val), by omega⟩ (by show 384 + 128 * g.val + (32 * p.val + x.val) = _; omega)
  refine (congr (congrArg (· * ·) e1) e2).trans ?_
  rw [r4, r5, ← EReal.coe_mul, mul_comm]

/-- A softmax slot's quotient is the reference's attention output. -/
theorem Blocks.fox_slot (r0 : ∀ j, A0 j = (f0 j : EReal)) (r1 : ∀ j, A1 j = (f1 j : EReal)) (rc : ∀ j, cums A3 j = (fc j : EReal))
    (hd : Fin 6) (q : Fin 512) (r : Fin 128) (d : Fin 64) (st : St Ideal) (hv : 128 * (vgr ⟨hd.val, by omega⟩).val + r.val = 64 * hd.val + d.val)
    (h : InvAt (cOf (scOf ⟨hd.val, by omega⟩)) (score i x1 (qT arg9 (X9 c arg2 harg2 arg5 harg5 arg9 x0 x3) ⟨hd.val, by omega⟩) ⟨hd.val, by omega⟩ q)
      (value x2 ⟨hd.val, by omega⟩ r) (512 * (i 1).val + 512) st r q) :
    Ideal.div (st.acc (ix3 0 r q)) (st.l (ix3 0 0 q)) = foxOut A2 (foxExp (foxScore (foxRaw A0 A1 (cums A3)))) (ix4 b (pos i q) hd d) := by
  rw [foxOut_at, slot_attend i x1 x2 ⟨hd.val, by omega⟩ q r st _ (fun κ => ?_) h]
  · refine congr (congrArg attend (funext fun κ => ?_)) (funext fun κ => B.v_head _ r hd d hv κ)
    have hs : scOf ⟨hd.val, by omega⟩ = 1 := if_pos hd.isLt
    rw [hs, EReal.coe_one, mul_one, foxScore_at, sle_nat _ _ κ.isLt (pos i q).isLt]
    unfold score
    rw [B.fox_raw c arg2 harg2 arg5 harg5 arg9 r0 r1 rc hd q κ]
    show _ = Scalar.select (if κ.val ≤ 512 * (i 1).val + q.val then 1#1 else 0#1) _ _
    split
    · simp only [r0, r1, rc, ← EReal.coe_mul]
      rw [sum_coe, eighth, ← EReal.coe_mul, ← EReal.coe_add, ← EReal.coe_sub]
      rfl
    · rfl
  · by_cases hκ : κ < 2048
    · exact ⟨_, B.fox_raw c arg2 harg2 arg5 harg5 arg9 r0 r1 rc hd q ⟨κ, hκ⟩⟩
    · exact ⟨0, by unfold raw; rw [dif_neg hκ]; rfl⟩

/-- A difference slot's quotient is the reference's attention output. -/
theorem Blocks.diff_slot (r4 : ∀ j, A4 j = (f4 j : EReal)) (r5 : ∀ j, A5 j = (f5 j : EReal))
    (g : Fin 2) (p : Fin 4) (h : Fin 4) (pp : Fin 2) (hp : 2 * h.val + pp.val = 4 * g.val + p.val) (q : Fin 512) (r : Fin 128) (d : Fin 64) (st : St Ideal)
    (hv : 128 * (vgr ⟨6 + 4 * g.val + p.val, by omega⟩).val + r.val = 384 + 64 * h.val + d.val)
    (hi : InvAt (cOf (scOf ⟨6 + 4 * g.val + p.val, by omega⟩))
      (score i x1 (qT arg9 (X9 c arg2 harg2 arg5 harg5 arg9 x0 x3) ⟨6 + 4 * g.val + p.val, by omega⟩) ⟨6 + 4 * g.val + p.val, by omega⟩ q)
      (value x2 ⟨6 + 4 * g.val + p.val, by omega⟩ r) (512 * (i 1).val + 512) st r q) :
    Ideal.div (st.acc (ix3 0 r q)) (st.l (ix3 0 0 q)) = diffPair A6 (diffExp (diffScore A4 A5)) (ix5 b (pos i q) h pp d) := by
  rw [diffPair_at, slot_attend i x1 x2 ⟨6 + 4 * g.val + p.val, by omega⟩ q r st _ (fun κ => ?_) hi]
  · refine congr (congrArg attend (funext fun κ => ?_)) (funext fun κ => B.v_pair _ r h d hv κ)
    have hs : scOf ⟨6 + 4 * g.val + p.val, by omega⟩ = 11863283 / 67108864 := if_neg (by show ¬6 + 4 * g.val + p.val < 6; omega)
    rw [hs, diffScore_at, sle_nat _ _ κ.isLt (pos i q).isLt]
    unfold score
    rw [B.diff_raw c arg2 harg2 arg5 harg5 arg9 r4 r5 g p h pp hp q κ]
    show _ = Scalar.select (if κ.val ≤ 512 * (i 1).val + q.val then 1#1 else 0#1) _ _
    split
    · simp only [r4, r5, ← EReal.coe_mul]
      rw [sum_coe, pair_scale, ← EReal.coe_mul]
      rfl
    · rw [EReal.bot_mul_coe_of_pos (by norm_num)]
      rfl
  · by_cases hκ : κ < 2048
    · exact ⟨_, B.diff_raw c arg2 harg2 arg5 harg5 arg9 r4 r5 g p h pp hp q ⟨κ, hκ⟩⟩
    · exact ⟨0, by unfold raw; rw [dif_neg hκ]; rfl⟩

end

end Cert.KernelIdeal.Attn

end
-- ==== Proof.Out.lean ====
module

public import proofs.«01_k».proof.Proof.Score
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe
open Cert.ReferenceIdeal.Attn

/-! ## What a point stores, entry by entry -/

theorem slt64 : ∀ r : Fin 128, IntOp.cmpi .slt (BitVec.ofNat 32 r.val) 64#32 = if r.val < 64 then 1#1 else 0#1 := by decide +kernel

/-- A slot's quotient. -/
def quo (st : St Ideal) (r : Fin 128) (q : Fin 512) : EReal := Ideal.div (st.acc (ix3 0 r q)) (st.l (ix3 0 0 q))

theorem outFox_at (a b : St Ideal) (q : Fin 512) (r : Fin 128) :
    outFox a b (ix3 0 q r) = if r.val < 64 then quo a r q else quo b r q := by
  refine Eq.trans (b := Scalar.select (IntOp.cmpi .slt (BitVec.ofNat 32 r.val) 64#32) (quo a r q) (quo b r q)) ?_ ?_
  · pointwise [outFox, k0_pay599, k0_pay598, rowI, quo]
  · rw [slt64]
    split <;> rfl

/-- The difference of two pairs' quotients, before the normalisation. -/
def dif (lam : FVec Ideal S1x1 .f32) (a b d e : St Ideal) (r : Fin 128) (q : Fin 512) : EReal :=
  if r.val < 64 then quo a r q - lam (ix2 0 0) * quo b r q else quo d r q - lam (ix2 0 0) * quo e r q

theorem dif_at (lam : FVec Ideal S1x1 .f32) (a b d e : St Ideal) (r : Fin 128) (q : Fin 512) :
    k0_pay603 lam (k0_pay598 rowI) a.acc a.l b.acc b.l d.acc d.l e.acc e.l (ix2 r q) = dif lam a b d e r q := by
  refine Eq.trans (b := Scalar.select (IntOp.cmpi .slt (BitVec.ofNat 32 r.val) 64#32) (quo a r q - lam (ix2 0 0) * quo b r q) (quo d r q - lam (ix2 0 0) * quo e r q)) ?_ ?_
  · pointwise [k0_pay603, k0_pay598, rowI, quo]
  · rw [slt64, dif]
    split <;> rfl

theorem sq_at (lam : FVec Ideal S1x1 .f32) (a b d e : St Ideal) (r : Fin 128) (q : Fin 512) :
    k0_pay604 lam (k0_pay598 rowI) a.acc a.l b.acc b.l d.acc d.l e.acc e.l (ix2 r q) = dif lam a b d e r q * dif lam a b d e r q := by
  rw [← dif_at]
  pointwise [k0_pay604, k0_pay603]

theorem outDiff_at (lam : FVec Ideal S1x1 .f32) (g : Vec Ideal S1x128 .f32) (a b d e : St Ideal) (q : Fin 512) (r : Fin 128) (D G : Fin 64 → EReal) (y : Fin 64)
    (hD : ∀ x : Fin 64, dif lam a b d e (if r.val < 64 then ⟨x.val, by omega⟩ else ⟨64 + x.val, by omega⟩) q = D x)
    (hy : r = if r.val < 64 then ⟨y.val, by omega⟩ else ⟨64 + y.val, by omega⟩) (hG : g (ix2 0 r) = G y) :
    outDiff lam g a b d e (ix3 0 q r) = norm64 D G y := by
  have hr : dif lam a b d e r q = D y := (congrArg (fun r => dif lam a b d e r q) hy).trans (hD y)
  refine Eq.trans (b := dif lam a b d e r q * Ideal.rsqrt (Scalar.select (IntOp.cmpi .slt (BitVec.ofNat 32 r.val) 64#32)
      (Ideal.div (∑ x : Fin 64, dif lam a b d e ⟨x.val, by omega⟩ q * dif lam a b d e ⟨x.val, by omega⟩ q) (Ideal.ofBits .f32 0x42800000#32))
      (Ideal.div (∑ x : Fin 64, dif lam a b d e ⟨64 + x.val, by omega⟩ q * dif lam a b d e ⟨64 + x.val, by omega⟩ q) (Ideal.ofBits .f32 0x42800000#32))
      + Ideal.ofBits .f32 0x3727C5AC#32) * g (ix2 0 r) * Ideal.ofBits .f32 0x3F4CCCCD#32) ?_ ?_
  · simp only [← dif_at]
    pointwise [outDiff, k0_pay607, k0_pay604, k0_pay605, k0_pay606, k0_pay598, rowI]
  · rw [slt64, hr, hG]
    unfold norm64
    by_cases h : r.val < 64
    · simp only [if_pos h] at hD ⊢
      simp only [hD]
      rfl
    · simp only [if_neg h] at hD ⊢
      simp only [hD]
      rfl

/-! ## A point's block of the result -/

section

variable {A0 A1 A2 : FVec Ideal S16x2048x6x64 .f32} {A3 : FVec Ideal S16x2048x6 .f32} {A4 A5 : FVec Ideal S16x2048x4x2x32 .f32}
variable {A6 : FVec Ideal S16x2048x4x64 .f32} {b : Fin 16} {i : grid0.Coords}
variable {x0 : Vec Ideal S1x640x512 .bf16} {x1 : Vec Ideal S1x2048x1024 .bf16} {x2 : Vec Ideal S1x4x640x512 .bf16} {x3 : Vec Ideal S1x8x512 .f32}
variable (B : Blocks A0 A1 A2 A3 A4 A5 A6 b i x0 x1 x2 x3)
variable (c : Dev nD)
variable (arg2 : Memref sig .tc .vmem S1x640x512 .bf16) (harg2 : arg2.IsWhole) (arg5 : Memref sig .tc .vmem S1x8x512 .f32) (harg5 : arg5.IsWhole)
variable (arg9 : Memref sig .tc .vmem S14x128x512 .bf16)
variable {f0 f1 : S16x2048x6x64.Idx → ℝ} {fc : S16x2048x6.Idx → ℝ} {f4 f5 : S16x2048x4x2x32.Idx → ℝ}
variable (r0 : ∀ j, A0 j = (f0 j : EReal)) (r1 : ∀ j, A1 j = (f1 j : EReal)) (rc : ∀ j, cums A3 j = (fc j : EReal))
variable (r4 : ∀ j, A4 j = (f4 j : EReal)) (r5 : ∀ j, A5 j = (f5 j : EReal))
variable (st : Fin 14 → St Ideal)

/-- Every slot has seen the keys up to its diagonal block. -/
def AllInv (i : grid0.Coords) (x0 : Vec Ideal S1x640x512 .bf16) (x1 : Vec Ideal S1x2048x1024 .bf16) (x2 : Vec Ideal S1x4x640x512 .bf16)
    (x3 : Vec Ideal S1x8x512 .f32) : Prop :=
  ∀ (mi : Fin 14) (q : Fin 512) (r : Fin 128),
    InvAt (cOf (scOf mi)) (score i x1 (qT arg9 (X9 c arg2 harg2 arg5 harg5 arg9 x0 x3) mi) mi q) (value x2 mi r) (512 * (i 1).val + 512) (st mi) r q

variable (hinv : AllInv c arg2 harg2 arg5 harg5 arg9 st i x0 x1 x2 x3)

theorem vgr_head : ∀ hd : Fin 6, (vgr ⟨hd.val, by omega⟩).val = hd.val / 2 := by decide +kernel
theorem vgr_diff : ∀ (g : Fin 2) (p : Fin 4), (vgr ⟨6 + 4 * g.val + p.val, by omega⟩).val = 3 + g.val := by decide +kernel

include B r0 r1 rc hinv in
theorem fox_piece (j : Fin 3) (q : Fin 512) (r : Fin 128) :
    outFox (st ⟨2 * j.val, by omega⟩) (st ⟨2 * j.val + 1, by omega⟩) (ix3 0 q r)
      = foxOut A2 (foxExp (foxScore (foxRaw A0 A1 (cums A3)))) (ix4 b (pos i q) ⟨2 * j.val + r.val / 64, by omega⟩ ⟨r.val % 64, by omega⟩) := by
  rw [outFox_at]
  have key : ∀ hd : Fin 6, hd.val = 2 * j.val + r.val / 64 → quo (st ⟨hd.val, by omega⟩) r q
      = foxOut A2 (foxExp (foxScore (foxRaw A0 A1 (cums A3)))) (ix4 b (pos i q) ⟨2 * j.val + r.val / 64, by omega⟩ ⟨r.val % 64, by omega⟩) := fun hd h => by
    rw [show (⟨2 * j.val + r.val / 64, by omega⟩ : Fin 6) = hd from Fin.ext h.symm]
    refine B.fox_slot c arg2 harg2 arg5 harg5 arg9 r0 r1 rc hd q r ⟨r.val % 64, by omega⟩ _ ?_ (hinv _ q r)
    rw [vgr_head]
    show 128 * (hd.val / 2) + r.val = 64 * hd.val + r.val % 64
    omega
  split
  · exact key ⟨2 * j.val, by omega⟩ (by show 2 * j.val = _; omega)
  · exact key ⟨2 * j.val + 1, by omega⟩ (by show 2 * j.val + 1 = _; omega)

variable {A7 A8 A9 A10 : FVec Ideal S32 .f32} {A11 : FVec Ideal S64 .f32} (lam : FVec Ideal S1x1 .f32) (g : Vec Ideal S1x128 .f32)
variable (hlam : lam (ix2 0 0) = lamR A7 A8 A9 A10 ix0) (hg : ∀ x : Fin 128, g (ix2 0 x) = A11 (ix1 ⟨x.val % 64, by omega⟩))

include B r4 r5 hinv hlam in
/-- The pair's difference is the reference's. -/
theorem dif_ref (j : Fin 2) (q : Fin 512) (r : Fin 128) (h : Fin 4) (y : Fin 64) (hh : h.val = 2 * j.val + r.val / 64) (hy : y.val = r.val % 64) :
    dif lam (st ⟨6 + 4 * j.val, by omega⟩) (st ⟨6 + 4 * j.val + 1, by omega⟩) (st ⟨6 + 4 * j.val + 2, by omega⟩) (st ⟨6 + 4 * j.val + 3, by omega⟩) r q
      = diffSub (lamR A7 A8 A9 A10) (diffPair A6 (diffExp (diffScore A4 A5))) (ix4 b (pos i q) h y) := by
  have key : ∀ (p : Fin 4) (pp : Fin 2), p.val = 2 * (r.val / 64) + pp.val → quo (st ⟨6 + 4 * j.val + p.val, by omega⟩) r q
      = diffPair A6 (diffExp (diffScore A4 A5)) (ix5 b (pos i q) h pp y) := fun p pp e => by
    refine B.diff_slot c arg2 harg2 arg5 harg5 arg9 r4 r5 j p h pp (by omega) q r y _ ?_ (hinv _ q r)
    rw [vgr_diff]
    omega
  rw [diffSub_at, dif, hlam]
  split
  · rw [← key ⟨0, by omega⟩ 0 (by show 0 = 2 * (r.val / 64) + 0; omega), ← key ⟨1, by omega⟩ 1 (by show 1 = 2 * (r.val / 64) + 1; omega)]
    rfl
  · rw [← key ⟨2, by omega⟩ 0 (by show 2 = 2 * (r.val / 64) + 0; omega), ← key ⟨3, by omega⟩ 1 (by show 3 = 2 * (r.val / 64) + 1; omega)]

include B r4 r5 hinv hlam hg in
theorem diff_piece (j : Fin 2) (q : Fin 512) (r : Fin 128) :
    outDiff lam g (st ⟨6 + 4 * j.val, by omega⟩) (st ⟨6 + 4 * j.val + 1, by omega⟩) (st ⟨6 + 4 * j.val + 2, by omega⟩) (st ⟨6 + 4 * j.val + 3, by omega⟩) (ix3 0 q r)
      = diffOut (diffSub (lamR A7 A8 A9 A10) (diffPair A6 (diffExp (diffScore A4 A5)))) A11
          (ix4 b (pos i q) ⟨2 * j.val + r.val / 64, by omega⟩ ⟨r.val % 64, by omega⟩) := by
  rw [diffOut_at]
  refine outDiff_at lam g _ _ _ _ q r _ _ ⟨r.val % 64, by omega⟩ (fun x => ?_) ?_ (hg r)
  · refine dif_ref B c arg2 harg2 arg5 harg5 arg9 r4 r5 st hinv lam hlam j q _ _ x ?_ ?_
    · split
      · show 2 * j.val + r.val / 64 = 2 * j.val + x.val / 64
        omega
      · show 2 * j.val + r.val / 64 = 2 * j.val + (64 + x.val) / 64
        omega
    · split
      · show x.val = x.val % 64
        omega
      · show x.val = (64 + x.val) % 64
        omega
  · split
    · exact Fin.ext (by show r.val = r.val % 64; omega)
    · exact Fin.ext (by show r.val = 64 + r.val % 64; omega)

theorem head_entry {n : ℕ} {x : Fin 16} {s : Fin 2048} {h h' : Fin n} {d d' : Fin 64} (e : h.val = h'.val) (e' : d.val = d'.val) :
    (ix4 x s h d : Shape.Idx ⟨4, ![16, 2048, n, 64]⟩) = ix4 x s h' d' := by
  rw [Fin.ext e, Fin.ext e']

theorem piece_idx (x : S1x512x128.Idx) (q : Fin 512) (h0 : (x 0).val < 1) (hq : q.val = (x 1).val) (h2 : (x 2).val < 128) : x = ix3 0 q ⟨(x 2).val, h2⟩ := by
  funext e
  apply Fin.ext
  fin_cases e
  · show (x 0).val = 0
    omega
  · exact hq.symm
  · rfl

include B r0 r1 rc r4 r5 hinv hlam hg in
theorem outs_at (q : Fin 512) (z : Fin 640) :
    View.canon (Val := Elt Ideal) (outs lam g st) (ix3 0 q z)
      = both (foxOut A2 (foxExp (foxScore (foxRaw A0 A1 (cums A3))))) (diffOut (diffSub (lamR A7 A8 A9 A10) (diffPair A6 (diffExp (diffScore A4 A5)))) A11)
          (ix3 b (pos i q) z) := by
  have fox : ∀ (j : Fin 3) (x : S1x512x128.Idx), (x 0).val < 1 → q.val = (x 1).val → (x 2).val < 128 → z.val = 128 * j.val + (x 2).val →
      outFox (st ⟨2 * j.val, by omega⟩) (st ⟨2 * j.val + 1, by omega⟩) x
        = both (foxOut A2 (foxExp (foxScore (foxRaw A0 A1 (cums A3))))) (diffOut (diffSub (lamR A7 A8 A9 A10) (diffPair A6 (diffExp (diffScore A4 A5)))) A11)
          (ix3 b (pos i q) z) := fun j x h0 hq h2 hz => by
    rw [piece_idx x q h0 hq h2, fox_piece B c arg2 harg2 arg5 harg5 arg9 r0 r1 rc st hinv, both_at, dif_pos (by omega)]
    refine congrArg _ (head_entry ?_ ?_)
    · show 2 * j.val + (x 2).val / 64 = z.val / 64
      omega
    · show (x 2).val % 64 = z.val % 64
      omega
  have diff : ∀ (j : Fin 2) (x : S1x512x128.Idx), (x 0).val < 1 → q.val = (x 1).val → (x 2).val < 128 → z.val = 384 + 128 * j.val + (x 2).val →
      outDiff lam g (st ⟨6 + 4 * j.val, by omega⟩) (st ⟨6 + 4 * j.val + 1, by omega⟩) (st ⟨6 + 4 * j.val + 2, by omega⟩) (st ⟨6 + 4 * j.val + 3, by omega⟩) x
        = both (foxOut A2 (foxExp (foxScore (foxRaw A0 A1 (cums A3))))) (diffOut (diffSub (lamR A7 A8 A9 A10) (diffPair A6 (diffExp (diffScore A4 A5)))) A11)
          (ix3 b (pos i q) z) := fun j x h0 hq h2 hz => by
    rw [piece_idx x q h0 hq h2, diff_piece B c arg2 harg2 arg5 harg5 arg9 r4 r5 st hinv lam g hlam hg, both_at, dif_neg (by omega)]
    refine congrArg _ (head_entry ?_ ?_)
    · show 2 * j.val + (x 2).val / 64 = (z.val - 384) / 64
      omega
    · show (x 2).val % 64 = (z.val - 384) % 64
      omega
  unfold outs
  canon_tiles x h
  · exact diff 1 x x0_lt h1 x2_lt h2
  · exact diff 0 x x0_lt h1 x2_lt h2
  · exact fox 2 x x0_lt h1 x2_lt h2
  · exact fox 1 x x0_lt h1 x2_lt h2
  · exact fox 0 x x0_lt h1 x2_lt (h2.trans (Nat.zero_add _).symm)

end

end Cert.KernelIdeal.Attn

end
-- ==== Proof.Final.lean ====
module

public import proofs.«01_k».proof.Proof.Out
public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe
open Cert.ReferenceIdeal.Attn

/-! ## What a point leaves in its block -/

section

variable {A0 A1 A2 : FVec Ideal S16x2048x6x64 .f32} {A3 : FVec Ideal S16x2048x6 .f32} {A4 A5 : FVec Ideal S16x2048x4x2x32 .f32}
variable {A6 : FVec Ideal S16x2048x4x64 .f32} {b : Fin 16} (c : Dev nD) (i : grid0.Coords)
variable (arg2 : Memref sig .tc .vmem S1x640x512 .bf16) (harg2 : arg2.IsWhole) (arg3 : Memref sig .tc .vmem S1x2048x1024 .bf16) (harg3 : arg3.IsWhole)
variable (arg4 : Memref sig .tc .vmem S1x4x640x512 .bf16) (harg4 : arg4.IsWhole) (arg5 : Memref sig .tc .vmem S1x8x512 .f32) (harg5 : arg5.IsWhole)
variable (arg6 : Memref sig .tc .vmem S4x32 .f32) (harg6 : arg6.IsWhole) (arg7 : Memref sig .tc .vmem S1x128 .f32) (harg7 : arg7.IsWhole)
variable (arg8 : Memref sig .tc .vmem S1x512x640 .bf16) (harg8 : arg8.IsWhole) (arg9 : Memref sig .tc .vmem S14x128x512 .bf16) (harg9 : arg9.IsWhole)
variable (arg10 : Memref sig .tc .vmem S14x1x512 .f32) (harg10 : arg10.IsWhole) (arg11 : Memref sig .tc .vmem S14x1x512 .f32) (harg11 : arg11.IsWhole)
variable (arg12 : Memref sig .tc .vmem S14x128x512 .f32) (harg12 : arg12.IsWhole)
variable {x0 : Vec Ideal S1x640x512 .bf16} {x1 : Vec Ideal S1x2048x1024 .bf16} {x2 : Vec Ideal S1x4x640x512 .bf16} {x3 : Vec Ideal S1x8x512 .f32}
variable (x4 : Vec Ideal S4x32 .f32) (x5 : Vec Ideal S1x128 .f32)
variable (B : Blocks A0 A1 A2 A3 A4 A5 A6 b i x0 x1 x2 x3)
variable {f0 f1 : S16x2048x6x64.Idx → ℝ} {fc : S16x2048x6.Idx → ℝ} {f4 f5 : S16x2048x4x2x32.Idx → ℝ}
variable (r0 : ∀ j, A0 j = (f0 j : EReal)) (r1 : ∀ j, A1 j = (f1 j : EReal)) (rc : ∀ j, cums A3 j = (fc j : EReal))
variable (r4 : ∀ j, A4 j = (f4 j : EReal)) (r5 : ∀ j, A5 j = (f5 j : EReal))
variable {A7 A8 A9 A10 : FVec Ideal S32 .f32} {A11 : FVec Ideal S64 .f32}

theorem slot_cases : ∀ mi : Fin 14, (∃ hd : Fin 6, mi = ⟨hd.val, by omega⟩) ∨ ∃ (g : Fin 2) (p : Fin 4), mi = ⟨6 + 4 * g.val + p.val, by omega⟩ := by decide +kernel

include B r0 r1 rc r4 r5 in
/-- No score before the scaling is infinite. -/
theorem raw_real (mi : Fin 14) (q : Fin 512) (κ : ℕ) : ∃ ρ : ℝ, raw x1 (qT arg9 (X9 c arg2 harg2 arg5 harg5 arg9 x0 x3) mi) mi q κ = ρ := by
  by_cases hκ : κ < 2048
  · obtain ⟨hd, rfl⟩ | ⟨g, p, rfl⟩ := slot_cases mi
    · exact ⟨_, B.fox_raw c arg2 harg2 arg5 harg5 arg9 r0 r1 rc hd q ⟨κ, hκ⟩⟩
    · exact ⟨_, B.diff_raw c arg2 harg2 arg5 harg5 arg9 r4 r5 g p ⟨2 * g.val + p.val / 2, by omega⟩ ⟨p.val % 2, by omega⟩
        (by show 2 * (2 * g.val + p.val / 2) + p.val % 2 = _; omega) q ⟨κ, hκ⟩⟩
  · exact ⟨0, by unfold raw; rw [dif_neg hκ]; rfl⟩

theorem lamV_at (x : Vec Ideal S4x32 .f32) :
    lamV x (ix2 0 0) = Ideal.exp (∑ k : Fin 32, x (ix2 0 k) * x (ix2 1 k)) - Ideal.exp (∑ k : Fin 32, x (ix2 2 k) * x (ix2 3 k))
      + Ideal.ofBits .f32 0x3E4CCCCD#32 := by
  pointwise [lamV, k0_pay597, k0_pay594, k0_pay595, k0_pay596]

theorem rd6_at (p : Fin 4) (x : Fin 32) : rd6 arg6 harg6 x4 (ix2 p x) = x4 (ix2 p x) := by
  refine (harg6.readAt_unread x4 _ _).trans (congrArg x4 (funext fun e => Fin.ext ?_))
  fin_cases e
  · show 0 + 1 * p.val = p.val
    omega
  · show 0 + 1 * x.val = x.val
    omega

theorem rd7_at (x : Fin 128) : rd7 arg7 harg7 x5 (ix2 0 x) = x5 (ix2 0 x) := by
  refine (harg7.readAt_unread x5 _ _).trans (congrArg x5 (funext fun e => Fin.ext ?_))
  fin_cases e
  · rfl
  · show 0 + 1 * x.val = x.val
    omega

variable (hlam : ∀ (p : Fin 4) (x : Fin 32), x4 (ix2 p x) = (![A7, A8, A9, A10] p) (ix1 x))

include hlam in
theorem lam_at : lamV (rd6 arg6 harg6 x4) (ix2 0 0) = lamR A7 A8 A9 A10 ix0 := by
  rw [lamV_at, lamR_at]
  simp only [rd6_at, hlam]
  rfl

theorem gain_at (hg : ∀ x : Fin 128, x5 (ix2 0 x) = A11 (ix1 ⟨x.val % 64, by omega⟩)) (x : Fin 128) : rd7 arg7 harg7 x5 (ix2 0 x) = A11 (ix1 ⟨x.val % 64, by omega⟩) := (rd7_at arg7 harg7 x5 x).trans (hg x)

include B r0 r1 rc r4 r5 hlam in
theorem out_even (hg : ∀ x : Fin 128, x5 (ix2 0 x) = A11 (ix1 ⟨x.val % 64, by omega⟩))
    (hc0 : ¬cond0_0 i) (q : Fin 512) (z : Fin 640) :
    out0_A_6 c i arg2 harg2 arg3 harg3 arg4 harg4 arg5 harg5 arg6 harg6 arg7 harg7 arg8 harg8 arg9 harg9 arg10 harg10 arg11 harg11 arg12 harg12 hc0 x0 x1 x2 x3 x4 x5 (ix3 0 q z)
      = both (foxOut A2 (foxExp (foxScore (foxRaw A0 A1 (cums A3))))) (diffOut (diffSub (lamR A7 A8 A9 A10) (diffPair A6 (diffExp (diffScore A4 A5)))) A11)
          (ix3 b (pos i q) z) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 x0 x1 x2 x3 x4 x5), run_A]
  exact outs_at B c arg2 harg2 arg5 harg5 arg9 r0 r1 rc r4 r5 _
    (fun mi q r => slot_even c i arg2 harg2 arg3 harg3 arg4 harg4 arg5 harg5 arg6 harg6 arg7 harg7 arg8 harg8 arg9 harg9 arg10 harg10 arg11 harg11 arg12 harg12 x0 x1 x2 x3 hc0 mi q r
      (raw_real c i arg2 harg2 arg5 harg5 arg9 B r0 r1 rc r4 r5 mi q))
    _ _ (lam_at arg6 harg6 x4 hlam) (gain_at arg7 harg7 x5 hg) q z

include B r0 r1 rc r4 r5 hlam in
theorem out_odd (hg : ∀ x : Fin 128, x5 (ix2 0 x) = A11 (ix1 ⟨x.val % 64, by omega⟩))
    (hc0 : cond0_0 i) (q : Fin 512) (z : Fin 640) :
    out0_B_6 c i arg2 harg2 arg3 harg3 arg4 harg4 arg5 harg5 arg6 harg6 arg7 harg7 arg8 harg8 arg9 harg9 arg10 harg10 arg11 harg11 arg12 harg12 hc0 x0 x1 x2 x3 x4 x5 (ix3 0 q z)
      = both (foxOut A2 (foxExp (foxScore (foxRaw A0 A1 (cums A3))))) (diffOut (diffSub (lamR A7 A8 A9 A10) (diffPair A6 (diffExp (diffScore A4 A5)))) A11)
          (ix3 b (pos i q) z) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 x0 x1 x2 x3 x4 x5), run_B]
  exact outs_at B c arg2 harg2 arg5 harg5 arg9 r0 r1 rc r4 r5 _
    (fun mi q r => slot_odd c i arg2 harg2 arg3 harg3 arg4 harg4 arg5 harg5 arg6 harg6 arg7 harg7 arg8 harg8 arg9 harg9 arg10 harg10 arg11 harg11 arg12 harg12 x0 x1 x2 x3 hc0 mi q r
      (raw_real c i arg2 harg2 arg5 harg5 arg9 B r0 r1 rc r4 r5 mi q))
    _ _ (lam_at arg6 harg6 x4 hlam) (gain_at arg7 harg7 x5 hg) q z

end

end Cert.KernelIdeal.Attn

end
-- ==== Proof.Blocks.lean ====
module

public import proofs.«01_k».proof.Proof.Out
public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe
open Cert.ReferenceIdeal.Attn

/-! ## The points' blocks in the arrays -/

section

variable (m : (ℓ : Loc nD τ sig) → Buf (Elt Ideal) ℓ) (c : Dev nD)

theorem idx : ∀ t : Fin cfg0.N, win0_0.index t = ![t.val / 4, 0, t.val % 4] ∧ win0_1.index t = ![t.val / 4, 0, 0] ∧ win0_2.index t = ![t.val / 4, 0, 0, 0]
    ∧ win0_3.index t = ![t.val / 4, 0, t.val % 4] ∧ win0_4.index t = ![0, 0] ∧ win0_5.index t = ![0, 0] ∧ win0_6.index t = ![t.val / 4, t.val % 4, 0] :=
  (by decide +kernel : ∀ t : Fin grid0.N, _)

theorem coords_at : ∀ t : Fin cfg0.N, (grid0.coords t 1).val = t.val % 4 := (by decide +kernel : ∀ t : Fin grid0.N, _)

theorem batch_lt : ∀ t : Fin cfg0.N, t.val / 4 < 16 := (by decide +kernel : ∀ t : Fin grid0.N, _)

theorem read0 (W : Vec Ideal S16x640x2048 .bf16) (t : Fin cfg0.N) (z : Fin 640) (q : Fin 512) :
    ((cfg0.win 0).blk t).view.read (Elt Ideal) W (ix3 0 z q) = W (ix3 ⟨t.val / 4, batch_lt t⟩ z (pos (grid0.coords t) q)) := by
  have h := coords_at t
  unfold pos
  blk_ext [idx t, h]

theorem read1 (W : Vec Ideal S16x2048x1024 .bf16) (t : Fin cfg0.N) (s : Fin 2048) (z : Fin 1024) :
    ((cfg0.win 1).blk t).view.read (Elt Ideal) W (ix3 0 s z) = W (ix3 ⟨t.val / 4, batch_lt t⟩ s z) := by
  blk_ext [idx t]

theorem read2 (W : Vec Ideal S16x4x640x512 .bf16) (t : Fin cfg0.N) (j : Fin 4) (z : Fin 640) (s : Fin 512) :
    ((cfg0.win 2).blk t).view.read (Elt Ideal) W (ix4 0 j z s) = W (ix4 ⟨t.val / 4, batch_lt t⟩ j z s) := by
  blk_ext [idx t]

theorem read3 (W : Vec Ideal S16x8x2048 .f32) (t : Fin cfg0.N) (z : Fin 8) (q : Fin 512) :
    ((cfg0.win 3).blk t).view.read (Elt Ideal) W (ix3 0 z q) = W (ix3 ⟨t.val / 4, batch_lt t⟩ z (pos (grid0.coords t) q)) := by
  have h := coords_at t
  unfold pos
  blk_ext [idx t, h]

theorem read4 (W : Vec Ideal S4x32 .f32) (t : Fin cfg0.N) (p : Fin 4) (x : Fin 32) :
    ((cfg0.win 4).blk t).view.read (Elt Ideal) W (ix2 p x) = W (ix2 p x) := by
  blk_ext [idx t]

theorem read5 (W : Vec Ideal S1x128 .f32) (t : Fin cfg0.N) (x : Fin 128) :
    ((cfg0.win 5).blk t).view.read (Elt Ideal) W (ix2 0 x) = W (ix2 0 x) := by
  blk_ext [idx t]

theorem blocks_at (t : Fin cfg0.N) : Blocks (a0 m c) (a1 m c) (a2 m c) (a3 m c) (a4 m c) (a5 m c) (a6 m c) ⟨t.val / 4, batch_lt t⟩ (grid0.coords t)
    (iblk m c 0 t) (iblk m c 1 t) (iblk m c 2 t) (iblk m c 3 t) where
  q z q := (read0 (V m c main_v15) t z q).trans (q_at m c ⟨t.val / 4, batch_lt t⟩ z (pos (grid0.coords t) q))
  k s z := (read1 (V m c main_v25) t s z).trans (congrFun (keys_read m c) _)
  v j z s := (read2 (V m c main_v31) t j z s).trans (v_at m c ⟨t.val / 4, batch_lt t⟩ j z s)
  c hd q := (read3 (V m c main_v33) t ⟨hd.val, by omega⟩ q).trans (cum_at m c ⟨t.val / 4, batch_lt t⟩ hd (pos (grid0.coords t) q))

theorem lam_rows (t : Fin cfg0.N) (p : Fin 4) (x : Fin 32) :
    iblk m c 4 t (ix2 p x) = (![a7 m c, a8 m c, a9 m c, a10 m c] p) (ix1 x) :=
  (read4 (V m c main_v38) t p x).trans ((congrFun (lam_read m c) _).trans (lamRows_at _ _ _ _ p x))

theorem gains (t : Fin cfg0.N) (x : Fin 128) : iblk m c 5 t (ix2 0 x) = a11 m c (ix1 ⟨x.val % 64, by omega⟩) :=
  (read5 (V m c main_v42) t x).trans (g_at m c x)

end

end Cert.KernelIdeal.Attn

end
-- ==== Proof.Whole.lean ====
module

public import proofs.«01_k».proof.Proof.Final
public import proofs.«01_k».proof.Proof.Blocks
public import proofs.«01_k».proof.Defs
public import proofs.«01_k».proof.Proof.Gen.Pre_finite_scores
public import Idealize.ShloMosaic.Lib.ReduceAll

@[expose] public section

set_option maxRecDepth 16384

noncomputable section

namespace Cert.KernelIdeal.Attn

open Cert.KernelIdeal Cert.KernelIdeal.Gen Idealize.ShloMosaic Idealize.ShloMosaic.TcCoe
open Cert.ReferenceIdeal.Attn

/-! ## The whole result array -/

variable (m : (ℓ : Loc nD τ sig) → Buf (Elt Ideal) ℓ) (c : Dev nD)

/-- The reference's result of the kernel's arguments. -/
abbrev whole : FVec Ideal S16x2048x640 .f32 :=
  REF (a0 m c) (a1 m c) (a2 m c) (a3 m c) (a4 m c) (a5 m c) (a6 m c) (a7 m c) (a8 m c) (a9 m c) (a10 m c) (a11 m c)

variable {f0 f1 : S16x2048x6x64.Idx → ℝ} {fc : S16x2048x6.Idx → ℝ} {f4 f5 : S16x2048x4x2x32.Idx → ℝ}
variable (r0 : ∀ j, a0 m c j = (f0 j : EReal)) (r1 : ∀ j, a1 m c j = (f1 j : EReal)) (rc : ∀ j, cums (a3 m c) j = (fc j : EReal))
variable (r4 : ∀ j, a4 m c j = (f4 j : EReal)) (r5 : ∀ j, a5 m c j = (f5 j : EReal))

include r0 r1 rc r4 r5 in
theorem left_even (t : Fin cfg0.N) (h0 : ¬t.val % 2 = 1) (q : Fin 512) (z : Fin 640) :
    (dats m 0 c).flushed 6 t (ix3 0 q z) = whole m c (ix3 ⟨t.val / 4, batch_lt t⟩ (pos (grid0.coords t) q) z) := by
  rw [Cert.KernelIdeal.Value.flushed6_A m c t h0]
  exact out_even c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) scM0_1 (Memref.isWhole_whole _) scM0_2 (Memref.isWhole_whole _) scM0_3 (Memref.isWhole_whole _)
    (iblk m c 4 t) (iblk m c 5 t) (blocks_at m c t) r0 r1 rc r4 r5 (lam_rows m c t) (gains m c t) _ q z

include r0 r1 rc r4 r5 in
theorem left_odd (t : Fin cfg0.N) (h0 : t.val % 2 = 1) (q : Fin 512) (z : Fin 640) :
    (dats m 0 c).flushed 6 t (ix3 0 q z) = whole m c (ix3 ⟨t.val / 4, batch_lt t⟩ (pos (grid0.coords t) q) z) := by
  rw [Cert.KernelIdeal.Value.flushed6_B m c t h0]
  exact out_odd c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) scM0_1 (Memref.isWhole_whole _) scM0_2 (Memref.isWhole_whole _) scM0_3 (Memref.isWhole_whole _)
    (iblk m c 4 t) (iblk m c 5 t) (blocks_at m c t) r0 r1 rc r4 r5 (lam_rows m c t) (gains m c t) _ q z

theorem place (W : FVec Ideal S16x2048x640 .f32) (t : Fin cfg0.N) (q : Fin 512) (z : Fin 640) :
    W (((cfg0.win 6).blk t).view.emb (ix3 0 q z)) = W (ix3 ⟨t.val / 4, batch_lt t⟩ (pos (grid0.coords t) q) z) := by
  have h := coords_at t
  unfold pos
  blk_ext [idx t, h]

include r0 r1 rc r4 r5 in
theorem final : (dats m 0 c).arrAt 6 cfg0.N = whole m c := by
  refine (dats m 0 c).arrAt_eq_of_covers 6 _ (by decide +kernel) fun t _ y => ?_
  have e : ∃ (q : Fin 512) (z : Fin 640), y = ix3 0 q z := by
    idx_vars y
    exact ⟨y1, y2, congrArg (fun e => ix3 e y1 y2) (Subsingleton.elim y0 0)⟩
  obtain ⟨q, z, rfl⟩ := e
  refine Eq.trans ?_ (place (whole m c) t q z).symm
  by_cases h0 : t.val % 2 = 1
  · exact left_odd m c r0 r1 rc r4 r5 t h0 q z
  · exact left_even m c r0 r1 rc r4 r5 t h0 q z

/-! ## The precondition -/

/-- What is below infinity in size is real. -/
theorem real_of_abs {S : Shape} (A B : FVec Ideal S .f32) (j : S.Idx) (hB : B j = (⊤ : EReal)) (h : cmpf .olt (Host.absf A) B j = 1#1) :
    ∃ r : ℝ, (A j : EReal) = r := by
  have h' : Ideal.cmp .olt (max (A j : EReal) (-(A j : EReal))) (B j) = 1#1 := h
  rw [hB] at h'
  generalize (A j : EReal) = x at h'
  induction x using EReal.rec with
  | bot => simp [Ideal.cmp] at h'
  | coe r => exact ⟨r, rfl⟩
  | top => simp [Ideal.cmp] at h'

theorem finite_args (h : Cert.Pre_KernelIdeal_finite_scores m) :
    (∀ j, ∃ r : ℝ, (a0 m c j : EReal) = r) ∧ (∀ j, ∃ r : ℝ, (a1 m c j : EReal) = r) ∧ (∀ j, ∃ r : ℝ, (a3 m c j : EReal) = r)
      ∧ (∀ j, ∃ r : ℝ, (a4 m c j : EReal) = r) ∧ ∀ j, ∃ r : ℝ, (a5 m c j : EReal) = r := by
  have e := congrFun (h c) ix0
  unfold Cert.Pre_finite_scores.fn Cert.Pre_finite_scores.fn_part1 at e
  simp only [andi_apply] at e
  obtain ⟨e, e5⟩ := IntOp.andi_eq_one.mp e
  obtain ⟨e, e4⟩ := IntOp.andi_eq_one.mp e
  obtain ⟨e, e3⟩ := IntOp.andi_eq_one.mp e
  obtain ⟨e0, e1⟩ := IntOp.andi_eq_one.mp e
  have inf : Ideal.ofBits .f32 0x7F800000#32 = (⊤ : EReal) := by simp [Ideal.ofBits, Ideal.ieee]
  exact ⟨fun j => real_of_abs _ _ j inf (Host.reduce_andi_all _ _ _ _ _ e0 j), fun j => real_of_abs _ _ j inf (Host.reduce_andi_all _ _ _ _ _ e1 j),
    fun j => real_of_abs _ _ j inf (Host.reduce_andi_all _ _ _ _ _ e3 j), fun j => real_of_abs _ _ j inf (Host.reduce_andi_all _ _ _ _ _ e4 j),
    fun j => real_of_abs _ _ j inf (Host.reduce_andi_all _ _ _ _ _ e5 j)⟩

/-- With finite scores the kernel's result array is the reference's. -/
theorem final_of_finite (h : Cert.Pre_KernelIdeal_finite_scores m) : (dats m 0 c).arrAt 6 cfg0.N = whole m c := by
  obtain ⟨h0, h1, h3, h4, h5⟩ := finite_args m c h
  choose f0 r0 using h0
  choose f1 r1 using h1
  choose f4 r4 using h4
  choose f5 r5 using h5
  choose fc rc using cums_real (a3 m c) h3
  exact final m c r0 r1 rc r4 r5

end Cert.KernelIdeal.Attn

end
-- ==== Proof.PostRun.lean ====
module

public import proofs.«01_k».proof.Proof.Gen.Kernel2Ideal.Frame
public import Idealize.ShloMosaic.Lib.VecWindow
public import Idealize.ShloMosaic.Lib.WholeRead

@[expose] public section

set_option maxRecDepth 16384

noncomputable section

namespace Cert.Kernel2Ideal.Post

open Cert.Kernel2Ideal Cert.Kernel2Ideal.Gen Idealize.ShloMosaic Idealize.ShloMosaic.TcCoe

variable {F : FTy → Type} [FloatOps F]

/-! ## What one run of the body stores -/

/-- A load of the whole of an argument. -/
abbrev rd {S : Shape} {e : EltTy} (m : Memref sig .tc .vmem S e) (h : m.IsWhole) (x : Vec F S e) (off : Fin S.rank → ℕ)
    (inb : ∀ a, off a + S.size a ≤ S.size a) : Vec F S e :=
  View.readAt (Elt F) m.view (Rect.unit (s := S) off S.size inb).toLoadRect (h.unread x)

omit [FloatOps F] in
theorem rd_eq {S : Shape} {e : EltTy} (m : Memref sig .tc .vmem S e) (h : m.IsWhole) (x : Vec F S e) (off : Fin S.rank → ℕ)
    (inb : ∀ a, off a + S.size a ≤ S.size a) : rd m h x off inb = x := by
  unfold rd
  rw [View.readAt_full]
  exact h.read_unread x

section

variable (arg13 : Memref sig .tc .vmem S1024x5632 .bf16) (harg13 : arg13.IsWhole) (x11 : Vec F S1024x5632 .bf16)

/-- A load of 256 columns of the feed-forward network's first weight. -/
abbrev cols (n : ℕ) (h : ∀ a, (![0, n] : Fin 2 → ℕ) a + S1024x256.size a ≤ S1024x5632.size a) : Vec F S1024x256 .bf16 :=
  View.readAt (Elt F) arg13.view (Rect.unit (s := S1024x5632) ![0, n] S1024x256.size h).toLoadRect (harg13.unread x11)

/-- A store of 256 hidden units. -/
abbrev piece (H : FVec F S512x1024 .bf16) (n : ℕ) (h : ∀ a, (![0, n] : Fin 2 → ℕ) a + S512x256.size a ≤ S512x2816.size a)
    (hg : ∀ a, (![0, n] : Fin 2 → ℕ) a + S1024x256.size a ≤ S1024x5632.size a) (hu : ∀ a, (![0, 2816 + n] : Fin 2 → ℕ) a + S1024x256.size a ≤ S1024x5632.size a) :
    View.Piece (Elt F) S512x2816 .bf16 :=
  ⟨Rect.unit (s := S512x2816) ![0, n] S512x256.size h, k0_pay10 H (cols arg13 harg13 x11 n hg) (cols arg13 harg13 x11 (2816 + n) hu)⟩

/-- The stores of all hidden units, the last one first. -/
def pieces (H : FVec F S512x1024 .bf16) : List (View.Piece (Elt F) S512x2816 .bf16) :=
  [piece arg13 harg13 x11 H 2560 inb_S512x2816_S512x256_0_2560 inb_S1024x5632_S1024x256_0_2560 inb_S1024x5632_S1024x256_0_5376,
   piece arg13 harg13 x11 H 2304 inb_S512x2816_S512x256_0_2304 inb_S1024x5632_S1024x256_0_2304 inb_S1024x5632_S1024x256_0_5120,
   piece arg13 harg13 x11 H 2048 inb_S512x2816_S512x256_0_2048 inb_S1024x5632_S1024x256_0_2048 inb_S1024x5632_S1024x256_0_4864,
   piece arg13 harg13 x11 H 1792 inb_S512x2816_S512x256_0_1792 inb_S1024x5632_S1024x256_0_1792 inb_S1024x5632_S1024x256_0_4608,
   piece arg13 harg13 x11 H 1536 inb_S512x2816_S512x256_0_1536 inb_S1024x5632_S1024x256_0_1536 inb_S1024x5632_S1024x256_0_4352,
   piece arg13 harg13 x11 H 1280 inb_S512x2816_S512x256_0_1280 inb_S1024x5632_S1024x256_0_1280 inb_S1024x5632_S1024x256_0_4096,
   piece arg13 harg13 x11 H 1024 inb_S512x2816_S512x256_0_1024 inb_S1024x5632_S1024x256_0_1024 inb_S1024x5632_S1024x256_0_3840,
   piece arg13 harg13 x11 H 768 inb_S512x2816_S512x256_0_768 inb_S1024x5632_S1024x256_0_768 inb_S1024x5632_S1024x256_0_3584,
   piece arg13 harg13 x11 H 512 inb_S512x2816_S512x256_0_512 inb_S1024x5632_S1024x256_0_512 inb_S1024x5632_S1024x256_0_3328,
   piece arg13 harg13 x11 H 256 inb_S512x2816_S512x256_0_256 inb_S1024x5632_S1024x256_0_256 inb_S1024x5632_S1024x256_0_3072,
   piece arg13 harg13 x11 H 0 inb_S512x2816_S512x256_0_0 inb_S1024x5632_S1024x256_0_0 inb_S1024x5632_S1024x256_0_2816]

end

/-- The weighted residual of the mixers' half. -/
abbrev pre1 (x : Vec F S1x512x1024 .f32) (ao : Vec F S1x512x640 .bf16) (co : Vec F S1x512x384 .bf16) (ga : Vec F S1x1x1024 .f32) (wa : Vec F S640x1024 .bf16)
    (wc : Vec F S384x1024 .bf16) : FVec F S512x1024 .f32 := k0_pay2 ao wa co wc x ga

/-- The mixers' half. -/
def x1K (x : Vec F S1x512x1024 .f32) (ao : Vec F S1x512x640 .bf16) (co : Vec F S1x512x384 .bf16) (ga : Vec F S1x1x1024 .f32) (wa : Vec F S640x1024 .bf16)
    (wc : Vec F S384x1024 .bf16) (g1 b1 : Vec F S1x1024 .f32) : FVec F S512x1024 .f32 :=
  k0_pay7 (k0_pay2 ao wa co wc x ga) (k0_pay3 g1) (k0_pay4 b1) (k0_pay5 ao wa co wc x ga) (k0_pay6 ao wa co wc x ga)

/-- The modulated rows. -/
def hK (x : Vec F S1x512x1024 .f32) (ao : Vec F S1x512x640 .bf16) (co : Vec F S1x512x384 .bf16) (ga sh sc : Vec F S1x1x1024 .f32) (wa : Vec F S640x1024 .bf16)
    (wc : Vec F S384x1024 .bf16) (g1 b1 : Vec F S1x1024 .f32) : FVec F S512x1024 .bf16 :=
  k0_pay8 (k0_pay2 ao wa co wc x ga) (k0_pay3 g1) (k0_pay4 b1) (k0_pay5 ao wa co wc x ga) (k0_pay6 ao wa co wc x ga) sc sh

/-- The block stored, from the mixers' half, the hidden units, the second weight and the vectors. -/
def outK (x1 : FVec F S512x1024 .f32) (U : Vec F S512x2816 .bf16) (w2 : Vec F S2816x1024 .bf16) (gf : Vec F S1x1x1024 .f32) (g2 b2 : Vec F S1x1024 .f32) :
    FVec F S1x512x1024 .f32 := k0_pay1 (k0_pay24 U w2) (k0_pay25 x1) (k0_pay26 gf) g2 b2

section

variable (c : Dev nD) (i : grid0.Coords) (arg2 : Memref sig .tc .vmem S1x512x1024 .f32) (harg2 : arg2.IsWhole) (arg3 : Memref sig .tc .vmem S1x512x640 .bf16) (harg3 : arg3.IsWhole) (arg4 : Memref sig .tc .vmem S1x512x384 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S640x1024 .bf16) (harg9 : arg9.IsWhole) (arg10 : Memref sig .tc .vmem S384x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S512x2816 .bf16) (harg18 : arg18.IsWhole)
    (x0 : Vec F S1x512x1024 .f32) (x1 : Vec F S1x512x640 .bf16) (x2 : Vec F S1x512x384 .bf16) (x3 : Vec F S1x1x1024 .f32) (x4 : Vec F S1x1x1024 .f32) (x5 : Vec F S1x1x1024 .f32) (x6 : Vec F S1x1x1024 .f32) (x7 : Vec F S640x1024 .bf16) (x8 : Vec F S384x1024 .bf16) (x9 : Vec F S1x1024 .f32) (x10 : Vec F S1x1024 .f32) (x11 : Vec F S1024x5632 .bf16) (x12 : Vec F S2816x1024 .bf16) (x13 : Vec F S1x1024 .f32) (x14 : Vec F S1x1024 .f32)

abbrev storedAt (b : FVec F S1x512x1024 .f32) : List (View.Piece (Elt F) S1x512x1024 .f32) :=
  [⟨Rect.unit (s := S1x512x1024) ![0, 0, 0] S1x512x1024.size inb_S1x512x1024_S1x512x1024_0_0_0, b⟩]

set_option maxHeartbeats 2000000 in
theorem run_reads :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14).1
      = storedAt (outK
          (x1K (rd arg2 harg2 x0 _ inb_S1x512x1024_S1x512x1024_0_0_0) (rd arg3 harg3 x1 _ inb_S1x512x640_S1x512x640_0_0_0)
            (rd arg4 harg4 x2 _ inb_S1x512x384_S1x512x384_0_0_0) (rd arg5 harg5 x3 _ inb_S1x1x1024_S1x1x1024_0_0_0)
            (rd arg9 harg9 x7 _ inb_S640x1024_S640x1024_0_0) (rd arg10 harg10 x8 _ inb_S384x1024_S384x1024_0_0)
            (rd arg11 harg11 x9 _ inb_S1x1024_S1x1024_0_0) (rd arg12 harg12 x10 _ inb_S1x1024_S1x1024_0_0))
          (arg18.view.readCov (pieces arg13 harg13 x11
            (hK (rd arg2 harg2 x0 _ inb_S1x512x1024_S1x512x1024_0_0_0) (rd arg3 harg3 x1 _ inb_S1x512x640_S1x512x640_0_0_0)
              (rd arg4 harg4 x2 _ inb_S1x512x384_S1x512x384_0_0_0) (rd arg5 harg5 x3 _ inb_S1x1x1024_S1x1x1024_0_0_0)
              (rd arg6 harg6 x4 _ inb_S1x1x1024_S1x1x1024_0_0_0) (rd arg7 harg7 x5 _ inb_S1x1x1024_S1x1x1024_0_0_0)
              (rd arg9 harg9 x7 _ inb_S640x1024_S640x1024_0_0) (rd arg10 harg10 x8 _ inb_S384x1024_S384x1024_0_0)
              (rd arg11 harg11 x9 _ inb_S1x1024_S1x1024_0_0) (rd arg12 harg12 x10 _ inb_S1x1024_S1x1024_0_0)))
            (Rect.unit (s := S512x2816) ![0, 0] S512x2816.size inb_S512x2816_S512x2816_0_0).toLoadRect)
          (rd arg14 harg14 x12 _ inb_S2816x1024_S2816x1024_0_0) (rd arg8 harg8 x6 _ inb_S1x1x1024_S1x1x1024_0_0_0)
          (rd arg15 harg15 x13 _ inb_S1x1024_S1x1024_0_0) (rd arg16 harg16 x14 _ inb_S1x1024_S1x1024_0_0)) := by
  delta kernelRun0_A
  rfl

/-- The same with the loads at their values. -/
theorem run_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14).1
      = storedAt (outK (x1K x0 x1 x2 x3 x7 x8 x9 x10)
          (arg18.view.readCov (pieces arg13 harg13 x11 (hK x0 x1 x2 x3 x4 x5 x7 x8 x9 x10))
            (Rect.unit (s := S512x2816) ![0, 0] S512x2816.size inb_S512x2816_S512x2816_0_0).toLoadRect)
          x12 x6 x13 x14) := by
  rw [run_reads]
  simp only [rd_eq]

end

end Cert.Kernel2Ideal.Post

end
-- ==== Proof.PostRow.lean ====
module

public import Idealize.ShloMosaic.Lib.Pipeline.ValueKit

@[expose] public section

noncomputable section

namespace Cert.Post

open Idealize.ShloMosaic

/-! ## One row of the result -/

/-- The mean of a row. -/
def mean (v : Fin 1024 → EReal) : EReal := Ideal.div (∑ x, v x) (Ideal.ofBits .f32 0x44800000#32)

/-- A centred row over its standard deviation, times the gains, plus the offsets. -/
def scaled (c g b : Fin 1024 → EReal) (d : Fin 1024) : EReal :=
  c d * Ideal.rsqrt (Ideal.div (∑ x, c x * c x) (Ideal.ofBits .f32 0x44800000#32) + Ideal.ofBits .f32 0x3727C5AC#32) * g d + b d

/-- The layer normalisation of a row. -/
def lnorm (v g b : Fin 1024 → EReal) : Fin 1024 → EReal := scaled (fun d => v d - mean v) g b

/-- The weighted residual: the row times the square root of two, plus the gated branch. -/
def resid (x g y : Fin 1024 → EReal) (d : Fin 1024) : EReal :=
  Ideal.ofBits .f32 0x3FB504F3#32 * x d + (Ideal.ofBits .f32 0x3F800000#32 + g d) * y d

/-- The output projection of the two mixers' rows, the first 640 rows of the weight meeting the first mixer. -/
def proj (ao : Fin 640 → EReal) (co : Fin 384 → EReal) (wo : Fin 1024 → Fin 1024 → EReal) (d : Fin 1024) : EReal :=
  (∑ e : Fin 640, ao e * wo ⟨e.val, by omega⟩ d) + ∑ e : Fin 384, co e * wo ⟨640 + e.val, by omega⟩ d

/-- The modulated row that enters the feed-forward network. -/
def modul (x sc sh : Fin 1024 → EReal) (d : Fin 1024) : EReal := x d * (Ideal.ofBits .f32 0x3F800000#32 + sc d) + sh d

/-- A hidden unit: the gate through SiLU, times the other half. -/
def unit (h : Fin 1024 → EReal) (wi : Fin 1024 → Fin 5632 → EReal) (f : Fin 2816) : EReal :=
  (∑ d, h d * wi d ⟨f.val, by omega⟩) * Ideal.logistic (∑ d, h d * wi d ⟨f.val, by omega⟩) * ∑ d, h d * wi d ⟨2816 + f.val, by omega⟩

/-- The row after the mixers' half of the layer. -/
def half (x : Fin 1024 → EReal) (ao : Fin 640 → EReal) (co : Fin 384 → EReal) (ga : Fin 1024 → EReal) (wo : Fin 1024 → Fin 1024 → EReal)
    (g1 b1 : Fin 1024 → EReal) : Fin 1024 → EReal := lnorm (resid x ga (proj ao co wo)) g1 b1

/-- The row after the feed-forward half of the layer. -/
def full (x1 sh sc gf : Fin 1024 → EReal) (wi : Fin 1024 → Fin 5632 → EReal) (w2 : Fin 2816 → Fin 1024 → EReal) (g2 b2 : Fin 1024 → EReal) :
    Fin 1024 → EReal := lnorm (resid x1 gf (fun d => ∑ f, unit (modul x1 sc sh) wi f * w2 f d)) g2 b2

end Cert.Post

end
-- ==== Proof.PostAt.lean ====
module

public import proofs.«01_k».proof.Proof.PostRun
public import proofs.«01_k».proof.Proof.PostRow
public import Idealize.ShloMosaic.Lib.Pipeline.ReadBack

@[expose] public section

set_option maxRecDepth 16384

noncomputable section

namespace Cert.Kernel2Ideal.Post

open Cert.Kernel2Ideal Cert.Kernel2Ideal.Gen Idealize.ShloMosaic Idealize.ShloMosaic.TcCoe Cert.Post

/-! ## The stored block, entry by entry -/

section

variable (x : Vec Ideal S1x512x1024 .f32) (ao : Vec Ideal S1x512x640 .bf16) (co : Vec Ideal S1x512x384 .bf16) (ga sh sc gf : Vec Ideal S1x1x1024 .f32)
variable (wa : Vec Ideal S640x1024 .bf16) (wc : Vec Ideal S384x1024 .bf16) (g1 b1 g2 b2 : Vec Ideal S1x1024 .f32)

/-- The weighted residual of the mixers' half, at one position. -/
abbrev preRow (q : Fin 512) : Fin 1024 → EReal :=
  resid (fun d => x (ix3 0 q d)) (fun d => ga (ix3 0 0 d))
    (fun d => (∑ e : Fin 640, ao (ix3 0 q e) * wa (ix2 e d)) + ∑ e : Fin 384, co (ix3 0 q e) * wc (ix2 e d))

theorem pay2_at (q : Fin 512) (d : Fin 1024) : k0_pay2 (F := Ideal) ao wa co wc x ga (ix2 q d) = preRow x ao co ga wa wc q d := by
  unfold preRow resid
  pointwise [k0_pay2]

theorem pay5_at (q : Fin 512) (z : Fin 1) : k0_pay5 (F := Ideal) ao wa co wc x ga (ix2 q z) = mean (preRow x ao co ga wa wc q) := by
  unfold mean
  rw [show preRow x ao co ga wa wc q = fun d => k0_pay2 (F := Ideal) ao wa co wc x ga (ix2 q d) from funext fun d => (pay2_at x ao co ga wa wc q d).symm]
  unfold k0_pay5
  generalize k0_pay2 (F := Ideal) ao wa co wc x ga = P
  pointwise []

theorem pay6_at (q : Fin 512) (d : Fin 1024) :
    k0_pay6 (F := Ideal) ao wa co wc x ga (ix2 q d) = preRow x ao co ga wa wc q d - mean (preRow x ao co ga wa wc q) := by
  rw [← pay2_at, ← pay5_at x ao co ga wa wc q 0]
  unfold k0_pay6
  generalize k0_pay2 (F := Ideal) ao wa co wc x ga = P
  generalize k0_pay5 (F := Ideal) ao wa co wc x ga = M
  pointwise []

theorem x1K_at (q : Fin 512) (d : Fin 1024) :
    x1K x ao co ga wa wc g1 b1 (ix2 q d) = lnorm (preRow x ao co ga wa wc q) (fun d => g1 (ix2 0 d)) (fun d => b1 (ix2 0 d)) d := by
  unfold lnorm scaled
  simp only [← pay6_at x ao co ga wa wc]
  rw [pay6_at x ao co ga wa wc q d, ← pay2_at, ← pay5_at x ao co ga wa wc q 0]
  unfold x1K
  generalize k0_pay2 (F := Ideal) ao wa co wc x ga = P
  generalize k0_pay5 (F := Ideal) ao wa co wc x ga = M
  generalize k0_pay6 (F := Ideal) ao wa co wc x ga = C
  pointwise [k0_pay7, k0_pay3, k0_pay4]

theorem hK_at (q : Fin 512) (d : Fin 1024) :
    hK x ao co ga sh sc wa wc g1 b1 (ix2 q d)
      = modul (fun d => x1K x ao co ga wa wc g1 b1 (ix2 q d)) (fun d => sc (ix3 0 0 d)) (fun d => sh (ix3 0 0 d)) d := by
  unfold modul hK k0_pay8
  show _ = x1K x ao co ga wa wc g1 b1 (ix2 q d) * _ + _
  change _ = k0_pay7 (F := Ideal) (k0_pay2 ao wa co wc x ga) (k0_pay3 g1) (k0_pay4 b1) (k0_pay5 ao wa co wc x ga) (k0_pay6 ao wa co wc x ga) (ix2 q d) * _ + _
  generalize k0_pay7 (F := Ideal) (k0_pay2 ao wa co wc x ga) (k0_pay3 g1) (k0_pay4 b1) (k0_pay5 ao wa co wc x ga) (k0_pay6 ao wa co wc x ga) = X
  pointwise []

end

section

variable (H : Vec Ideal S512x1024 .bf16) (G U : Vec Ideal S1024x256 .bf16)

theorem pay10_at (q : Fin 512) (f : Fin 256) :
    k0_pay10 (F := Ideal) H G U (ix2 q f)
      = (∑ d : Fin 1024, H (ix2 q d) * G (ix2 d f)) * Ideal.logistic (∑ d : Fin 1024, H (ix2 q d) * G (ix2 d f)) * ∑ d : Fin 1024, H (ix2 q d) * U (ix2 d f) := by
  pointwise [k0_pay10]

end

section

variable (arg13 : Memref sig .tc .vmem S1024x5632 .bf16) (harg13 : arg13.IsWhole) (x11 : Vec Ideal S1024x5632 .bf16) (H : Vec Ideal S512x1024 .bf16)

theorem cols_at (n : ℕ) (h : ∀ a, (![0, n] : Fin 2 → ℕ) a + S1024x256.size a ≤ S1024x5632.size a) (hn : n + 256 ≤ 5632) (d : Fin 1024) (f : Fin 256) :
    cols arg13 harg13 x11 n h (ix2 d f) = x11 (ix2 d ⟨n + f.val, by omega⟩) := by
  refine (harg13.readAt_unread x11 _ _).trans (congrArg x11 (funext fun e => Fin.ext ?_))
  fin_cases e
  · show 0 + 1 * d.val = d.val
    omega
  · show n + 1 * f.val = n + f.val
    omega

/-- All hidden units of the block. -/
def units (y : S512x2816.Idx) : EReal := unit (fun d => H (ix2 (y 0) d)) (fun d z => x11 (ix2 d z)) (y 1)

theorem piece_at (n : ℕ) (h : ∀ a, (![0, n] : Fin 2 → ℕ) a + S512x256.size a ≤ S512x2816.size a)
    (hg : ∀ a, (![0, n] : Fin 2 → ℕ) a + S1024x256.size a ≤ S1024x5632.size a) (hu : ∀ a, (![0, 2816 + n] : Fin 2 → ℕ) a + S1024x256.size a ≤ S1024x5632.size a)
    (y : (piece (F := Ideal) arg13 harg13 x11 H n h hg hu).1.shape.Idx) :
    (piece (F := Ideal) arg13 harg13 x11 H n h hg hu).2 y = units x11 H ((piece (F := Ideal) arg13 harg13 x11 H n h hg hu).1.emb y) := by
  have hn : n + 256 ≤ 2816 := h 1
  change S512x256.Idx at y
  idx_vars y
  have e0 : ((piece (F := Ideal) arg13 harg13 x11 H n h hg hu).1.emb (ix2 y0 y1)) = (ix2 y0 ⟨n + y1.val, by omega⟩ : S512x2816.Idx) := by
    funext e
    refine Fin.ext ?_
    fin_cases e
    · show 0 + 1 * y0.val = y0.val
      omega
    · show n + 1 * y1.val = n + y1.val
      omega
  refine Eq.trans ?_ (congrArg (units x11 H) e0).symm
  refine (pay10_at H _ _ y0 y1).trans ?_
  unfold units unit
  have c1 : ∀ d : Fin 1024, cols (F := Ideal) arg13 harg13 x11 n hg (ix2 d y1) = x11 (ix2 d ⟨n + y1.val, by omega⟩) :=
    fun d => cols_at arg13 harg13 x11 n hg (by omega) d y1
  have c2 : ∀ d : Fin 1024, cols (F := Ideal) arg13 harg13 x11 (2816 + n) hu (ix2 d y1) = x11 (ix2 d ⟨2816 + (n + y1.val), by omega⟩) :=
    fun d => (cols_at arg13 harg13 x11 (2816 + n) hu (by omega) d y1).trans (congrArg x11 (congrArg (ix2 d) (Fin.ext (Nat.add_assoc 2816 n y1.val))))
  simp only [c1, c2]
  rfl

theorem pieces_of : View.PiecesOf (units x11 H) (pieces (F := Ideal) arg13 harg13 x11 H) := by
  refine ⟨piece_at arg13 harg13 x11 H _ _ _ _, piece_at arg13 harg13 x11 H _ _ _ _, piece_at arg13 harg13 x11 H _ _ _ _, piece_at arg13 harg13 x11 H _ _ _ _,
    piece_at arg13 harg13 x11 H _ _ _ _, piece_at arg13 harg13 x11 H _ _ _ _, piece_at arg13 harg13 x11 H _ _ _ _, piece_at arg13 harg13 x11 H _ _ _ _,
    piece_at arg13 harg13 x11 H _ _ _ _, piece_at arg13 harg13 x11 H _ _ _ _, piece_at arg13 harg13 x11 H _ _ _ _, trivial⟩

theorem scratch_at (arg18 : Memref sig .tc .vmem S512x2816 .bf16) (q : Fin 512) (f : Fin 2816) :
    arg18.view.readCov (pieces (F := Ideal) arg13 harg13 x11 H) (Rect.unit (s := S512x2816) ![0, 0] S512x2816.size inb_S512x2816_S512x2816_0_0).toLoadRect (ix2 q f)
      = unit (fun d => H (ix2 q d)) (fun d z => x11 (ix2 d z)) f := by
  rw [View.readCov_eq_canon']
  have e : (Rect.unit (s := S512x2816) ![0, 0] S512x2816.size inb_S512x2816_S512x2816_0_0).toLoadRect.idx (ix2 q f) = (ix2 q f : S512x2816.Idx) := by
    funext a
    refine Fin.ext ?_
    fin_cases a
    · show 0 + 1 * q.val = q.val
      omega
    · show 0 + 1 * f.val = f.val
      omega
  refine (congrArg (View.canon _) e).trans ?_
  rw [← List.append_nil (pieces (F := Ideal) arg13 harg13 x11 H)]
  exact View.canon_append_of_piecesOf (units x11 H) [] _ (pieces_of arg13 harg13 x11 H) (ix2 q f)
    (View.cover_of_tiledL (pieces (F := Ideal) arg13 harg13 x11 H) S512x256.size (by sl_kernel_rfl) (ix2 q f))

end

section

variable (X : FVec Ideal S512x1024 .f32) (U : Vec Ideal S512x2816 .bf16) (w2 : Vec Ideal S2816x1024 .bf16) (gf : Vec Ideal S1x1x1024 .f32) (g2 b2 : Vec Ideal S1x1024 .f32)

theorem pay1_at (Y A G : FVec Ideal S512x1024 .f32) (q : Fin 512) (d : Fin 1024) :
    k0_pay1 (F := Ideal) Y A G g2 b2 (ix3 0 q d) = lnorm (fun d => A (ix2 q d) + G (ix2 q d) * Y (ix2 q d)) (fun d => g2 (ix2 0 d)) (fun d => b2 (ix2 0 d)) d := by
  unfold lnorm scaled mean
  pointwise [k0_pay1]

theorem pay24_at (q : Fin 512) (d : Fin 1024) : k0_pay24 (F := Ideal) U w2 (ix2 q d) = ∑ f : Fin 2816, U (ix2 q f) * w2 (ix2 f d) := by
  pointwise [k0_pay24]

theorem pay25_at (q : Fin 512) (d : Fin 1024) : k0_pay25 (F := Ideal) X (ix2 q d) = Ideal.ofBits .f32 0x3FB504F3#32 * X (ix2 q d) := by
  pointwise [k0_pay25]

theorem pay26_at (q : Fin 512) (d : Fin 1024) : k0_pay26 (F := Ideal) gf (ix2 q d) = Ideal.ofBits .f32 0x3F800000#32 + gf (ix3 0 0 d) := by
  pointwise [k0_pay26]

theorem outK_at (q : Fin 512) (d : Fin 1024) :
    outK (F := Ideal) X U w2 gf g2 b2 (ix3 0 q d)
      = lnorm (resid (fun d => X (ix2 q d)) (fun d => gf (ix3 0 0 d)) (fun d => ∑ f : Fin 2816, U (ix2 q f) * w2 (ix2 f d)))
          (fun d => g2 (ix2 0 d)) (fun d => b2 (ix2 0 d)) d := by
  unfold outK
  rw [pay1_at]
  simp only [pay24_at, pay25_at, pay26_at]
  rfl

end

end Cert.Kernel2Ideal.Post

end
-- ==== Proof.PostBlocks.lean ====
module

public import proofs.«01_k».proof.Proof.PostAt
public import proofs.«01_k».proof.Proof.Gen.Kernel2Ideal.Value

@[expose] public section

set_option maxRecDepth 16384

noncomputable section

namespace Cert.Kernel2Ideal.Post

open Cert.Kernel2Ideal Cert.Kernel2Ideal.Gen Idealize.ShloMosaic Idealize.ShloMosaic.TcCoe Cert.Post

/-! ## What a point leaves in its block -/

section

variable (c : Dev nD) (i : grid0.Coords) (arg2 : Memref sig .tc .vmem S1x512x1024 .f32) (harg2 : arg2.IsWhole) (arg3 : Memref sig .tc .vmem S1x512x640 .bf16) (harg3 : arg3.IsWhole) (arg4 : Memref sig .tc .vmem S1x512x384 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S640x1024 .bf16) (harg9 : arg9.IsWhole) (arg10 : Memref sig .tc .vmem S384x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x512x1024 .f32) (harg17 : arg17.IsWhole) (arg18 : Memref sig .tc .vmem S512x2816 .bf16) (harg18 : arg18.IsWhole)
variable (x0 : Vec Ideal S1x512x1024 .f32) (x1 : Vec Ideal S1x512x640 .bf16) (x2 : Vec Ideal S1x512x384 .bf16) (x3 : Vec Ideal S1x1x1024 .f32) (x4 : Vec Ideal S1x1x1024 .f32) (x5 : Vec Ideal S1x1x1024 .f32) (x6 : Vec Ideal S1x1x1024 .f32) (x7 : Vec Ideal S640x1024 .bf16) (x8 : Vec Ideal S384x1024 .bf16) (x9 : Vec Ideal S1x1024 .f32) (x10 : Vec Ideal S1x1024 .f32) (x11 : Vec Ideal S1024x5632 .bf16) (x12 : Vec Ideal S2816x1024 .bf16) (x13 : Vec Ideal S1x1024 .f32) (x14 : Vec Ideal S1x1024 .f32)

/-- The block stored, once the hidden units are known. -/
theorem outK_of (W : Fin 1024 → Fin 1024 → EReal)
    (hwa : ∀ (e : Fin 640) (d : Fin 1024), x7 (ix2 e d) = W ⟨e.val, by omega⟩ d)
    (hwc : ∀ (e : Fin 384) (d : Fin 1024), x8 (ix2 e d) = W ⟨640 + e.val, by omega⟩ d) (q : Fin 512) (d : Fin 1024) (U : Vec Ideal S512x2816 .bf16)
    (hU : ∀ f, U (ix2 q f) = unit (fun d => hK x0 x1 x2 x3 x4 x5 x7 x8 x9 x10 (ix2 q d)) (fun d z => x11 (ix2 d z)) f) :
    outK (x1K x0 x1 x2 x3 x7 x8 x9 x10) U x12 x6 x13 x14 (ix3 0 q d)
      = full (half (fun d => x0 (ix3 0 q d)) (fun e => x1 (ix3 0 q e)) (fun e => x2 (ix3 0 q e)) (fun d => x3 (ix3 0 0 d)) W
            (fun d => x9 (ix2 0 d)) (fun d => x10 (ix2 0 d)))
          (fun d => x4 (ix3 0 0 d)) (fun d => x5 (ix3 0 0 d)) (fun d => x6 (ix3 0 0 d)) (fun d f => x11 (ix2 d f)) (fun f d => x12 (ix2 f d))
          (fun d => x13 (ix2 0 d)) (fun d => x14 (ix2 0 d)) d := by
  have hx : ∀ d : Fin 1024, x1K x0 x1 x2 x3 x7 x8 x9 x10 (ix2 q d)
      = half (fun d => x0 (ix3 0 q d)) (fun e => x1 (ix3 0 q e)) (fun e => x2 (ix3 0 q e)) (fun d => x3 (ix3 0 0 d)) W
            (fun d => x9 (ix2 0 d)) (fun d => x10 (ix2 0 d)) d := by
    intro d
    rw [x1K_at]
    unfold preRow half proj
    simp only [hwa, hwc]
  rw [outK_at]
  unfold full
  simp only [hU, hK_at, hx]

/-- The block of a run whose arguments hold the rows of the whole arrays. -/
theorem out_at (W : Fin 1024 → Fin 1024 → EReal)
    (hwa : ∀ (e : Fin 640) (d : Fin 1024), x7 (ix2 e d) = W ⟨e.val, by omega⟩ d)
    (hwc : ∀ (e : Fin 384) (d : Fin 1024), x8 (ix2 e d) = W ⟨640 + e.val, by omega⟩ d) (q : Fin 512) (d : Fin 1024) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 (ix3 0 q d)
      = full (half (fun d => x0 (ix3 0 q d)) (fun e => x1 (ix3 0 q e)) (fun e => x2 (ix3 0 q e)) (fun d => x3 (ix3 0 0 d)) W
            (fun d => x9 (ix2 0 d)) (fun d => x10 (ix2 0 d)))
          (fun d => x4 (ix3 0 0 d)) (fun d => x5 (ix3 0 0 d)) (fun d => x6 (ix3 0 0 d)) (fun d f => x11 (ix2 d f)) (fun f d => x12 (ix2 f d))
          (fun d => x13 (ix2 0 d)) (fun d => x14 (ix2 0 d)) d := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14), run_eq]
  refine (congrFun (View.canon_unit_zero (by decide) _ _) (ix3 0 q d)).trans ?_
  exact outK_of x0 x1 x2 x3 x4 x5 x6 x7 x8 x9 x10 x11 x12 x13 x14 W hwa hwc q d _ (fun f => scratch_at arg13 harg13 x11 _ arg18 q f)

end

/-! ## The points' blocks in the arrays -/

theorem idx : ∀ t : Fin cfg0.N, win0_0.index t = ![t.val / 4, t.val % 4, 0] ∧ win0_1.index t = ![t.val / 4, t.val % 4, 0] ∧ win0_2.index t = ![t.val / 4, t.val % 4, 0]
    ∧ win0_3.index t = ![t.val / 4, 0, 0] ∧ win0_4.index t = ![t.val / 4, 0, 0] ∧ win0_5.index t = ![t.val / 4, 0, 0] ∧ win0_6.index t = ![t.val / 4, 0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![t.val / 4, t.val % 4, 0] :=
  (by decide +kernel : ∀ t : Fin grid0.N, _)

theorem batch_lt : ∀ t : Fin cfg0.N, t.val / 4 < 16 := (by decide +kernel : ∀ t : Fin grid0.N, _)

/-- The position of a block's row in the sequence. -/
def pos (t : Fin cfg0.N) (q : Fin 512) : Fin 2048 := ⟨(t.val % 4) * 512 + q.val, by omega⟩

theorem read0 (W : Vec Ideal S16x2048x1024 .f32) (t : Fin cfg0.N) (q : Fin 512) (z : Fin 1024) :
    ((cfg0.win 0).blk t).view.read (Elt Ideal) W (ix3 0 q z) = W (ix3 ⟨t.val / 4, batch_lt t⟩ (pos t q) z) := by
  unfold pos
  blk_ext [idx t]

theorem read1 (W : Vec Ideal S16x2048x640 .bf16) (t : Fin cfg0.N) (q : Fin 512) (z : Fin 640) :
    ((cfg0.win 1).blk t).view.read (Elt Ideal) W (ix3 0 q z) = W (ix3 ⟨t.val / 4, batch_lt t⟩ (pos t q) z) := by
  unfold pos
  blk_ext [idx t]

theorem read2 (W : Vec Ideal S16x2048x384 .bf16) (t : Fin cfg0.N) (q : Fin 512) (z : Fin 384) :
    ((cfg0.win 2).blk t).view.read (Elt Ideal) W (ix3 0 q z) = W (ix3 ⟨t.val / 4, batch_lt t⟩ (pos t q) z) := by
  unfold pos
  blk_ext [idx t]

theorem place (W : FVec Ideal S16x2048x1024 .f32) (t : Fin cfg0.N) (q : Fin 512) (z : Fin 1024) :
    W (((cfg0.win 15).blk t).view.emb (ix3 0 q z)) = W (ix3 ⟨t.val / 4, batch_lt t⟩ (pos t q) z) := by
  unfold pos
  blk_ext [idx t]

theorem read3 (W : Vec Ideal S16x1x1024 .f32) (t : Fin cfg0.N) (z : Fin 1024) :
    ((cfg0.win 3).blk t).view.read (Elt Ideal) W (ix3 0 0 z) = W (ix3 ⟨t.val / 4, batch_lt t⟩ 0 z) := by
  blk_ext [idx t]

theorem read4 (W : Vec Ideal S16x1x1024 .f32) (t : Fin cfg0.N) (z : Fin 1024) :
    ((cfg0.win 4).blk t).view.read (Elt Ideal) W (ix3 0 0 z) = W (ix3 ⟨t.val / 4, batch_lt t⟩ 0 z) := by
  blk_ext [idx t]

theorem read5 (W : Vec Ideal S16x1x1024 .f32) (t : Fin cfg0.N) (z : Fin 1024) :
    ((cfg0.win 5).blk t).view.read (Elt Ideal) W (ix3 0 0 z) = W (ix3 ⟨t.val / 4, batch_lt t⟩ 0 z) := by
  blk_ext [idx t]

theorem read6 (W : Vec Ideal S16x1x1024 .f32) (t : Fin cfg0.N) (z : Fin 1024) :
    ((cfg0.win 6).blk t).view.read (Elt Ideal) W (ix3 0 0 z) = W (ix3 ⟨t.val / 4, batch_lt t⟩ 0 z) := by
  blk_ext [idx t]

theorem read7 (W : Vec Ideal S640x1024 .bf16) (t : Fin cfg0.N) (y : Fin 640) (z : Fin 1024) :
    ((cfg0.win 7).blk t).view.read (Elt Ideal) W (ix2 y z) = W (ix2 y z) := by
  blk_ext [idx t]

theorem read8 (W : Vec Ideal S384x1024 .bf16) (t : Fin cfg0.N) (y : Fin 384) (z : Fin 1024) :
    ((cfg0.win 8).blk t).view.read (Elt Ideal) W (ix2 y z) = W (ix2 y z) := by
  blk_ext [idx t]

theorem read11 (W : Vec Ideal S1024x5632 .bf16) (t : Fin cfg0.N) (y : Fin 1024) (z : Fin 5632) :
    ((cfg0.win 11).blk t).view.read (Elt Ideal) W (ix2 y z) = W (ix2 y z) := by
  blk_ext [idx t]

theorem read12 (W : Vec Ideal S2816x1024 .bf16) (t : Fin cfg0.N) (y : Fin 2816) (z : Fin 1024) :
    ((cfg0.win 12).blk t).view.read (Elt Ideal) W (ix2 y z) = W (ix2 y z) := by
  blk_ext [idx t]

theorem read9 (W : Vec Ideal S1x1024 .f32) (t : Fin cfg0.N) (z : Fin 1024) :
    ((cfg0.win 9).blk t).view.read (Elt Ideal) W (ix2 0 z) = W (ix2 0 z) := by
  blk_ext [idx t]

theorem read10 (W : Vec Ideal S1x1024 .f32) (t : Fin cfg0.N) (z : Fin 1024) :
    ((cfg0.win 10).blk t).view.read (Elt Ideal) W (ix2 0 z) = W (ix2 0 z) := by
  blk_ext [idx t]

theorem read13 (W : Vec Ideal S1x1024 .f32) (t : Fin cfg0.N) (z : Fin 1024) :
    ((cfg0.win 13).blk t).view.read (Elt Ideal) W (ix2 0 z) = W (ix2 0 z) := by
  blk_ext [idx t]

theorem read14 (W : Vec Ideal S1x1024 .f32) (t : Fin cfg0.N) (z : Fin 1024) :
    ((cfg0.win 14).blk t).view.read (Elt Ideal) W (ix2 0 z) = W (ix2 0 z) := by
  blk_ext [idx t]

/-! ## The arrays the host prepares -/

section

variable (m : (ℓ : Loc nD τ sig) → Buf (Elt Ideal) ℓ) (c : Dev nD)

abbrev a0 : FVec Ideal S16x2048x1024 .f32 := m ((c : Thread nD τ).loc main_arg0)
abbrev a1 : FVec Ideal S16x2048x640 .bf16 := m ((c : Thread nD τ).loc main_arg1)
abbrev a2 : FVec Ideal S16x2048x384 .bf16 := m ((c : Thread nD τ).loc main_arg2)
abbrev a3 : FVec Ideal S16x1024 .f32 := m ((c : Thread nD τ).loc main_arg3)
abbrev a4 : FVec Ideal S16x1024 .f32 := m ((c : Thread nD τ).loc main_arg4)
abbrev a5 : FVec Ideal S16x1024 .f32 := m ((c : Thread nD τ).loc main_arg5)
abbrev a6 : FVec Ideal S16x1024 .f32 := m ((c : Thread nD τ).loc main_arg6)
abbrev a7 : FVec Ideal S1024x1024 .f32 := m ((c : Thread nD τ).loc main_arg7)
abbrev a8 : FVec Ideal S1024 .f32 := m ((c : Thread nD τ).loc main_arg8)
abbrev a9 : FVec Ideal S1024 .f32 := m ((c : Thread nD τ).loc main_arg9)
abbrev a10 : FVec Ideal S1024x5632 .f32 := m ((c : Thread nD τ).loc main_arg10)
abbrev a11 : FVec Ideal S2816x1024 .f32 := m ((c : Thread nD τ).loc main_arg11)
abbrev a12 : FVec Ideal S1024 .f32 := m ((c : Thread nD τ).loc main_arg12)
abbrev a13 : FVec Ideal S1024 .f32 := m ((c : Thread nD τ).loc main_arg13)

theorem wa_at (e : Fin 640) (d : Fin 1024) : (V m c main_v1 : FVec Ideal S640x1024 .bf16) (ix2 e d) = a7 m c (ix2 ⟨e.val, by omega⟩ d) := by
  simp only [V, hostOps0]
  entry_read
  pointwise

theorem wc_at (e : Fin 384) (d : Fin 1024) : (V m c main_v2 : FVec Ideal S384x1024 .bf16) (ix2 e d) = a7 m c (ix2 ⟨640 + e.val, by omega⟩ d) := by
  simp only [V, hostOps0]
  entry_read
  pointwise

theorem win_at (d : Fin 1024) (f : Fin 5632) : (V m c main_v3 : FVec Ideal S1024x5632 .bf16) (ix2 d f) = a10 m c (ix2 d f) := by
  simp only [V, hostOps0]
  entry_read
  pointwise

theorem wout_at (f : Fin 2816) (d : Fin 1024) : (V m c main_v4 : FVec Ideal S2816x1024 .bf16) (ix2 f d) = a11 m c (ix2 f d) := by
  simp only [V, hostOps0]
  entry_read
  pointwise

theorem g1_at (d : Fin 1024) : (V m c main_v5 : FVec Ideal S1x1024 .f32) (ix2 0 d) = a8 m c (ix1 d) := by
  simp only [V, hostOps0]
  entry_read
  pointwise

theorem b1_at (d : Fin 1024) : (V m c main_v6 : FVec Ideal S1x1024 .f32) (ix2 0 d) = a9 m c (ix1 d) := by
  simp only [V, hostOps0]
  entry_read
  pointwise

theorem g2_at (d : Fin 1024) : (V m c main_v7 : FVec Ideal S1x1024 .f32) (ix2 0 d) = a12 m c (ix1 d) := by
  simp only [V, hostOps0]
  entry_read
  pointwise

theorem b2_at (d : Fin 1024) : (V m c main_v8 : FVec Ideal S1x1024 .f32) (ix2 0 d) = a13 m c (ix1 d) := by
  simp only [V, hostOps0]
  entry_read
  pointwise

theorem ga_at (b : Fin 16) (d : Fin 1024) : (V m c main_v9 : FVec Ideal S16x1x1024 .f32) (ix3 b 0 d) = a3 m c (ix2 b d) := by
  simp only [V, hostOps0]
  entry_read
  pointwise

theorem sh_at (b : Fin 16) (d : Fin 1024) : (V m c main_v10 : FVec Ideal S16x1x1024 .f32) (ix3 b 0 d) = a4 m c (ix2 b d) := by
  simp only [V, hostOps0]
  entry_read
  pointwise

theorem sc_at (b : Fin 16) (d : Fin 1024) : (V m c main_v11 : FVec Ideal S16x1x1024 .f32) (ix3 b 0 d) = a5 m c (ix2 b d) := by
  simp only [V, hostOps0]
  entry_read
  pointwise

theorem gf_at (b : Fin 16) (d : Fin 1024) : (V m c main_v12 : FVec Ideal S16x1x1024 .f32) (ix3 b 0 d) = a6 m c (ix2 b d) := by
  simp only [V, hostOps0]
  entry_read
  pointwise

end

end Cert.Kernel2Ideal.Post

end
-- ==== Proof.PostRef.lean ====
module

public import proofs.«01_k».proof.Proof.PostRow
public import proofs.«01_k».proof.Proof.Gen.Reference2Ideal.Run

@[expose] public section

set_option maxRecDepth 16384

noncomputable section

namespace Cert.Reference2Ideal.Post

open Cert.Reference2Ideal Cert.Reference2Ideal.Gen Idealize.ShloMosaic Idealize.ShloMosaic.TcCoe
open Cert.Reference2Ideal.Value
open Cert.Post

/-! ## The reference in stages -/

section

variable {F : FTy → Type} [FloatOps F]

def meanR (v : FVec F S16x2048x1024 .f32) : FVec F S16x2048x1 .f32 :=
  Host.divf (broadcastInDim S16x2048x1 ![0, 1] bcast_S16x2048_S16x2048x1_0_1 (Host.reduceAdd v (constant S_ .f32 0x00000000#32) reducesTo_S16x2048x1024_S16x2048_d2 h_S_))
    (broadcastInDim S16x2048x1 ![] bcast_S_S16x2048x1 (constant S_ .f32 0x44800000#32))

def centred (v : FVec F S16x2048x1024 .f32) (u : FVec F S16x2048x1 .f32) : FVec F S16x2048x1024 .f32 :=
  subf v (broadcastInDim S16x2048x1024 ![0, 1, 2] bcast_S16x2048x1_S16x2048x1024_0_1_2 u)

def scaledR (e : FVec F S16x2048x1024 .f32) (g b : FVec F S1024 .f32) : FVec F S16x2048x1024 .f32 :=
  addf (mulf (mulf e (broadcastInDim S16x2048x1024 ![0, 1, 2] bcast_S16x2048x1_S16x2048x1024_0_1_2
      (Host.rsqrt (addf (meanR (mulf e e)) (broadcastInDim S16x2048x1 ![] bcast_S_S16x2048x1 (constant S_ .f32 0x3727C5AC#32))))))
      (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

def lnormR (v : FVec F S16x2048x1024 .f32) (g b : FVec F S1024 .f32) : FVec F S16x2048x1024 .f32 := scaledR (centred v (meanR v)) g b

def oneplus (g : FVec F S16x1024 .f32) : FVec F S16x2048x1024 .f32 :=
  broadcastInDim S16x2048x1024 ![0, 1, 2] bcast_S16x1x1024_S16x2048x1024_0_1_2
    (addf (broadcastInDim S16x1x1024 ![] bcast_S_S16x1x1024 (constant S_ .f32 0x3F800000#32)) (broadcastInDim S16x1x1024 ![0, 2] bcast_S16x1024_S16x1x1024_0_2 g))

def residR (x : FVec F S16x2048x1024 .f32) (g : FVec F S16x1024 .f32) (y : FVec F S16x2048x1024 .f32) : FVec F S16x2048x1024 .f32 :=
  addf (mulf (broadcastInDim S16x2048x1024 ![] bcast_S_S16x2048x1024 (constant S_ .f32 0x3FB504F3#32)) x) (mulf (oneplus g) y)

def mixR (ao : FVec F S16x2048x640 .bf16) (co : FVec F S16x2048x384 .bf16) : FVec F S16x2048x1024 .f32 :=
  concatenate S16x2048x1024 2 [⟨S16x2048x640, (extf .f32 ao bitsLt_bf16_f32)⟩, ⟨S16x2048x384, (extf .f32 co bitsLt_bf16_f32)⟩]
    concatenates_S16x2048x640_S16x2048x384_S16x2048x1024_d2

def projR (e : FVec F S16x2048x1024 .f32) (w : FVec F S1024x1024 .f32) : FVec F S16x2048x1024 .f32 :=
  Host.dotGeneral dot_S16x2048x1024_S1024x1024_S16x2048x1024_2_0_01_1_n_n none e w

def modulR (x : FVec F S16x2048x1024 .f32) (sc sh : FVec F S16x1024 .f32) : FVec F S16x2048x1024 .f32 :=
  addf (mulf x (oneplus sc)) (broadcastInDim S16x2048x1024 ![0, 1, 2] bcast_S16x1x1024_S16x2048x1024_0_1_2 (broadcastInDim S16x1x1024 ![0, 2] bcast_S16x1024_S16x1x1024_0_2 sh))

def wideR (h : FVec F S16x2048x1024 .f32) (wi : FVec F S1024x5632 .f32) : FVec F S16x2048x5632 .f32 :=
  Host.dotGeneral dot_S16x2048x1024_S1024x5632_S16x2048x5632_2_0_01_1_n_n none h wi

def gateR (p : FVec F S16x2048x5632 .f32) : FVec F S16x2048x2816 .f32 :=
  extractStridedSlice S16x2048x2816 ![0, 0, 0] p slices_S16x2048x5632_S16x2048x2816_0_0_0

def unitR (p : FVec F S16x2048x5632 .f32) : FVec F S16x2048x2816 .f32 :=
  mulf (mulf (gateR p) (Host.divf (broadcastInDim S16x2048x2816 ![] bcast_S_S16x2048x2816 (constant S_ .f32 0x3F800000#32))
    (addf (broadcastInDim S16x2048x2816 ![] bcast_S_S16x2048x2816 (constant S_ .f32 0x3F800000#32)) (Host.exp (Host.negf (gateR p))))))
    (extractStridedSlice S16x2048x2816 ![0, 0, 2816] p slices_S16x2048x5632_S16x2048x2816_0_0_2816)

def backR (u : FVec F S16x2048x2816 .f32) (w2 : FVec F S2816x1024 .f32) : FVec F S16x2048x1024 .f32 :=
  Host.dotGeneral dot_S16x2048x2816_S2816x1024_S16x2048x1024_2_0_01_1_n_n none u w2

/-- The rows after the mixers' half of the layer. -/
def halfR (A0 : FVec F S16x2048x1024 .f32) (A1 : FVec F S16x2048x640 .bf16) (A2 : FVec F S16x2048x384 .bf16) (A3 : FVec F S16x1024 .f32)
    (A7 : FVec F S1024x1024 .f32) (A8 A9 : FVec F S1024 .f32) : FVec F S16x2048x1024 .f32 :=
  lnormR (residR A0 A3 (projR (mixR A1 A2) A7)) A8 A9

/-- The rows after the feed-forward half. -/
def fullR (X : FVec F S16x2048x1024 .f32) (A4 A5 A6 : FVec F S16x1024 .f32) (A10 : FVec F S1024x5632 .f32) (A11 : FVec F S2816x1024 .f32)
    (A12 A13 : FVec F S1024 .f32) : FVec F S16x2048x1024 .f32 :=
  lnormR (residR X A6 (backR (unitR (wideR (modulR X A5 A4) A10)) A11)) A12 A13

end

/-! ## The reference's result -/

theorem half_eq {F : FTy → Type} [FloatOps F] (V0 : Valuation τ sig (Elt F)) : res_main_v38 V0
    = halfR (V0 (Proc.devRef .tc main_arg0)) (V0 (Proc.devRef .tc main_arg1)) (V0 (Proc.devRef .tc main_arg2)) (V0 (Proc.devRef .tc main_arg3))
        (V0 (Proc.devRef .tc main_arg7)) (V0 (Proc.devRef .tc main_arg8)) (V0 (Proc.devRef .tc main_arg9)) := rfl

theorem resid_eq {F : FTy → Type} [FloatOps F] (V0 : Valuation τ sig (Elt F)) : res_main_v57 V0
    = residR (res_main_v38 V0) (V0 (Proc.devRef .tc main_arg6)) (backR (unitR (wideR (modulR (res_main_v38 V0) (V0 (Proc.devRef .tc main_arg5))
        (V0 (Proc.devRef .tc main_arg4))) (V0 (Proc.devRef .tc main_arg10)))) (V0 (Proc.devRef .tc main_arg11))) := rfl

/-- The reference's result: the last normalisation of the last residual is the whole layer of its arguments. -/
theorem res_eq {F : FTy → Type} [FloatOps F] (V0 : Valuation τ sig (Elt F)) : lnormR (res_main_v57 V0) (V0 (Proc.devRef .tc main_arg12)) (V0 (Proc.devRef .tc main_arg13))
    = fullR (halfR (V0 (Proc.devRef .tc main_arg0)) (V0 (Proc.devRef .tc main_arg1)) (V0 (Proc.devRef .tc main_arg2)) (V0 (Proc.devRef .tc main_arg3)) (V0 (Proc.devRef .tc main_arg7)) (V0 (Proc.devRef .tc main_arg8)) (V0 (Proc.devRef .tc main_arg9)))
        (V0 (Proc.devRef .tc main_arg4)) (V0 (Proc.devRef .tc main_arg5)) (V0 (Proc.devRef .tc main_arg6)) (V0 (Proc.devRef .tc main_arg10)) (V0 (Proc.devRef .tc main_arg11)) (V0 (Proc.devRef .tc main_arg12)) (V0 (Proc.devRef .tc main_arg13)) := by
  rw [resid_eq, half_eq]
  rfl

/-- Equal arguments have equal results. -/
theorem res_congr {F : FTy → Type} [FloatOps F] {A0 B0 : FVec F S16x2048x1024 .f32} {A1 B1 : FVec F S16x2048x640 .bf16} {A2 B2 : FVec F S16x2048x384 .bf16} {A3 B3 : FVec F S16x1024 .f32} {A4 B4 : FVec F S16x1024 .f32} {A5 B5 : FVec F S16x1024 .f32} {A6 B6 : FVec F S16x1024 .f32} {A7 B7 : FVec F S1024x1024 .f32} {A8 B8 : FVec F S1024 .f32} {A9 B9 : FVec F S1024 .f32} {A10 B10 : FVec F S1024x5632 .f32} {A11 B11 : FVec F S2816x1024 .f32} {A12 B12 : FVec F S1024 .f32} {A13 B13 : FVec F S1024 .f32}
    (h0 : A0 = B0) (h1 : A1 = B1) (h2 : A2 = B2) (h3 : A3 = B3) (h4 : A4 = B4) (h5 : A5 = B5) (h6 : A6 = B6) (h7 : A7 = B7) (h8 : A8 = B8) (h9 : A9 = B9) (h10 : A10 = B10) (h11 : A11 = B11) (h12 : A12 = B12) (h13 : A13 = B13) :
    fullR (halfR A0 A1 A2 A3 A7 A8 A9) A4 A5 A6 A10 A11 A12 A13 = fullR (halfR B0 B1 B2 B3 B7 B8 B9) B4 B5 B6 B10 B11 B12 B13 := by
  subst h0 h1 h2 h3 h4 h5 h6 h7 h8 h9 h10 h11 h12 h13
  rfl

/-! ## The stages at an index -/

theorem meanR_at (v : FVec Ideal S16x2048x1024 .f32) (b : Fin 16) (s : Fin 2048) (z : Fin 1) : meanR v (ix3 b s z) = mean fun d => v (ix3 b s d) := by
  pointwise [meanR, mean]

theorem centred_at (v : FVec Ideal S16x2048x1024 .f32) (u : FVec Ideal S16x2048x1 .f32) (b : Fin 16) (s : Fin 2048) (d : Fin 1024) :
    centred v u (ix3 b s d) = (v (ix3 b s d) : EReal) - u (ix3 b s 0) := by
  pointwise [centred]

theorem scaledR_at (e : FVec Ideal S16x2048x1024 .f32) (g h : FVec Ideal S1024 .f32) (b : Fin 16) (s : Fin 2048) (d : Fin 1024) :
    scaledR e g h (ix3 b s d) = scaled (fun d => e (ix3 b s d)) (fun d => g (ix1 d)) (fun d => h (ix1 d)) d := by
  pointwise [scaledR, meanR, scaled]

theorem lnormR_at (v : FVec Ideal S16x2048x1024 .f32) (g h : FVec Ideal S1024 .f32) (b : Fin 16) (s : Fin 2048) (d : Fin 1024) :
    lnormR v g h (ix3 b s d) = lnorm (fun d => v (ix3 b s d)) (fun d => g (ix1 d)) (fun d => h (ix1 d)) d := by
  rw [lnormR, scaledR_at]
  simp only [centred_at, meanR_at]
  rfl

theorem residR_at (x : FVec Ideal S16x2048x1024 .f32) (g : FVec Ideal S16x1024 .f32) (y : FVec Ideal S16x2048x1024 .f32) (b : Fin 16) (s : Fin 2048) (d : Fin 1024) :
    residR x g y (ix3 b s d) = resid (fun d => x (ix3 b s d)) (fun d => g (ix2 b d)) (fun d => y (ix3 b s d)) d := by
  pointwise [residR, oneplus, resid]

theorem mixR_at (ao : FVec Ideal S16x2048x640 .bf16) (co : FVec Ideal S16x2048x384 .bf16) (b : Fin 16) (s : Fin 2048) (e : Fin 1024) :
    mixR ao co (ix3 b s e) = if h : e.val < 640 then (ao (ix3 b s ⟨e.val, by omega⟩) : EReal) else co (ix3 b s ⟨e.val - 640, by omega⟩) := by
  pointwise [mixR]

theorem projR_at (e : FVec Ideal S16x2048x1024 .f32) (w : FVec Ideal S1024x1024 .f32) (b : Fin 16) (s : Fin 2048) (d : Fin 1024) :
    projR e w (ix3 b s d) = ∑ z : Fin 1024, (e (ix3 b s z) * w (ix2 z d) : EReal) := by
  pointwise [projR]

theorem projMix_at (ao : FVec Ideal S16x2048x640 .bf16) (co : FVec Ideal S16x2048x384 .bf16) (w : FVec Ideal S1024x1024 .f32) (b : Fin 16) (s : Fin 2048) (d : Fin 1024) :
    projR (mixR ao co) w (ix3 b s d) = proj (fun e => ao (ix3 b s e)) (fun e => co (ix3 b s e)) (fun z d => w (ix2 z d)) d := by
  rw [projR_at]
  simp only [mixR_at]
  rw [Fin.sum_univ_add (a := 640) (b := 384) (f := fun z : Fin 1024 => (if h : z.val < 640 then (ao (ix3 b s ⟨z.val, by omega⟩) : EReal) else co (ix3 b s ⟨z.val - 640, by omega⟩)) * (w (ix2 z d) : EReal))]
  unfold proj
  refine congr (congrArg _ (Finset.sum_congr rfl fun e _ => ?_)) (Finset.sum_congr rfl fun e _ => ?_)
  · rw [dif_pos (show (Fin.castAdd 384 e).val < 640 from e.isLt)]
    rfl
  · rw [dif_neg (show ¬(Fin.natAdd 640 e).val < 640 from by simp)]
    refine congr (congrArg _ (congrArg co (congrArg (ix3 b s) (Fin.ext ?_)))) rfl
    show 640 + e.val - 640 = e.val
    omega

theorem modulR_at (x : FVec Ideal S16x2048x1024 .f32) (sc sh : FVec Ideal S16x1024 .f32) (b : Fin 16) (s : Fin 2048) (d : Fin 1024) :
    modulR x sc sh (ix3 b s d) = modul (fun d => x (ix3 b s d)) (fun d => sc (ix2 b d)) (fun d => sh (ix2 b d)) d := by
  pointwise [modulR, oneplus, modul]

theorem wideR_at (h : FVec Ideal S16x2048x1024 .f32) (wi : FVec Ideal S1024x5632 .f32) (b : Fin 16) (s : Fin 2048) (f : Fin 5632) :
    wideR h wi (ix3 b s f) = ∑ d : Fin 1024, (h (ix3 b s d) * wi (ix2 d f) : EReal) := by
  pointwise [wideR]

theorem unitR_at (p : FVec Ideal S16x2048x5632 .f32) (b : Fin 16) (s : Fin 2048) (f : Fin 2816) :
    unitR p (ix3 b s f) = (p (ix3 b s ⟨f.val, by omega⟩) : EReal) * Ideal.logistic (p (ix3 b s ⟨f.val, by omega⟩)) * p (ix3 b s ⟨2816 + f.val, by omega⟩) := by
  unfold Ideal.logistic
  rw [← Ideal.ofBits_one_f32]
  pointwise [unitR, gateR]

theorem backR_at (u : FVec Ideal S16x2048x2816 .f32) (w2 : FVec Ideal S2816x1024 .f32) (b : Fin 16) (s : Fin 2048) (d : Fin 1024) :
    backR u w2 (ix3 b s d) = ∑ f : Fin 2816, (u (ix3 b s f) * w2 (ix2 f d) : EReal) := by
  pointwise [backR]

theorem halfR_at (A0 : FVec Ideal S16x2048x1024 .f32) (A1 : FVec Ideal S16x2048x640 .bf16) (A2 : FVec Ideal S16x2048x384 .bf16) (A3 : FVec Ideal S16x1024 .f32)
    (A7 : FVec Ideal S1024x1024 .f32) (A8 A9 : FVec Ideal S1024 .f32) (b : Fin 16) (s : Fin 2048) (d : Fin 1024) :
    halfR A0 A1 A2 A3 A7 A8 A9 (ix3 b s d) = half (fun d => A0 (ix3 b s d)) (fun e => A1 (ix3 b s e)) (fun e => A2 (ix3 b s e)) (fun d => A3 (ix2 b d))
      (fun z d => A7 (ix2 z d)) (fun d => A8 (ix1 d)) (fun d => A9 (ix1 d)) d := by
  rw [halfR, lnormR_at]
  simp only [residR_at, projMix_at]
  rfl

theorem fullR_at (X : FVec Ideal S16x2048x1024 .f32) (A4 A5 A6 : FVec Ideal S16x1024 .f32) (A10 : FVec Ideal S1024x5632 .f32) (A11 : FVec Ideal S2816x1024 .f32)
    (A12 A13 : FVec Ideal S1024 .f32) (b : Fin 16) (s : Fin 2048) (d : Fin 1024) :
    fullR X A4 A5 A6 A10 A11 A12 A13 (ix3 b s d) = full (fun d => X (ix3 b s d)) (fun d => A4 (ix2 b d)) (fun d => A5 (ix2 b d)) (fun d => A6 (ix2 b d))
      (fun d f => A10 (ix2 d f)) (fun f d => A11 (ix2 f d)) (fun d => A12 (ix1 d)) (fun d => A13 (ix1 d)) d := by
  rw [fullR, lnormR_at]
  simp only [residR_at, backR_at, unitR_at, wideR_at, modulR_at]
  rfl

end Cert.Reference2Ideal.Post

end
-- ==== Proof.PostWhole.lean ====
module

public import proofs.«01_k».proof.Proof.PostBlocks
public import proofs.«01_k».proof.Proof.PostRef

@[expose] public section

set_option maxRecDepth 16384

noncomputable section

namespace Cert.Kernel2Ideal.Post

open Cert.Kernel2Ideal Cert.Kernel2Ideal.Gen Idealize.ShloMosaic Idealize.ShloMosaic.TcCoe Cert.Post
open Cert.Reference2Ideal.Post (halfR fullR halfR_at fullR_at)

/-! ## The whole result array -/

variable (m : (ℓ : Loc nD τ sig) → Buf (Elt Ideal) ℓ) (c : Dev nD)

/-- The reference's result of the kernel's arguments. -/
abbrev whole : FVec Ideal S16x2048x1024 .f32 :=
  fullR (halfR (a0 m c) (a1 m c) (a2 m c) (a3 m c) (a7 m c) (a8 m c) (a9 m c)) (a4 m c) (a5 m c) (a6 m c) (a10 m c) (a11 m c) (a12 m c) (a13 m c)

section

variable (t : Fin cfg0.N)

theorem e0 (q : Fin 512) (d : Fin 1024) : iblk m c 0 t (ix3 0 q d) = a0 m c (ix3 ⟨t.val / 4, batch_lt t⟩ (pos t q) d) :=
  (read0 (V m c main_arg0) t q d).trans (congrFun (V_main_arg0 m c) _)
theorem e1 (q : Fin 512) (e : Fin 640) : iblk m c 1 t (ix3 0 q e) = a1 m c (ix3 ⟨t.val / 4, batch_lt t⟩ (pos t q) e) :=
  (read1 (V m c main_arg1) t q e).trans (congrFun (V_main_arg1 m c) _)
theorem e2 (q : Fin 512) (e : Fin 384) : iblk m c 2 t (ix3 0 q e) = a2 m c (ix3 ⟨t.val / 4, batch_lt t⟩ (pos t q) e) :=
  (read2 (V m c main_arg2) t q e).trans (congrFun (V_main_arg2 m c) _)
theorem e3 (d : Fin 1024) : iblk m c 3 t (ix3 0 0 d) = a3 m c (ix2 ⟨t.val / 4, batch_lt t⟩ d) :=
  (read3 (V m c main_v9) t d).trans (ga_at m c _ d)
theorem e4 (d : Fin 1024) : iblk m c 4 t (ix3 0 0 d) = a4 m c (ix2 ⟨t.val / 4, batch_lt t⟩ d) :=
  (read4 (V m c main_v10) t d).trans (sh_at m c _ d)
theorem e5 (d : Fin 1024) : iblk m c 5 t (ix3 0 0 d) = a5 m c (ix2 ⟨t.val / 4, batch_lt t⟩ d) :=
  (read5 (V m c main_v11) t d).trans (sc_at m c _ d)
theorem e6 (d : Fin 1024) : iblk m c 6 t (ix3 0 0 d) = a6 m c (ix2 ⟨t.val / 4, batch_lt t⟩ d) :=
  (read6 (V m c main_v12) t d).trans (gf_at m c _ d)
theorem e7 (e : Fin 640) (d : Fin 1024) : iblk m c 7 t (ix2 e d) = a7 m c (ix2 ⟨e.val, by omega⟩ d) :=
  (read7 (V m c main_v1) t e d).trans (wa_at m c e d)
theorem e8 (e : Fin 384) (d : Fin 1024) : iblk m c 8 t (ix2 e d) = a7 m c (ix2 ⟨640 + e.val, by omega⟩ d) :=
  (read8 (V m c main_v2) t e d).trans (wc_at m c e d)
theorem e9 (d : Fin 1024) : iblk m c 9 t (ix2 0 d) = a8 m c (ix1 d) := (read9 (V m c main_v5) t d).trans (g1_at m c d)
theorem e10 (d : Fin 1024) : iblk m c 10 t (ix2 0 d) = a9 m c (ix1 d) := (read10 (V m c main_v6) t d).trans (b1_at m c d)
theorem e11 (d : Fin 1024) (f : Fin 5632) : iblk m c 11 t (ix2 d f) = a10 m c (ix2 d f) := (read11 (V m c main_v3) t d f).trans (win_at m c d f)
theorem e12 (f : Fin 2816) (d : Fin 1024) : iblk m c 12 t (ix2 f d) = a11 m c (ix2 f d) := (read12 (V m c main_v4) t f d).trans (wout_at m c f d)
theorem e13 (d : Fin 1024) : iblk m c 13 t (ix2 0 d) = a12 m c (ix1 d) := (read13 (V m c main_v7) t d).trans (g2_at m c d)
theorem e14 (d : Fin 1024) : iblk m c 14 t (ix2 0 d) = a13 m c (ix1 d) := (read14 (V m c main_v8) t d).trans (b2_at m c d)

theorem left (q : Fin 512) (d : Fin 1024) :
    (dats m 0 c).flushed 15 t (ix3 0 q d) = whole m c (ix3 ⟨t.val / 4, batch_lt t⟩ (pos t q) d) := by
  rw [Cert.Kernel2Ideal.Value.flushed15_A m c t]
  refine (out_at (W := fun z d => a7 m c (ix2 z d)) (hwa := e7 m c t) (hwc := e8 m c t) (q := q) (d := d) ..).trans ?_
  unfold whole
  rw [fullR_at]
  simp only [halfR_at, e0, e1, e2, e3, e4, e5, e6, e9, e10, e11, e12, e13, e14]

end

/-- The kernel's result array is the reference's. -/
theorem final : (dats m 0 c).arrAt 15 cfg0.N = whole m c := by
  refine (dats m 0 c).arrAt_eq_of_covers 15 _ (by decide +kernel) fun t _ y => ?_
  have e : ∃ (q : Fin 512) (z : Fin 1024), y = ix3 0 q z := by
    idx_vars y
    exact ⟨y1, y2, congrArg (fun e => ix3 e y1 y2) (Subsingleton.elim y0 0)⟩
  obtain ⟨q, z, rfl⟩ := e
  exact (left m c t q z).trans (place (whole m c) t q z).symm

end Cert.Kernel2Ideal.Post

end
-- ==== Proof.InRun.lean ====
module

public import proofs.«01_k».proof.Proof.Gen.Kernel3Ideal.Frame
public import Idealize.ShloMosaic.Lib.VecWindow
public import Idealize.ShloMosaic.Lib.WholeRead
public import Idealize.ShloMosaic.Lib.Pipeline.ReadBack

@[expose] public section

set_option maxRecDepth 16384

noncomputable section

namespace Cert.Kernel3Ideal.In

open Cert.Kernel3Ideal Cert.Kernel3Ideal.Gen Idealize.ShloMosaic Idealize.ShloMosaic.TcCoe

variable {F : FTy → Type} [FloatOps F]

/-! ## What one run of the body stores -/

/-- A load of the whole of an argument. -/
abbrev rd {S : Shape} {e : EltTy} (m : Memref sig .tc .vmem S e) (h : m.IsWhole) (x : Vec F S e) (off : Fin S.rank → ℕ)
    (inb : ∀ a, off a + S.size a ≤ S.size a) : Vec F S e :=
  View.readAt (Elt F) m.view (Rect.unit (s := S) off S.size inb).toLoadRect (h.unread x)

omit [FloatOps F] in
theorem rd_eq {S : Shape} {e : EltTy} (m : Memref sig .tc .vmem S e) (h : m.IsWhole) (x : Vec F S e) (off : Fin S.rank → ℕ)
    (inb : ∀ a, off a + S.size a ≤ S.size a) : rd m h x off inb = x := by
  unfold rd
  rw [View.readAt_full]
  exact h.read_unread x

section

variable (x : Vec F S1x512x1024 .f32) (sc sh : Vec F S1x1x1024 .f32) (w : Vec F S1024x2816 .bf16) (bf : Vec F S1x128 .f32)

/-- The keys of the forgetting heads, a head's coordinate by a position. -/
abbrev fkK : FVec F S1x1x384x512 .f32 := k0_pay6 x sc sh w
/-- Their values. -/
abbrev fvK : FVec F S1x1x384x512 .f32 := k0_pay9 (k0_pay1 x sc sh w)
/-- The keys of the differential heads. -/
abbrev dkK : FVec F S1x1x256x512 .f32 := k0_pay7 (k0_pay5 x sc sh w)
/-- Their values. -/
abbrev dvK : FVec F S1x1x256x512 .f32 := k0_pay10 (k0_pay1 x sc sh w)
/-- The gated input of the convolution. -/
abbrev uK : FVec F S1x512x384 .f32 := k0_pay12 (k0_pay1 x sc sh w)
/-- The logarithms of the forget gates. -/
abbrev lfK : FVec F S1x8x512 .f32 :=
  k0_pay20 (k0_pay15 (k0_pay13 (k0_pay1 x sc sh w) bf) (iota .tc S512x128 32 [1] iota_S512x128_d1_w32) k0_pay14)

end

/-- A single store of the whole block leaves that block. -/
theorem stored {κ : Kind} {sp : Space} {S : Shape} {e : EltTy} {off : Fin S.rank → ℕ} (inb : ∀ a, off a + S.size a ≤ S.size a) (hz : off = fun _ => 0)
    (V : View sig κ sp S e) (L : List (View.Piece (Elt F) S e)) {b : Vec F S e} (hc : ∀ y, ∃ pc ∈ L, y ∈ pc.1.set)
    (h : L = [⟨Rect.unit (s := S) off S.size inb, b⟩]) : V.read (Elt F) (V.writes (Elt F) V.junk L) = b := by
  subst h
  rw [View.read_writes_eq_canon _ _ _ hc]
  exact View.canon_unit_zero hz _ _

section

variable (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x2816 .bf16) (harg5 : arg5.IsWhole) (arg6 : Memref sig .tc .vmem S1x128 .f32) (harg6 : arg6.IsWhole) (arg7 : Memref sig .tc .vmem S512x512 .bf16) (harg7 : arg7.IsWhole) (arg8 : Memref sig .tc .vmem S1x640x512 .bf16) (harg8 : arg8.IsWhole) (arg9 : Memref sig .tc .vmem S1x512x1024 .bf16) (harg9 : arg9.IsWhole) (arg10 : Memref sig .tc .vmem S1x1x640x512 .bf16) (harg10 : arg10.IsWhole) (arg11 : Memref sig .tc .vmem S1x1x384x512 .f32) (harg11 : arg11.IsWhole) (arg12 : Memref sig .tc .vmem S1x1x384x512 .f32) (harg12 : arg12.IsWhole) (arg13 : Memref sig .tc .vmem S1x1x256x512 .f32) (harg13 : arg13.IsWhole) (arg14 : Memref sig .tc .vmem S1x1x256x512 .f32) (harg14 : arg14.IsWhole) (arg15 : Memref sig .tc .vmem S1x512x384 .f32) (harg15 : arg15.IsWhole) (arg16 : Memref sig .tc .vmem S1x8x512 .f32) (harg16 : arg16.IsWhole) (arg17 : Memref sig .tc .vmem S1x8x512 .f32) (harg17 : arg17.IsWhole) (arg18 : Memref sig .tc .vmem S1x128 .f32) (harg18 : arg18.IsWhole) (hc0 : cond0_0 i)
    (x0 : Vec F S1x512x1024 .f32) (x1 : Vec F S1x1x1024 .f32) (x2 : Vec F S1x1x1024 .f32) (x3 : Vec F S1024x2816 .bf16) (x4 : Vec F S1x128 .f32) (x5 : Vec F S512x512 .bf16)

set_option maxHeartbeats 4000000 in
theorem reads_A :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (k0_pay2 (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (fkK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (fvK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (dkK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (dvK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (uK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = lfK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0) (rd arg6 harg6 x4 _ inb_S1x128_S1x128_0_0) := by
  refine ⟨stored inb_S1x640x512_S1x640x512_0_0_0 (by decide) _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5) ?_, stored inb_S1x1x384x512_S1x1x384x512_0_0_0_0 (by decide) _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5) ?_, stored inb_S1x1x384x512_S1x1x384x512_0_0_0_0 (by decide) _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5) ?_, stored inb_S1x1x256x512_S1x1x256x512_0_0_0_0 (by decide) _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5) ?_, stored inb_S1x1x256x512_S1x1x256x512_0_0_0_0 (by decide) _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5) ?_, stored inb_S1x512x384_S1x512x384_0_0_0 (by decide) _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5) ?_, stored inb_S1x8x512_S1x8x512_0_0_0 (by decide) _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5) ?_⟩
  all_goals
    delta kernelRun0_A
    rfl

/-- The blocks a run leaves, from the loaded blocks. -/
theorem outs_A :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (k0_pay2 x0 x1 x2 x3)
      ∧ out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (fkK x0 x1 x2 x3)
      ∧ out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (fvK x0 x1 x2 x3)
      ∧ out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (dkK x0 x1 x2 x3)
      ∧ out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (dvK x0 x1 x2 x3)
      ∧ out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = (uK x0 x1 x2 x3)
      ∧ out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 = lfK x0 x1 x2 x3 x4 := by
  have h := reads_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5
  simp only [rd_eq] at h
  exact h

end

section

variable (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x2816 .bf16) (harg5 : arg5.IsWhole) (arg6 : Memref sig .tc .vmem S1x128 .f32) (harg6 : arg6.IsWhole) (arg7 : Memref sig .tc .vmem S512x512 .bf16) (harg7 : arg7.IsWhole) (arg8 : Memref sig .tc .vmem S1x640x512 .bf16) (harg8 : arg8.IsWhole) (arg9 : Memref sig .tc .vmem S1x512x1024 .bf16) (harg9 : arg9.IsWhole) (arg10 : Memref sig .tc .vmem S1x1x640x512 .bf16) (harg10 : arg10.IsWhole) (arg11 : Memref sig .tc .vmem S1x1x384x512 .f32) (harg11 : arg11.IsWhole) (arg12 : Memref sig .tc .vmem S1x1x384x512 .f32) (harg12 : arg12.IsWhole) (arg13 : Memref sig .tc .vmem S1x1x256x512 .f32) (harg13 : arg13.IsWhole) (arg14 : Memref sig .tc .vmem S1x1x256x512 .f32) (harg14 : arg14.IsWhole) (arg15 : Memref sig .tc .vmem S1x512x384 .f32) (harg15 : arg15.IsWhole) (arg16 : Memref sig .tc .vmem S1x8x512 .f32) (harg16 : arg16.IsWhole) (arg17 : Memref sig .tc .vmem S1x8x512 .f32) (harg17 : arg17.IsWhole) (arg18 : Memref sig .tc .vmem S1x128 .f32) (harg18 : arg18.IsWhole) (hc0 : ¬cond0_0 i)
    (x0 : Vec F S1x512x1024 .f32) (x1 : Vec F S1x1x1024 .f32) (x2 : Vec F S1x1x1024 .f32) (x3 : Vec F S1024x2816 .bf16) (x4 : Vec F S1x128 .f32) (x5 : Vec F S512x512 .bf16) (xs0 : Vec F S1x128 .f32)

set_option maxHeartbeats 4000000 in
theorem reads_B :
    out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (k0_pay2 (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (fkK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (fvK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (dkK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (dvK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (uK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0))
      ∧ out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = lfK (rd arg2 harg2 x0 _ inb_S1x512x1024_S1x512x1024_0_0_0) (rd arg3 harg3 x1 _ inb_S1x1x1024_S1x1x1024_0_0_0) (rd arg4 harg4 x2 _ inb_S1x1x1024_S1x1x1024_0_0_0) (rd arg5 harg5 x3 _ inb_S1024x2816_S1024x2816_0_0) (rd arg6 harg6 x4 _ inb_S1x128_S1x128_0_0) := by
  refine ⟨stored inb_S1x640x512_S1x640x512_0_0_0 (by decide) _ _ (cover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0) ?_, stored inb_S1x1x384x512_S1x1x384x512_0_0_0_0 (by decide) _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0) ?_, stored inb_S1x1x384x512_S1x1x384x512_0_0_0_0 (by decide) _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0) ?_, stored inb_S1x1x256x512_S1x1x256x512_0_0_0_0 (by decide) _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0) ?_, stored inb_S1x1x256x512_S1x1x256x512_0_0_0_0 (by decide) _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0) ?_, stored inb_S1x512x384_S1x512x384_0_0_0 (by decide) _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0) ?_, stored inb_S1x8x512_S1x8x512_0_0_0 (by decide) _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0) ?_⟩
  all_goals
    delta kernelRun0_B
    rfl

/-- The blocks a run leaves, from the loaded blocks. -/
theorem outs_B :
    out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (k0_pay2 x0 x1 x2 x3)
      ∧ out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (fkK x0 x1 x2 x3)
      ∧ out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (fvK x0 x1 x2 x3)
      ∧ out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (dkK x0 x1 x2 x3)
      ∧ out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (dvK x0 x1 x2 x3)
      ∧ out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = (uK x0 x1 x2 x3)
      ∧ out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0 = lfK x0 x1 x2 x3 x4 := by
  have h := reads_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 xs0
  simp only [rd_eq] at h
  exact h

end

end Cert.Kernel3Ideal.In

end
-- ==== Proof.InAt.lean ====
module

public import proofs.«01_k».proof.Proof.InRun
public import proofs.«01_k».proof.Proof.PostRow

@[expose] public section

set_option maxRecDepth 16384

noncomputable section

namespace Cert.Kernel3Ideal.In

open Cert.Kernel3Ideal Cert.Kernel3Ideal.Gen Idealize.ShloMosaic Idealize.ShloMosaic.TcCoe Cert.Post

/-! ## The stored blocks, entry by entry -/

section

variable (x : Vec Ideal S1x512x1024 .f32) (sc sh : Vec Ideal S1x1x1024 .f32) (w : Vec Ideal S1024x2816 .bf16) (bf : Vec Ideal S1x128 .f32)

/-- One entry of the projected block. -/
abbrev pr (q : Fin 512) (j : Fin 2816) : EReal :=
  ∑ d : Fin 1024, modul (fun d => x (ix3 0 q d)) (fun d => sc (ix3 0 0 d)) (fun d => sh (ix3 0 0 d)) d * w (ix2 d j)

theorem pay1_at (q : Fin 512) (j : Fin 2816) : k0_pay1 (F := Ideal) x sc sh w (ix2 q j) = pr x sc sh w q j := by
  unfold pr modul
  pointwise [k0_pay1]

theorem q_at (e : Fin 640) (q : Fin 512) : k0_pay2 (F := Ideal) x sc sh w (ix3 0 e q) = pr x sc sh w q ⟨e.val, by omega⟩ := by
  rw [← pay1_at]
  unfold k0_pay2
  generalize k0_pay1 (F := Ideal) x sc sh w = P
  pointwise []

theorem fk_at (e : Fin 384) (q : Fin 512) : fkK (F := Ideal) x sc sh w (ix4 0 0 e q) = pr x sc sh w q ⟨640 + e.val, by omega⟩ := by
  rw [← pay1_at]
  unfold fkK k0_pay6 k0_pay5 k0_pay3
  generalize k0_pay1 (F := Ideal) x sc sh w = P
  pointwise []

theorem dk_at (e : Fin 256) (q : Fin 512) : dkK (F := Ideal) x sc sh w (ix4 0 0 e q) = pr x sc sh w q ⟨1024 + e.val, by omega⟩ := by
  rw [← pay1_at]
  unfold dkK k0_pay7 k0_pay5 k0_pay3
  generalize k0_pay1 (F := Ideal) x sc sh w = P
  pointwise []
  exact congrArg (fun z => P (ix2 q z)) (Fin.ext (Nat.add_assoc 640 384 e.val).symm)

theorem fv_at (e : Fin 384) (q : Fin 512) : fvK (F := Ideal) x sc sh w (ix4 0 0 e q) = pr x sc sh w q ⟨1280 + e.val, by omega⟩ := by
  rw [← pay1_at]
  unfold fvK k0_pay9 k0_pay8
  generalize k0_pay1 (F := Ideal) x sc sh w = P
  pointwise []

theorem dv_at (e : Fin 256) (q : Fin 512) : dvK (F := Ideal) x sc sh w (ix4 0 0 e q) = pr x sc sh w q ⟨1664 + e.val, by omega⟩ := by
  rw [← pay1_at]
  unfold dvK k0_pay10 k0_pay8
  generalize k0_pay1 (F := Ideal) x sc sh w = P
  pointwise []
  exact congrArg (fun z => P (ix2 q z)) (Fin.ext (Nat.add_assoc 1280 384 e.val).symm)

theorem u_at (q : Fin 512) (e : Fin 384) : uK (F := Ideal) x sc sh w (ix3 0 q e)
    = pr x sc sh w q ⟨1920 + e.val, by omega⟩ * Ideal.logistic (pr x sc sh w q ⟨2304 + e.val, by omega⟩) := by
  rw [← pay1_at, ← pay1_at]
  unfold uK k0_pay12
  generalize k0_pay1 (F := Ideal) x sc sh w = P
  pointwise []

/-- The logarithm of the logistic function, as the kernel takes it. -/
abbrev logsigK (z : EReal) : EReal := min z 0 - Ideal.log1p (Ideal.exp (0 - FloatOps.absf (F := Ideal) (φ := .f32) z))

theorem lf_at (e : Fin 8) (he : e.val < 6) (q : Fin 512) : lfK (F := Ideal) x sc sh w bf (ix3 0 e q)
    = logsigK (pr x sc sh w q ⟨2688 + e.val, by omega⟩ + bf (ix2 0 ⟨e.val, by omega⟩)) := by
  have hc : IntOp.cmpi .slt (BitVec.ofNat 32 e.val) 6#32 = 1#1 := by
    revert he
    revert e
    decide
  rw [← pay1_at]
  unfold lfK k0_pay20 k0_pay15 k0_pay13 k0_pay14
  generalize k0_pay1 (F := Ideal) x sc sh w = P
  pointwise []
  rw [hc]
  rfl

theorem lf_zero (e : Fin 8) (he : ¬ e.val < 6) (q : Fin 512) : lfK (F := Ideal) x sc sh w bf (ix3 0 e q) = 0 := by
  have hc : IntOp.cmpi .slt (BitVec.ofNat 32 e.val) 6#32 = 0#1 := by
    revert he
    revert e
    decide
  unfold lfK k0_pay20 k0_pay15 k0_pay13 k0_pay14
  generalize k0_pay1 (F := Ideal) x sc sh w = P
  pointwise []
  rw [hc]
  rfl

end

end Cert.Kernel3Ideal.In

end
-- ==== Proof.InHost.lean ====
module

public import proofs.«01_k».proof.Proof.InAt

@[expose] public section

set_option maxRecDepth 16384

noncomputable section

namespace Cert.Kernel3Ideal.In

open Cert.Kernel3Ideal Cert.Kernel3Ideal.Gen Idealize.ShloMosaic Idealize.ShloMosaic.TcCoe

/-! ## The arrays the host prepares -/

section

variable {F : FTy → Type} [FloatOps F]

/-- The weights' parts joined along the columns. -/
def joinW (fq : FVec F S1024x384 .f32) (dq : FVec F S1024x256 .f32) (fk : FVec F S1024x384 .f32) (dk : FVec F S1024x256 .f32)
    (fv : FVec F S1024x384 .f32) (dv : FVec F S1024x256 .f32) (cc : FVec F S1024x768 .f32) (fg : FVec F S1024x128 .f32) : FVec F S1024x2816 .bf16 :=
  truncf .bf16 (concatenate S1024x2816 1
    [⟨S1024x384, fq⟩, ⟨S1024x256, dq⟩, ⟨S1024x384, fk⟩, ⟨S1024x256, dk⟩, ⟨S1024x384, fv⟩, ⟨S1024x256, dv⟩, ⟨S1024x768, cc⟩, ⟨S1024x128, fg⟩]
    concatenates_S1024x384_S1024x256_S1024x384_S1024x256_S1024x384_S1024x256_S1024x768_S1024x128_S1024x2816_d1) bitsLt_bf16_f32

/-- The first queries' weights, scaled. -/
def partQ (A3 : FVec F S1024x2694 .f32) : FVec F S1024x384 .f32 :=
  mulf (extractStridedSlice S1024x384 ![0, 0] A3 slices_S1024x2694_S1024x384_0_0) (broadcastInDim S1024x384 ![] bcast_S_S1024x384 (constant S_ .f32 0x3E000000#32))

/-- The gates' weights, widened by zeros. -/
def partG (A3 : FVec F S1024x2694 .f32) : FVec F S1024x128 .f32 :=
  pad S1024x128 ![0, 0] ![0, 122] ![0, 0] (extractStridedSlice S1024x6 ![0, 1152] A3 slices_S1024x2694_S1024x6_0_1152 : FVec F S1024x6 .f32)
    (sitofp .f32 (constantI S_ 32 0#32) : FVec F S_ .f32) pads_S1024x6_S1024x128_000_01220 h_S_

/-- The weights in the kernel's order. -/
def packW (A3 : FVec F S1024x2694 .f32) : FVec F S1024x2816 .bf16 :=
  joinW (partQ A3) (extractStridedSlice S1024x256 ![0, 1158] A3 slices_S1024x2694_S1024x256_0_1158)
    (extractStridedSlice S1024x384 ![0, 384] A3 slices_S1024x2694_S1024x384_0_384)
    (extractStridedSlice S1024x256 ![0, 1414] A3 slices_S1024x2694_S1024x256_0_1414)
    (extractStridedSlice S1024x384 ![0, 768] A3 slices_S1024x2694_S1024x384_0_768)
    (extractStridedSlice S1024x256 ![0, 1670] A3 slices_S1024x2694_S1024x256_0_1670)
    (extractStridedSlice S1024x768 ![0, 1926] A3 slices_S1024x2694_S1024x768_0_1926) (partG A3)

/-- The gates' biases widened by zeros. -/
def packB (A4 : FVec F S6 .f32) : FVec F S1x128 .f32 :=
  shapeCast S1x128 (pad S128 ![0] ![122] ![0] A4 (sitofp .f32 (constantI S_ 32 0#32) : FVec F S_ .f32) pads_S6_S128_01220 h_S_ : FVec F S128 .f32) shapeCasts_S128_S1x128

end

section

variable (A3 : FVec Ideal S1024x2694 .f32) (d : Fin 1024)

theorem packW_fq (e : Fin 384) : packW A3 (ix2 d ⟨e.val, by omega⟩) = (A3 (ix2 d ⟨e.val, by omega⟩) : EReal) * Ideal.ofBits .f32 0x3E000000#32 := by
  pointwise [packW, joinW, partQ, partG]

theorem packW_dq (e : Fin 256) : packW A3 (ix2 d ⟨384 + e.val, by omega⟩) = A3 (ix2 d ⟨1158 + e.val, by omega⟩) := by
  pointwise [packW, joinW, partQ, partG]

theorem packW_fk (e : Fin 384) : packW A3 (ix2 d ⟨640 + e.val, by omega⟩) = A3 (ix2 d ⟨384 + e.val, by omega⟩) := by
  pointwise [packW, joinW, partQ, partG]
  rw [dif_neg (by omega), dif_neg (by omega), dif_pos (by omega)]
  exact congrArg (fun z => A3 (ix2 d z)) (Fin.ext (by dsimp only; omega))

theorem packW_dk (e : Fin 256) : packW A3 (ix2 d ⟨1024 + e.val, by omega⟩) = A3 (ix2 d ⟨1414 + e.val, by omega⟩) := by
  pointwise [packW, joinW, partQ, partG]
  rw [dif_neg (by omega), dif_neg (by omega), dif_neg (by omega), dif_pos (by omega)]
  exact congrArg (fun z => A3 (ix2 d z)) (Fin.ext (by dsimp only; omega))

theorem packW_fv (e : Fin 384) : packW A3 (ix2 d ⟨1280 + e.val, by omega⟩) = A3 (ix2 d ⟨768 + e.val, by omega⟩) := by
  pointwise [packW, joinW, partQ, partG]
  rw [dif_neg (by omega), dif_neg (by omega), dif_neg (by omega), dif_neg (by omega), dif_pos (by omega)]
  exact congrArg (fun z => A3 (ix2 d z)) (Fin.ext (by dsimp only; omega))

theorem packW_dv (e : Fin 256) : packW A3 (ix2 d ⟨1664 + e.val, by omega⟩) = A3 (ix2 d ⟨1670 + e.val, by omega⟩) := by
  pointwise [packW, joinW, partQ, partG]
  rw [dif_neg (by omega), dif_neg (by omega), dif_neg (by omega), dif_neg (by omega), dif_neg (by omega), dif_pos (by omega)]
  exact congrArg (fun z => A3 (ix2 d z)) (Fin.ext (by dsimp only; omega))

theorem packW_c (e : Fin 768) : packW A3 (ix2 d ⟨1920 + e.val, by omega⟩) = A3 (ix2 d ⟨1926 + e.val, by omega⟩) := by
  pointwise [packW, joinW, partQ, partG]
  rw [dif_neg (by omega), dif_neg (by omega), dif_neg (by omega), dif_neg (by omega), dif_neg (by omega), dif_neg (by omega), dif_pos (by omega)]
  exact congrArg (fun z => A3 (ix2 d z)) (Fin.ext (by dsimp only; omega))

theorem packW_fg (e : Fin 6) : packW A3 (ix2 d ⟨2688 + e.val, by omega⟩) = A3 (ix2 d ⟨1152 + e.val, by omega⟩) := by
  pointwise [packW, joinW, partQ, partG]
  rw [dif_neg (by omega), dif_neg (by omega), dif_neg (by omega), dif_neg (by omega), dif_neg (by omega), dif_neg (by omega), dif_neg (by omega), dif_pos (by omega)]
  exact congrArg (fun z => A3 (ix2 d z)) (Fin.ext (by dsimp only; omega))

theorem packB_at (A4 : FVec Ideal S6 .f32) (e : Fin 6) : packB A4 (ix2 0 ⟨e.val, by omega⟩) = A4 (ix1 e) := by
  pointwise [packB]

end

section

variable (m : (ℓ : Loc nD τ sig) → Buf (Elt Ideal) ℓ) (c : Dev nD)

abbrev a0 : FVec Ideal S16x2048x1024 .f32 := m ((c.tc : Thread nD τ).loc main_arg0)
abbrev a1 : FVec Ideal S16x1024 .f32 := m ((c.tc : Thread nD τ).loc main_arg1)
abbrev a2 : FVec Ideal S16x1024 .f32 := m ((c.tc : Thread nD τ).loc main_arg2)
abbrev a3 : FVec Ideal S1024x2694 .f32 := m ((c.tc : Thread nD τ).loc main_arg3)
abbrev a4 : FVec Ideal S6 .f32 := m ((c.tc : Thread nD τ).loc main_arg4)

theorem sc_at (b : Fin 16) (d : Fin 1024) : (V m c main_v18 : FVec Ideal S16x1x1024 .f32) (ix3 b 0 d) = a2 m c (ix2 b d) := by
  simp only [V, V0, hostOps0, hostOps0_1, hostOps0_2, hostOps0_3, hostOps0_4, hostOps0_5, hostOps0_6, List.flatten_cons, List.flatten_nil, List.append_nil, List.cons_append, List.nil_append]
  entry_read
  pointwise

theorem sh_at (b : Fin 16) (d : Fin 1024) : (V m c main_v19 : FVec Ideal S16x1x1024 .f32) (ix3 b 0 d) = a1 m c (ix2 b d) := by
  simp only [V, V0, hostOps0, hostOps0_1, hostOps0_2, hostOps0_3, hostOps0_4, hostOps0_5, hostOps0_6, List.flatten_cons, List.flatten_nil, List.append_nil, List.cons_append, List.nil_append]
  entry_read
  pointwise

theorem b_eq : (V m c main_v17 : FVec Ideal S1x128 .f32) = packB (a4 m c) := by
  simp only [V, V0, hostOps0, hostOps0_1, hostOps0_2, hostOps0_3, hostOps0_4, hostOps0_5, hostOps0_6, List.flatten_cons, List.flatten_nil, List.append_nil, List.cons_append, List.nil_append]
  entry_read
  rfl

/-- What the buffers hold before the weights' parts are joined. -/
abbrev beforeJoin : Valuation τ sig (Elt Ideal) :=
  StableHlo.after (hostOps0 ++ (hostOps0_1 ++ (hostOps0_2 ++ (hostOps0_3 ++ hostOps0_4.take 3)))) (fun b => m (c, b))

theorem V_join (b : Ref sig .tc) : V m c b = StableHlo.after (hostOps0_4.drop 3 ++ (hostOps0_5 ++ hostOps0_6)) (beforeJoin m c) b := by
  rw [← StableHlo.after_append]
  rfl

theorem w_join : (V m c main_v15 : FVec Ideal S1024x2816 .bf16) = joinW (F := Ideal) (beforeJoin m c main_v13) (beforeJoin m c main_v7) (beforeJoin m c main_v4)
    (beforeJoin m c main_v8) (beforeJoin m c main_v5) (beforeJoin m c main_v9) (beforeJoin m c main_v10) (beforeJoin m c main_v11) := by
  rw [V_join]
  generalize beforeJoin m c = σ
  simp only [hostOps0_4, hostOps0_5, hostOps0_6, List.drop_succ_cons, List.drop_zero, List.cons_append, List.nil_append,
    StableHlo.after_cons, StableHlo.after_nil]
  after_region_results
  rfl

theorem part0 : (beforeJoin m c main_v13 : FVec Ideal S1024x384 .f32) = partQ (a3 m c) := by
  simp only [beforeJoin, hostOps0, hostOps0_1, hostOps0_2, hostOps0_3, hostOps0_4, List.take_succ_cons, List.take_zero, List.cons_append, List.nil_append]
  entry_read
  rfl

theorem part1 : (beforeJoin m c main_v7 : FVec Ideal S1024x256 .f32) = extractStridedSlice S1024x256 ![0, 1158] (a3 m c) slices_S1024x2694_S1024x256_0_1158 := by
  simp only [beforeJoin, hostOps0, hostOps0_1, hostOps0_2, hostOps0_3, hostOps0_4, List.take_succ_cons, List.take_zero, List.cons_append, List.nil_append]
  entry_read
  rfl

theorem part2 : (beforeJoin m c main_v4 : FVec Ideal S1024x384 .f32) = extractStridedSlice S1024x384 ![0, 384] (a3 m c) slices_S1024x2694_S1024x384_0_384 := by
  simp only [beforeJoin, hostOps0, hostOps0_1, hostOps0_2, hostOps0_3, hostOps0_4, List.take_succ_cons, List.take_zero, List.cons_append, List.nil_append]
  entry_read
  rfl

theorem part3 : (beforeJoin m c main_v8 : FVec Ideal S1024x256 .f32) = extractStridedSlice S1024x256 ![0, 1414] (a3 m c) slices_S1024x2694_S1024x256_0_1414 := by
  simp only [beforeJoin, hostOps0, hostOps0_1, hostOps0_2, hostOps0_3, hostOps0_4, List.take_succ_cons, List.take_zero, List.cons_append, List.nil_append]
  entry_read
  rfl

theorem part4 : (beforeJoin m c main_v5 : FVec Ideal S1024x384 .f32) = extractStridedSlice S1024x384 ![0, 768] (a3 m c) slices_S1024x2694_S1024x384_0_768 := by
  simp only [beforeJoin, hostOps0, hostOps0_1, hostOps0_2, hostOps0_3, hostOps0_4, List.take_succ_cons, List.take_zero, List.cons_append, List.nil_append]
  entry_read
  rfl

theorem part5 : (beforeJoin m c main_v9 : FVec Ideal S1024x256 .f32) = extractStridedSlice S1024x256 ![0, 1670] (a3 m c) slices_S1024x2694_S1024x256_0_1670 := by
  simp only [beforeJoin, hostOps0, hostOps0_1, hostOps0_2, hostOps0_3, hostOps0_4, List.take_succ_cons, List.take_zero, List.cons_append, List.nil_append]
  entry_read
  rfl

theorem part6 : (beforeJoin m c main_v10 : FVec Ideal S1024x768 .f32) = extractStridedSlice S1024x768 ![0, 1926] (a3 m c) slices_S1024x2694_S1024x768_0_1926 := by
  simp only [beforeJoin, hostOps0, hostOps0_1, hostOps0_2, hostOps0_3, hostOps0_4, List.take_succ_cons, List.take_zero, List.cons_append, List.nil_append]
  entry_read
  rfl

theorem part7 : (beforeJoin m c main_v11 : FVec Ideal S1024x128 .f32) = partG (a3 m c) := by
  simp only [beforeJoin, hostOps0, hostOps0_1, hostOps0_2, hostOps0_3, hostOps0_4, List.take_succ_cons, List.take_zero, List.cons_append, List.nil_append]
  entry_read
  rfl

theorem w_eq : (V m c main_v15 : FVec Ideal S1024x2816 .bf16) = packW (a3 m c) := by
  rw [w_join, part0, part1, part2, part3, part4, part5, part6, part7]
  rfl

end

end Cert.Kernel3Ideal.In

end
-- ==== Proof.InBlocks.lean ====
module

public import proofs.«01_k».proof.Proof.InHost

@[expose] public section

set_option maxRecDepth 16384

noncomputable section

namespace Cert.Kernel3Ideal.In

open Cert.Kernel3Ideal Cert.Kernel3Ideal.Gen Idealize.ShloMosaic Idealize.ShloMosaic.TcCoe

/-! ## The points' blocks in the arrays -/

theorem idx : ∀ t : Fin cfg0.N, win0_0.index t = ![t.val / 4, t.val % 4, 0] ∧ win0_1.index t = ![t.val / 4, 0, 0] ∧ win0_2.index t = ![t.val / 4, 0, 0]
    ∧ win0_3.index t = ![0, 0] ∧ win0_4.index t = ![0, 0] ∧ win0_6.index t = ![t.val / 4, 0, t.val % 4]
    ∧ win0_9.index t = ![0, t.val / 4, 0, t.val % 4] ∧ win0_10.index t = ![0, t.val / 4, 0, t.val % 4]
    ∧ win0_11.index t = ![0, t.val / 4, 0, t.val % 4] ∧ win0_12.index t = ![0, t.val / 4, 0, t.val % 4]
    ∧ win0_13.index t = ![t.val / 4, t.val % 4, 0] ∧ win0_14.index t = ![t.val / 4, 0, t.val % 4] :=
  (by decide +kernel : ∀ t : Fin grid0.N, _)

theorem batch_lt : ∀ t : Fin cfg0.N, t.val / 4 < 16 := (by decide +kernel : ∀ t : Fin grid0.N, _)

/-- The batch of a point. -/
abbrev bat (t : Fin cfg0.N) : Fin 16 := ⟨t.val / 4, batch_lt t⟩

/-- The position of a block's row in the sequence. -/
def pos (t : Fin cfg0.N) (q : Fin 512) : Fin 2048 := ⟨(t.val % 4) * 512 + q.val, by omega⟩

section

variable (t : Fin cfg0.N)

theorem read0 (W : Vec Ideal S16x2048x1024 .f32) (q : Fin 512) (z : Fin 1024) :
    ((cfg0.win 0).blk t).view.read (Elt Ideal) W (ix3 0 q z) = W (ix3 (bat t) (pos t q) z) := by
  unfold pos
  blk_ext [idx t]

theorem read1 (W : Vec Ideal S16x1x1024 .f32) (z : Fin 1024) :
    ((cfg0.win 1).blk t).view.read (Elt Ideal) W (ix3 0 0 z) = W (ix3 (bat t) 0 z) := by
  blk_ext [idx t]

theorem read2 (W : Vec Ideal S16x1x1024 .f32) (z : Fin 1024) :
    ((cfg0.win 2).blk t).view.read (Elt Ideal) W (ix3 0 0 z) = W (ix3 (bat t) 0 z) := by
  blk_ext [idx t]

theorem read3 (W : Vec Ideal S1024x2816 .bf16) (y : Fin 1024) (z : Fin 2816) :
    ((cfg0.win 3).blk t).view.read (Elt Ideal) W (ix2 y z) = W (ix2 y z) := by
  blk_ext [idx t]

theorem read4 (W : Vec Ideal S1x128 .f32) (z : Fin 128) :
    ((cfg0.win 4).blk t).view.read (Elt Ideal) W (ix2 0 z) = W (ix2 0 z) := by
  blk_ext [idx t]

theorem place6 (W : FVec Ideal S16x640x2048 .bf16) (e : Fin 640) (q : Fin 512) :
    W (((cfg0.win 6).blk t).view.emb (ix3 0 e q)) = W (ix3 (bat t) e (pos t q)) := by
  unfold pos
  blk_ext [idx t]

theorem place9 (W : FVec Ideal S1x16x384x2048 .f32) (e : Fin 384) (q : Fin 512) :
    W (((cfg0.win 9).blk t).view.emb (ix4 0 0 e q)) = W (ix4 0 (bat t) e (pos t q)) := by
  unfold pos
  blk_ext [idx t]

theorem place10 (W : FVec Ideal S1x16x384x2048 .f32) (e : Fin 384) (q : Fin 512) :
    W (((cfg0.win 10).blk t).view.emb (ix4 0 0 e q)) = W (ix4 0 (bat t) e (pos t q)) := by
  unfold pos
  blk_ext [idx t]

theorem place11 (W : FVec Ideal S1x16x256x2048 .f32) (e : Fin 256) (q : Fin 512) :
    W (((cfg0.win 11).blk t).view.emb (ix4 0 0 e q)) = W (ix4 0 (bat t) e (pos t q)) := by
  unfold pos
  blk_ext [idx t]

theorem place12 (W : FVec Ideal S1x16x256x2048 .f32) (e : Fin 256) (q : Fin 512) :
    W (((cfg0.win 12).blk t).view.emb (ix4 0 0 e q)) = W (ix4 0 (bat t) e (pos t q)) := by
  unfold pos
  blk_ext [idx t]

theorem place13 (W : FVec Ideal S16x2048x384 .f32) (q : Fin 512) (e : Fin 384) :
    W (((cfg0.win 13).blk t).view.emb (ix3 0 q e)) = W (ix3 (bat t) (pos t q) e) := by
  unfold pos
  blk_ext [idx t]

theorem place14 (W : FVec Ideal S16x8x2048 .f32) (e : Fin 8) (q : Fin 512) :
    W (((cfg0.win 14).blk t).view.emb (ix3 0 e q)) = W (ix3 (bat t) e (pos t q)) := by
  unfold pos
  blk_ext [idx t]

end

/-! ## What a point leaves -/

section

variable (m : (ℓ : Loc nD τ sig) → Buf (Elt Ideal) ℓ) (c : Dev nD) (t : Fin cfg0.N)

/-- The seven results' blocks after a point, of its argument blocks. -/
theorem after_eq :
    (dats m 0 c).after 6 t = k0_pay2 (iblk m c 0 t) (iblk m c 1 t) (iblk m c 2 t) (iblk m c 3 t)
    ∧ (dats m 0 c).after 9 t = fkK (iblk m c 0 t) (iblk m c 1 t) (iblk m c 2 t) (iblk m c 3 t)
    ∧ (dats m 0 c).after 10 t = fvK (iblk m c 0 t) (iblk m c 1 t) (iblk m c 2 t) (iblk m c 3 t)
    ∧ (dats m 0 c).after 11 t = dkK (iblk m c 0 t) (iblk m c 1 t) (iblk m c 2 t) (iblk m c 3 t)
    ∧ (dats m 0 c).after 12 t = dvK (iblk m c 0 t) (iblk m c 1 t) (iblk m c 2 t) (iblk m c 3 t)
    ∧ (dats m 0 c).after 13 t = uK (iblk m c 0 t) (iblk m c 1 t) (iblk m c 2 t) (iblk m c 3 t)
    ∧ (dats m 0 c).after 14 t = lfK (iblk m c 0 t) (iblk m c 1 t) (iblk m c 2 t) (iblk m c 3 t) (iblk m c 4 t) := by
  rw [after0_6, after0_9, after0_10, after0_11, after0_12, after0_13, after0_14]
  by_cases h : t.val % 4 = 0
  · rw [outsAt0_A m c t h]
    dsimp only
    exact outs_A ..
  · rw [outsAt0_B m c t h]
    dsimp only
    exact outs_B ..

end

end Cert.Kernel3Ideal.In

end
-- ==== Proof.InTail.lean ====
module

public import proofs.«01_k».proof.Proof.InBlocks

@[expose] public section

set_option maxRecDepth 16384

noncomputable section

namespace Cert.Kernel3Ideal.In

open Cert.Kernel3Ideal Cert.Kernel3Ideal.Gen Idealize.ShloMosaic Idealize.ShloMosaic.TcCoe

variable (m : (ℓ : Loc nD τ sig) → Buf (Elt Ideal) ℓ) (c : Dev nD)

/-! ## The host operations after the call -/

theorem arr_inj : Function.Injective (Pipeline.arrRef spec0) := by decide

theorem tail22 : (Pipeline.afterTail₀ cfgs (dats m) 0 (V0 m) [hostOps1] c main_v22 : FVec Ideal S16x2048x6x64 .f32)
    = transpose S16x2048x6x64 [0, 3, 1, 2] (shapeCast S16x6x64x2048 ((dats m 0 c).arrAt 9 cfg0.N : FVec Ideal S1x16x384x2048 .f32) shapeCasts_S1x16x384x2048_S16x6x64x2048)
        transposes_S16x6x64x2048_S16x2048x6x64_0_3_1_2 := by
  unfold Pipeline.afterTail₀
  simp only [hostOps1, List.flatten_cons, List.flatten_nil, List.append_nil]
  after_results
  exact congrArg (fun z : FVec Ideal S1x16x384x2048 .f32 => transpose S16x2048x6x64 [0, 3, 1, 2] (shapeCast S16x6x64x2048 z shapeCasts_S1x16x384x2048_S16x6x64x2048)
    transposes_S16x6x64x2048_S16x2048x6x64_0_3_1_2) (Pipeline.withArrays_arr spec0 arr_inj c (V0 m c) _ 9)

theorem tail24 : (Pipeline.afterTail₀ cfgs (dats m) 0 (V0 m) [hostOps1] c main_v24 : FVec Ideal S16x2048x6x64 .f32)
    = transpose S16x2048x6x64 [0, 3, 1, 2] (shapeCast S16x6x64x2048 ((dats m 0 c).arrAt 10 cfg0.N : FVec Ideal S1x16x384x2048 .f32) shapeCasts_S1x16x384x2048_S16x6x64x2048)
        transposes_S16x6x64x2048_S16x2048x6x64_0_3_1_2 := by
  unfold Pipeline.afterTail₀
  simp only [hostOps1, List.flatten_cons, List.flatten_nil, List.append_nil]
  after_results
  exact congrArg (fun z : FVec Ideal S1x16x384x2048 .f32 => transpose S16x2048x6x64 [0, 3, 1, 2] (shapeCast S16x6x64x2048 z shapeCasts_S1x16x384x2048_S16x6x64x2048)
    transposes_S16x6x64x2048_S16x2048x6x64_0_3_1_2) (Pipeline.withArrays_arr spec0 arr_inj c (V0 m c) _ 10)

theorem tail28 : (Pipeline.afterTail₀ cfgs (dats m) 0 (V0 m) [hostOps1] c main_v28 : FVec Ideal S16x2048x4x64 .f32)
    = transpose S16x2048x4x64 [0, 3, 1, 2] (shapeCast S16x4x64x2048 ((dats m 0 c).arrAt 11 cfg0.N : FVec Ideal S1x16x256x2048 .f32) shapeCasts_S1x16x256x2048_S16x4x64x2048)
        transposes_S16x4x64x2048_S16x2048x4x64_0_3_1_2 := by
  unfold Pipeline.afterTail₀
  simp only [hostOps1, List.flatten_cons, List.flatten_nil, List.append_nil]
  after_results
  exact congrArg (fun z : FVec Ideal S1x16x256x2048 .f32 => transpose S16x2048x4x64 [0, 3, 1, 2] (shapeCast S16x4x64x2048 z shapeCasts_S1x16x256x2048_S16x4x64x2048)
    transposes_S16x4x64x2048_S16x2048x4x64_0_3_1_2) (Pipeline.withArrays_arr spec0 arr_inj c (V0 m c) _ 11)

theorem tail30 : (Pipeline.afterTail₀ cfgs (dats m) 0 (V0 m) [hostOps1] c main_v30 : FVec Ideal S16x2048x4x64 .f32)
    = transpose S16x2048x4x64 [0, 3, 1, 2] (shapeCast S16x4x64x2048 ((dats m 0 c).arrAt 12 cfg0.N : FVec Ideal S1x16x256x2048 .f32) shapeCasts_S1x16x256x2048_S16x4x64x2048)
        transposes_S16x4x64x2048_S16x2048x4x64_0_3_1_2 := by
  unfold Pipeline.afterTail₀
  simp only [hostOps1, List.flatten_cons, List.flatten_nil, List.append_nil]
  after_results
  exact congrArg (fun z : FVec Ideal S1x16x256x2048 .f32 => transpose S16x2048x4x64 [0, 3, 1, 2] (shapeCast S16x4x64x2048 z shapeCasts_S1x16x256x2048_S16x4x64x2048)
    transposes_S16x4x64x2048_S16x2048x4x64_0_3_1_2) (Pipeline.withArrays_arr spec0 arr_inj c (V0 m c) _ 12)

theorem tail26 : (Pipeline.afterTail₀ cfgs (dats m) 0 (V0 m) [hostOps1] c main_v26 : FVec Ideal S16x2048x6 .f32)
    = transpose S16x2048x6 [0, 2, 1] (extractStridedSlice S16x6x2048 ![0, 0, 0] ((dats m 0 c).arrAt 14 cfg0.N : FVec Ideal S16x8x2048 .f32) slices_S16x8x2048_S16x6x2048_0_0_0)
        transposes_S16x6x2048_S16x2048x6_0_2_1 := by
  unfold Pipeline.afterTail₀
  simp only [hostOps1, List.flatten_cons, List.flatten_nil, List.append_nil]
  after_results
  exact congrArg (fun z : FVec Ideal S16x8x2048 .f32 => transpose S16x2048x6 [0, 2, 1] (extractStridedSlice S16x6x2048 ![0, 0, 0] z slices_S16x8x2048_S16x6x2048_0_0_0)
    transposes_S16x6x2048_S16x2048x6_0_2_1) (Pipeline.withArrays_arr spec0 arr_inj c (V0 m c) _ 14)

theorem tail31 : (Pipeline.afterTail₀ cfgs (dats m) 0 (V0 m) [hostOps1] c main_v31 : FVec Ideal S16x30x384 .f32)
    = extractStridedSlice S16x30x384 ![0, 2018, 0] ((dats m 0 c).arrAt 13 cfg0.N : FVec Ideal S16x2048x384 .f32) slices_S16x2048x384_S16x30x384_0_2018_0 := by
  unfold Pipeline.afterTail₀
  simp only [hostOps1, List.flatten_cons, List.flatten_nil, List.append_nil]
  after_results
  exact congrArg (fun z : FVec Ideal S16x2048x384 .f32 => extractStridedSlice S16x30x384 ![0, 2018, 0] z slices_S16x2048x384_S16x30x384_0_2018_0)
    (Pipeline.withArrays_arr spec0 arr_inj c (V0 m c) _ 13)

end Cert.Kernel3Ideal.In

end
-- ==== Proof.InRef.lean ====
module

public import proofs.«01_k».proof.Proof.PostRow
public import proofs.«01_k».proof.Proof.Gen.Reference3Ideal.Run

@[expose] public section

set_option maxRecDepth 16384

noncomputable section

namespace Cert.Reference3Ideal.In

open Cert.Reference3Ideal Cert.Reference3Ideal.Gen Idealize.ShloMosaic Idealize.ShloMosaic.TcCoe
open Cert.Reference3Ideal.Value
open Cert.Post Idealize.SL.Sem

/-! ## The reference in stages -/

section

variable {F : FTy → Type} [FloatOps F]

/-- One plus the scales, or the shifts, at every position. -/
def everywhere (g : FVec F S16x1x1024 .f32) : FVec F S16x2048x1024 .f32 :=
  broadcastInDim S16x2048x1024 ![0, 1, 2] bcast_S16x1x1024_S16x2048x1024_0_1_2 g

/-- The projection of the modulated rows. -/
def projR (A0 : FVec F S16x2048x1024 .f32) (A1 A2 : FVec F S16x1024 .f32) (A3 : FVec F S1024x2694 .f32) : FVec F S16x2048x2694 .f32 :=
  Host.dotGeneral dot_S16x2048x1024_S1024x2694_S16x2048x2694_2_0_01_1_n_n none
    (addf (mulf A0 (everywhere (addf (broadcastInDim S16x1x1024 ![] bcast_S_S16x1x1024 (constant S_ .f32 0x3F800000#32))
        (broadcastInDim S16x1x1024 ![0, 2] bcast_S16x1024_S16x1x1024_0_2 A2))))
      (everywhere (broadcastInDim S16x1x1024 ![0, 2] bcast_S16x1024_S16x1x1024_0_2 A1))) A3

variable (P : FVec F S16x2048x2694 .f32) (A4 : FVec F S6 .f32)

/-- The queries, transposed. -/
def qR : FVec F S16x640x2048 .bf16 :=
  truncf .bf16 (transpose S16x640x2048 [0, 2, 1] (concatenate S16x2048x640 2
    [⟨S16x2048x384, (mulf (extractStridedSlice S16x2048x384 ![0, 0, 0] P slices_S16x2048x2694_S16x2048x384_0_0_0)
        (broadcastInDim S16x2048x384 ![] bcast_S_S16x2048x384 (constant S_ .f32 0x3E000000#32)))⟩,
     ⟨S16x2048x256, (extractStridedSlice S16x2048x256 ![0, 0, 1158] P slices_S16x2048x2694_S16x2048x256_0_0_1158)⟩]
    concatenates_S16x2048x384_S16x2048x256_S16x2048x640_d2) transposes_S16x2048x640_S16x640x2048_0_2_1) bitsLt_bf16_f32

/-- The gated input of the convolution. -/
def uR : FVec F S16x2048x384 .f32 :=
  mulf (extractStridedSlice S16x2048x384 ![0, 0, 1926] P slices_S16x2048x2694_S16x2048x384_0_0_1926)
    (Host.divf (broadcastInDim S16x2048x384 ![] bcast_S_S16x2048x384 (constant S_ .f32 0x3F800000#32))
      (addf (broadcastInDim S16x2048x384 ![] bcast_S_S16x2048x384 (constant S_ .f32 0x3F800000#32))
        (Host.exp (Host.negf (extractStridedSlice S16x2048x384 ![0, 0, 2310] P slices_S16x2048x2694_S16x2048x384_0_0_2310)))))

def fkR : FVec F S16x2048x6x64 .f32 :=
  shapeCast _ (extractStridedSlice S16x2048x384 ![0, 0, 384] P slices_S16x2048x2694_S16x2048x384_0_0_384) shapeCasts_S16x2048x384_S16x2048x6x64

def fvR : FVec F S16x2048x6x64 .f32 :=
  shapeCast _ (extractStridedSlice S16x2048x384 ![0, 0, 768] P slices_S16x2048x2694_S16x2048x384_0_0_768) shapeCasts_S16x2048x384_S16x2048x6x64

def dkR : FVec F S16x2048x4x64 .f32 :=
  shapeCast _ (extractStridedSlice S16x2048x256 ![0, 0, 1414] P slices_S16x2048x2694_S16x2048x256_0_0_1414) shapeCasts_S16x2048x256_S16x2048x4x64

def dvR : FVec F S16x2048x4x64 .f32 :=
  shapeCast _ (extractStridedSlice S16x2048x256 ![0, 0, 1670] P slices_S16x2048x2694_S16x2048x256_0_0_1670) shapeCasts_S16x2048x256_S16x2048x4x64

/-- The forget gates before the logistic function, negated. -/
def gateR : FVec F S16x2048x6 .f32 :=
  Host.negf (addf (extractStridedSlice S16x2048x6 ![0, 0, 1152] P slices_S16x2048x2694_S16x2048x6_0_0_1152)
    (broadcastInDim S16x2048x6 ![0, 1, 2] bcast_S1x1x6_S16x2048x6_0_1_2 (broadcastInDim S1x1x6 ![2] bcast_S6_S1x1x6_2 A4)))

/-- The zeros of the forget gates' shape. -/
def zeroR : FVec F S16x2048x6 .f32 := broadcastInDim S16x2048x6 ![] bcast_S_S16x2048x6 (constant S_ .f32 0x00000000#32)

/-- The logarithms of the logistic function of numbers given negated. -/
def lsR (z : FVec F S16x2048x6 .f32) : FVec F S16x2048x6 .f32 :=
  Host.negf (select (cmpf .une (subf z zeroR) (subf z zeroR)) (addf z zeroR)
    (addf (maximumf z zeroR) (Host.log1p (Host.exp (Host.negf (Host.absf (subf z zeroR)))))))

/-- The last rows of the convolution's input after the empty past. -/
def tailR (u : FVec F S16x2048x384 .f32) : FVec F S16x30x384 .f32 :=
  extractStridedSlice S16x30x384 ![0, 2048, 0] (concatenate S16x2078x384 1
    [⟨S16x30x384, (broadcastInDim S16x30x384 ![] bcast_S_S16x30x384 (constant S_ .f32 0x00000000#32))⟩, ⟨S16x2048x384, u⟩]
    concatenates_S16x30x384_S16x2048x384_S16x2078x384_d1) slices_S16x2078x384_S16x30x384_0_2048_0

end

/-- The forget gates' logarithms are these stages of the arguments. -/
theorem lf_eq {F : FTy → Type} [FloatOps F] (m : (ℓ : Loc nD τ sig) → Buf (Elt F) ℓ) (c : Dev nD) : res_main_v24 m c
    = lsR (gateR (projR (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg4))) := rfl

/-- Equal arguments give equal projections. -/
theorem projR_congr {F : FTy → Type} [FloatOps F] {A0 B0 : FVec F S16x2048x1024 .f32} {A1 B1 A2 B2 : FVec F S16x1024 .f32} {A3 B3 : FVec F S1024x2694 .f32}
    (h0 : A0 = B0) (h1 : A1 = B1) (h2 : A2 = B2) (h3 : A3 = B3) : projR A0 A1 A2 A3 = projR B0 B1 B2 B3 := by
  subst h0 h1 h2 h3
  rfl

/-- The projection of the arguments in memory. -/
abbrev projM {F : FTy → Type} [FloatOps F] (m : (ℓ : Loc nD τ sig) → Buf (Elt F) ℓ) (c : Dev nD) : FVec F S16x2048x2694 .f32 :=
  projR (m ((c.tc : Thread nD τ).loc main_arg0)) (m ((c.tc : Thread nD τ).loc main_arg1)) (m ((c.tc : Thread nD τ).loc main_arg2)) (m ((c.tc : Thread nD τ).loc main_arg3))

/-- A run of the reference leaves the stages of its arguments. -/
theorem run_stages {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v35) = qR (projM m c)
      ∧ r.2.mem ((c.tc : Thread nD τ).loc main_v31) = uR (projM m c)
      ∧ r.2.mem ((c.tc : Thread nD τ).loc main_v36) = fkR (projM m c)
      ∧ r.2.mem ((c.tc : Thread nD τ).loc main_v37) = fvR (projM m c)
      ∧ r.2.mem ((c.tc : Thread nD τ).loc main_v24) = lsR (gateR (projM m c) (m ((c.tc : Thread nD τ).loc main_arg4)))
      ∧ r.2.mem ((c.tc : Thread nD τ).loc main_v38) = dkR (projM m c)
      ∧ r.2.mem ((c.tc : Thread nD τ).loc main_v39) = dvR (projM m c)
      ∧ r.2.mem ((c.tc : Thread nD τ).loc main_v40) = tailR (uR (projM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans rfl, (h c).2.1.trans rfl, (h c).2.2.1.trans rfl, (h c).2.2.2.1.trans rfl,
    (h c).2.2.2.2.1.trans (lf_eq m c), (h c).2.2.2.2.2.1.trans rfl, (h c).2.2.2.2.2.2.1.trans rfl, (h c).2.2.2.2.2.2.2.1.trans rfl,
    (h c).2.2.2.2.2.2.2.2⟩) (Cert.Reference3Ideal.Value.run (F := F) m ρ)

/-! ## The stages at an index -/

theorem projR_at (A0 : FVec Ideal S16x2048x1024 .f32) (A1 A2 : FVec Ideal S16x1024 .f32) (A3 : FVec Ideal S1024x2694 .f32) (b : Fin 16) (s : Fin 2048) (j : Fin 2694) :
    projR A0 A1 A2 A3 (ix3 b s j)
      = ∑ d : Fin 1024, modul (fun d => A0 (ix3 b s d)) (fun d => A2 (ix2 b d)) (fun d => A1 (ix2 b d)) d * A3 (ix2 d j) := by
  unfold modul
  pointwise [projR, everywhere]

section

variable (P : FVec Ideal S16x2048x2694 .f32) (A4 : FVec Ideal S6 .f32)

theorem qR_fq (b : Fin 16) (e : Fin 384) (s : Fin 2048) : qR P (ix3 b ⟨e.val, by omega⟩ s) = (P (ix3 b s ⟨e.val, by omega⟩) : EReal) * Ideal.ofBits .f32 0x3E000000#32 := by
  pointwise [qR]

theorem qR_dq (b : Fin 16) (e : Fin 256) (s : Fin 2048) : qR P (ix3 b ⟨384 + e.val, by omega⟩ s) = P (ix3 b s ⟨1158 + e.val, by omega⟩) := by
  pointwise [qR]

theorem uR_at (b : Fin 16) (s : Fin 2048) (e : Fin 384) : uR P (ix3 b s e)
    = (P (ix3 b s ⟨1926 + e.val, by omega⟩) : EReal) * Ideal.logistic (P (ix3 b s ⟨2310 + e.val, by omega⟩)) := by
  unfold Ideal.logistic
  rw [← Ideal.ofBits_one_f32]
  pointwise [uR]

theorem fkR_at (b : Fin 16) (s : Fin 2048) (h : Fin 6) (e : Fin 64) : fkR P (ix4 b s h e) = P (ix3 b s ⟨384 + (h.val * 64 + e.val), by omega⟩) := by
  pointwise [fkR]

theorem fvR_at (b : Fin 16) (s : Fin 2048) (h : Fin 6) (e : Fin 64) : fvR P (ix4 b s h e) = P (ix3 b s ⟨768 + (h.val * 64 + e.val), by omega⟩) := by
  pointwise [fvR]

theorem dkR_at (b : Fin 16) (s : Fin 2048) (h : Fin 4) (e : Fin 64) : dkR P (ix4 b s h e) = P (ix3 b s ⟨1414 + (h.val * 64 + e.val), by omega⟩) := by
  pointwise [dkR]

theorem dvR_at (b : Fin 16) (s : Fin 2048) (h : Fin 4) (e : Fin 64) : dvR P (ix4 b s h e) = P (ix3 b s ⟨1670 + (h.val * 64 + e.val), by omega⟩) := by
  pointwise [dvR]

theorem gateR_at (b : Fin 16) (s : Fin 2048) (h : Fin 6) : gateR P A4 (ix3 b s h) = -((P (ix3 b s ⟨1152 + h.val, by omega⟩) : EReal) + A4 (ix1 h)) := by
  pointwise [gateR]

theorem lsR_at (z : FVec Ideal S16x2048x6 .f32) (b : Fin 16) (s : Fin 2048) (h : Fin 6) : lsR z (ix3 b s h)
    = -(max (z (ix3 b s h) : EReal) 0 + Ideal.log1p (Ideal.exp (-(FloatOps.absf (F := Ideal) (φ := .f32) (z (ix3 b s h)))))) := by
  pointwise [lsR, zeroR]
  rw [if_neg (fun h => h rfl)]

theorem tailR_at (u : FVec Ideal S16x2048x384 .f32) (b : Fin 16) (s : Fin 30) (e : Fin 384) : tailR u (ix3 b s e) = u (ix3 b ⟨2018 + s.val, by omega⟩ e) := by
  pointwise [tailR]
  rw [dif_neg (by omega)]
  exact congrArg (fun t => u (ix3 b t e)) (Fin.ext (by show 2048 + s.val - 30 = 2018 + s.val; omega))

end

end Cert.Reference3Ideal.In

end
-- ==== Proof.InMath.lean ====
module

public import proofs.«01_k».proof.Proof.InAt
public import proofs.«01_k».proof.Proof.Online

@[expose] public section

noncomputable section

namespace Cert.Kernel3Ideal.In

open Idealize.ShloMosaic

/-! ## Three facts of extended real numbers -/

/-- The scale of the first queries is a nonnegative real number. -/
theorem scale_real : Ideal.ofBits .f32 0x3E000000#32 = ((1 / 8 : ℝ) : EReal) := by
  simp [Ideal.ofBits, Ideal.ieee]
  rw [← EReal.coe_mul]
  norm_num

/-- Scaling the weights scales the sum. -/
theorem scaled_sum {n : ℕ} (h w : Fin n → EReal) :
    ∑ d, h d * (w d * Ideal.ofBits .f32 0x3E000000#32) = (∑ d, h d * w d) * Ideal.ofBits .f32 0x3E000000#32 := by
  rw [scale_real, mul_comm, Cert.KernelIdeal.Attn.mul_sum_of_nonneg _ _ (by norm_num)]
  exact Finset.sum_congr rfl fun d _ => by rw [← mul_assoc, mul_comm]

/-- The logarithm of one more than a power is never minus infinity. -/
theorem log1p_exp_ne_bot (u : EReal) : Ideal.log1p (Ideal.exp u) ≠ ⊥ := by
  unfold Ideal.log1p
  induction u with
  | bot =>
    have : Ideal.log (1 + Ideal.exp ⊥) = ((Real.log 1 : ℝ) : EReal) := by
      show Ideal.log (1 + 0) = _
      rw [add_zero]
      show (if (1 : ℝ) ≤ 0 then (⊥ : EReal) else _) = _
      rw [if_neg (by norm_num)]
    rw [this]
    exact EReal.coe_ne_bot _
  | top =>
    have : Ideal.log (1 + Ideal.exp ⊤) = ⊤ := by
      show Ideal.log (1 + ⊤) = _
      rw [EReal.add_top_of_ne_bot (by decide)]
      rfl
    rw [this]
    exact top_ne_bot
  | coe r =>
    have : Ideal.log (1 + Ideal.exp (r : EReal)) = ((Real.log (1 + Real.exp r) : ℝ) : EReal) := by
      show Ideal.log (((1 + Real.exp r : ℝ)) : EReal) = _
      show (if 1 + Real.exp r ≤ 0 then (⊥ : EReal) else _) = _
      rw [if_neg (not_le.mpr (by positivity))]
    rw [this]
    exact EReal.coe_ne_bot _

/-- The kernel's logarithm of the logistic function is the reference's, which takes its number negated. -/
theorem logsig_eq (z : EReal) : logsigK z
    = -(max (-z) 0 + Ideal.log1p (Ideal.exp (-(FloatOps.absf (F := Ideal) (φ := .f32) (-z))))) := by
  have ha : FloatOps.absf (F := Ideal) (φ := .f32) (-z) = FloatOps.absf (F := Ideal) (φ := .f32) z := by
    show max (-z) (- -z) = max z (-z)
    rw [neg_neg, max_comm]
  have hm : max (-z) 0 = -min z 0 := by
    rw [← EReal.max_neg_neg, neg_zero]
  have hb : max (-z) 0 ≠ ⊥ := ne_of_gt (lt_of_lt_of_le EReal.bot_lt_zero (le_max_right _ _))
  unfold logsigK
  rw [ha, EReal.neg_add (Or.inl hb) (Or.inr (log1p_exp_ne_bot _)), hm, neg_neg, zero_sub]

end Cert.Kernel3Ideal.In

end
-- ==== Proof.InWhole.lean ====
module

public import proofs.«01_k».proof.Proof.InTail
public import proofs.«01_k».proof.Proof.InRef
public import proofs.«01_k».proof.Proof.InMath

@[expose] public section

set_option maxRecDepth 16384

noncomputable section

namespace Cert.Kernel3Ideal.In

open Cert.Kernel3Ideal Cert.Kernel3Ideal.Gen Idealize.ShloMosaic Idealize.ShloMosaic.TcCoe Cert.Post Idealize.SL.Sem
open Cert.Reference3Ideal.In (projR qR uR fkR fvR dkR dvR gateR lsR tailR projR_at qR_fq qR_dq uR_at fkR_at fvR_at dkR_at dvR_at gateR_at lsR_at tailR_at)

variable (m : (ℓ : Loc nD τ sig) → Buf (Elt Ideal) ℓ) (c : Dev nD)

/-- The projected rows of the kernel's arguments. -/
abbrev proj : FVec Ideal Cert.Reference3Ideal.S16x2048x2694 .f32 := projR (a0 m c) (a1 m c) (a2 m c) (a3 m c)

section

variable (t : Fin cfg0.N)

theorem e0 (q : Fin 512) (d : Fin 1024) : iblk m c 0 t (ix3 0 q d) = a0 m c (ix3 (bat t) (pos t q) d) :=
  (read0 t (V m c main_arg0) q d).trans (congrFun (V_main_arg0 m c) _)
theorem e1 (d : Fin 1024) : iblk m c 1 t (ix3 0 0 d) = a2 m c (ix2 (bat t) d) :=
  (read1 t (V m c main_v18) d).trans (sc_at m c _ d)
theorem e2 (d : Fin 1024) : iblk m c 2 t (ix3 0 0 d) = a1 m c (ix2 (bat t) d) :=
  (read2 t (V m c main_v19) d).trans (sh_at m c _ d)
theorem e3 (d : Fin 1024) (j : Fin 2816) : iblk m c 3 t (ix2 d j) = packW (a3 m c) (ix2 d j) :=
  (read3 t (V m c main_v15) d j).trans (congrFun (w_eq m c) _)
theorem e4 (j : Fin 128) : iblk m c 4 t (ix2 0 j) = packB (a4 m c) (ix2 0 j) :=
  (read4 t (V m c main_v17) j).trans (congrFun (b_eq m c) _)

/-- A column of a point's projection is a column of the weights' own order. -/
theorem pr_at (q : Fin 512) (j : Fin 2816) (k : Fin 2694) (h : ∀ d, packW (a3 m c) (ix2 d j) = a3 m c (ix2 d k)) :
    pr (iblk m c 0 t) (iblk m c 1 t) (iblk m c 2 t) (iblk m c 3 t) q j = proj m c (ix3 (bat t) (pos t q) k) := by
  unfold proj
  rw [projR_at]
  unfold pr modul
  simp only [e0, e1, e2, e3, h]

/-- A column scaled among the weights is scaled in the projection. -/
theorem pr_scaled (q : Fin 512) (e : Fin 384) :
    pr (iblk m c 0 t) (iblk m c 1 t) (iblk m c 2 t) (iblk m c 3 t) q ⟨e.val, by omega⟩
      = (proj m c (ix3 (bat t) (pos t q) ⟨e.val, by omega⟩) : EReal) * Ideal.ofBits .f32 0x3E000000#32 := by
  unfold proj
  rw [projR_at, ← scaled_sum]
  unfold pr modul
  simp only [e0, e1, e2, e3, packW_fq]

theorem left6 (e : Fin 640) (q : Fin 512) : (dats m 0 c).after 6 t (ix3 0 e q) = qR (proj m c) (ix3 (bat t) e (pos t q)) := by
  rw [(after_eq m c t).1]
  refine (q_at _ _ _ _ e q).trans ?_
  by_cases h : e.val < 384
  · exact (pr_scaled m c t q ⟨e.val, h⟩).trans (qR_fq (proj m c) (bat t) ⟨e.val, h⟩ (pos t q)).symm
  · obtain ⟨k, rfl⟩ : ∃ k : Fin 256, e = ⟨384 + k.val, Nat.add_lt_add_left k.isLt 384⟩ := ⟨⟨e.val - 384, by omega⟩, Fin.ext (by dsimp only; omega)⟩
    exact (pr_at m c t q _ _ fun d => packW_dq (a3 m c) d k).trans (qR_dq (proj m c) (bat t) k (pos t q)).symm

/-- The arrays of keys and values as the kernel leaves them. -/
def heads384 (P : FVec Ideal Cert.Reference3Ideal.S16x2048x2694 .f32) (o : ℕ) (ho : o + 384 ≤ 2694) : FVec Ideal S1x16x384x2048 .f32 :=
  fun y => P (ix3 (y 1) (y 3) ⟨o + (y 2).val, lt_of_lt_of_le (Nat.add_lt_add_left (y 2).isLt o) ho⟩)
def heads256 (P : FVec Ideal Cert.Reference3Ideal.S16x2048x2694 .f32) (o : ℕ) (ho : o + 256 ≤ 2694) : FVec Ideal S1x16x256x2048 .f32 :=
  fun y => P (ix3 (y 1) (y 3) ⟨o + (y 2).val, lt_of_lt_of_le (Nat.add_lt_add_left (y 2).isLt o) ho⟩)

theorem left9 (e : Fin 384) (q : Fin 512) : (dats m 0 c).after 9 t (ix4 0 0 e q) = heads384 (proj m c) 384 (by decide) (ix4 0 (bat t) e (pos t q)) := by
  rw [(after_eq m c t).2.1]
  exact (fk_at _ _ _ _ e q).trans (pr_at m c t q _ _ fun d => packW_fk (a3 m c) d e)

theorem left10 (e : Fin 384) (q : Fin 512) : (dats m 0 c).after 10 t (ix4 0 0 e q) = heads384 (proj m c) 768 (by decide) (ix4 0 (bat t) e (pos t q)) := by
  rw [(after_eq m c t).2.2.1]
  exact (fv_at _ _ _ _ e q).trans (pr_at m c t q _ _ fun d => packW_fv (a3 m c) d e)

theorem left11 (e : Fin 256) (q : Fin 512) : (dats m 0 c).after 11 t (ix4 0 0 e q) = heads256 (proj m c) 1414 (by decide) (ix4 0 (bat t) e (pos t q)) := by
  rw [(after_eq m c t).2.2.2.1]
  exact (dk_at _ _ _ _ e q).trans (pr_at m c t q _ _ fun d => packW_dk (a3 m c) d e)

theorem left12 (e : Fin 256) (q : Fin 512) : (dats m 0 c).after 12 t (ix4 0 0 e q) = heads256 (proj m c) 1670 (by decide) (ix4 0 (bat t) e (pos t q)) := by
  rw [(after_eq m c t).2.2.2.2.1]
  exact (dv_at _ _ _ _ e q).trans (pr_at m c t q _ _ fun d => packW_dv (a3 m c) d e)

theorem packW_cv (d : Fin 1024) (e : Fin 384) : packW (a3 m c) (ix2 d ⟨1920 + e.val, by omega⟩) = a3 m c (ix2 d ⟨1926 + e.val, by omega⟩) :=
  packW_c (a3 m c) d ⟨e.val, by omega⟩

theorem packW_cg (d : Fin 1024) (e : Fin 384) : packW (a3 m c) (ix2 d ⟨2304 + e.val, by omega⟩) = a3 m c (ix2 d ⟨2310 + e.val, by omega⟩) := by
  have h := packW_c (a3 m c) d ⟨384 + e.val, by omega⟩
  simp only [← Nat.add_assoc, Nat.reduceAdd] at h
  exact h

theorem left13 (q : Fin 512) (e : Fin 384) : (dats m 0 c).after 13 t (ix3 0 q e) = uR (proj m c) (ix3 (bat t) (pos t q) e) := by
  rw [(after_eq m c t).2.2.2.2.2.1, uR_at]
  refine (u_at _ _ _ _ q e).trans ?_
  rw [pr_at m c t q _ _ fun d => packW_cv m c d e, pr_at m c t q _ _ fun d => packW_cg m c d e]

/-- The array of the gates' logarithms as the kernel leaves it, two rows of zeros below. -/
def gates (L : FVec Ideal S16x2048x6 .f32) : FVec Ideal S16x8x2048 .f32 :=
  fun y => if h : (y 1).val < 6 then L (ix3 (y 0) (y 2) ⟨(y 1).val, h⟩) else (0 : EReal)

theorem left14 (e : Fin 8) (q : Fin 512) :
    (dats m 0 c).after 14 t (ix3 0 e q) = gates (lsR (gateR (proj m c) (a4 m c))) (ix3 (bat t) e (pos t q)) := by
  rw [(after_eq m c t).2.2.2.2.2.2]
  unfold gates
  by_cases h : e.val < 6
  · refine Eq.trans ?_ (dif_pos h).symm
    refine (lf_at _ _ _ _ _ e h q).trans ?_
    refine Eq.trans ?_ (lsR_at (gateR (proj m c) (a4 m c)) (bat t) (pos t q) ⟨e.val, h⟩).symm
    rw [gateR_at, ← logsig_eq, pr_at m c t q _ _ fun d => packW_fg (a3 m c) d ⟨e.val, h⟩, e4, packB_at (a4 m c) ⟨e.val, h⟩]
  · refine Eq.trans ?_ (dif_neg h).symm
    exact lf_zero _ _ _ _ _ e h q

end

/-! ## The arrays after the call -/

theorem arr6 : (dats m 0 c).arrAt 6 cfg0.N = qR (proj m c) := by
  refine (dats m 0 c).arrAt_eq_of_covers 6 _ (by decide +kernel) fun t _ y => ?_
  have e : ∃ (z : Fin 640) (q : Fin 512), y = ix3 0 z q := by
    idx_vars y
    exact ⟨y1, y2, congrArg (fun e => ix3 e y1 y2) (Subsingleton.elim y0 0)⟩
  obtain ⟨z, q, rfl⟩ := e
  exact (left6 m c t z q).trans (place6 t (qR (proj m c)) z q).symm

theorem arr13 : (dats m 0 c).arrAt 13 cfg0.N = uR (proj m c) := by
  refine (dats m 0 c).arrAt_eq_of_covers 13 _ (by decide +kernel) fun t _ y => ?_
  have e : ∃ (q : Fin 512) (z : Fin 384), y = ix3 0 q z := by
    idx_vars y
    exact ⟨y1, y2, congrArg (fun e => ix3 e y1 y2) (Subsingleton.elim y0 0)⟩
  obtain ⟨q, z, rfl⟩ := e
  exact (left13 m c t q z).trans (place13 t (uR (proj m c)) q z).symm

theorem arr14 : (dats m 0 c).arrAt 14 cfg0.N = gates (lsR (gateR (proj m c) (a4 m c))) := by
  refine (dats m 0 c).arrAt_eq_of_covers 14 _ (by decide +kernel) fun t _ y => ?_
  have e : ∃ (z : Fin 8) (q : Fin 512), y = ix3 0 z q := by
    idx_vars y
    exact ⟨y1, y2, congrArg (fun e => ix3 e y1 y2) (Subsingleton.elim y0 0)⟩
  obtain ⟨z, q, rfl⟩ := e
  exact (left14 m c t z q).trans (place14 t (gates (lsR (gateR (proj m c) (a4 m c)))) z q).symm

theorem four384 (y : (S1x1x384x512).Idx) : ∃ (z : Fin 384) (q : Fin 512), y = ix4 0 0 z q := by
  idx_vars y
  exact ⟨y2, y3, congrArg₂ (fun e e' => ix4 e e' y2 y3) (Subsingleton.elim y0 0) (Subsingleton.elim y1 0)⟩

theorem four256 (y : (S1x1x256x512).Idx) : ∃ (z : Fin 256) (q : Fin 512), y = ix4 0 0 z q := by
  idx_vars y
  exact ⟨y2, y3, congrArg₂ (fun e e' => ix4 e e' y2 y3) (Subsingleton.elim y0 0) (Subsingleton.elim y1 0)⟩

theorem arr9 : (dats m 0 c).arrAt 9 cfg0.N = heads384 (proj m c) 384 (by decide) := by
  refine (dats m 0 c).arrAt_eq_of_covers 9 _ (by decide +kernel) fun t _ y => ?_
  obtain ⟨z, q, rfl⟩ := four384 y
  exact (left9 m c t z q).trans (place9 t (heads384 (proj m c) 384 (by decide)) z q).symm

theorem arr10 : (dats m 0 c).arrAt 10 cfg0.N = heads384 (proj m c) 768 (by decide) := by
  refine (dats m 0 c).arrAt_eq_of_covers 10 _ (by decide +kernel) fun t _ y => ?_
  obtain ⟨z, q, rfl⟩ := four384 y
  exact (left10 m c t z q).trans (place10 t (heads384 (proj m c) 768 (by decide)) z q).symm

theorem arr11 : (dats m 0 c).arrAt 11 cfg0.N = heads256 (proj m c) 1414 (by decide) := by
  refine (dats m 0 c).arrAt_eq_of_covers 11 _ (by decide +kernel) fun t _ y => ?_
  obtain ⟨z, q, rfl⟩ := four256 y
  exact (left11 m c t z q).trans (place11 t (heads256 (proj m c) 1414 (by decide)) z q).symm

theorem arr12 : (dats m 0 c).arrAt 12 cfg0.N = heads256 (proj m c) 1670 (by decide) := by
  refine (dats m 0 c).arrAt_eq_of_covers 12 _ (by decide +kernel) fun t _ y => ?_
  obtain ⟨z, q, rfl⟩ := four256 y
  exact (left12 m c t z q).trans (place12 t (heads256 (proj m c) 1670 (by decide)) z q).symm

/-! ## The results -/

theorem heads384_fk (P : FVec Ideal Cert.Reference3Ideal.S16x2048x2694 .f32) : transpose S16x2048x6x64 [0, 3, 1, 2] (shapeCast S16x6x64x2048 (heads384 P 384 (by decide)) shapeCasts_S1x16x384x2048_S16x6x64x2048)
    transposes_S16x6x64x2048_S16x2048x6x64_0_3_1_2 = fkR P := by
  funext y
  idx_vars y
  rw [fkR_at]
  pointwise [heads384]

theorem heads384_fv (P : FVec Ideal Cert.Reference3Ideal.S16x2048x2694 .f32) : transpose S16x2048x6x64 [0, 3, 1, 2] (shapeCast S16x6x64x2048 (heads384 P 768 (by decide)) shapeCasts_S1x16x384x2048_S16x6x64x2048)
    transposes_S16x6x64x2048_S16x2048x6x64_0_3_1_2 = fvR P := by
  funext y
  idx_vars y
  rw [fvR_at]
  pointwise [heads384]

theorem heads256_dk (P : FVec Ideal Cert.Reference3Ideal.S16x2048x2694 .f32) : transpose S16x2048x4x64 [0, 3, 1, 2] (shapeCast S16x4x64x2048 (heads256 P 1414 (by decide)) shapeCasts_S1x16x256x2048_S16x4x64x2048)
    transposes_S16x4x64x2048_S16x2048x4x64_0_3_1_2 = dkR P := by
  funext y
  idx_vars y
  rw [dkR_at]
  pointwise [heads256]

theorem heads256_dv (P : FVec Ideal Cert.Reference3Ideal.S16x2048x2694 .f32) : transpose S16x2048x4x64 [0, 3, 1, 2] (shapeCast S16x4x64x2048 (heads256 P 1670 (by decide)) shapeCasts_S1x16x256x2048_S16x4x64x2048)
    transposes_S16x4x64x2048_S16x2048x4x64_0_3_1_2 = dvR P := by
  funext y
  idx_vars y
  rw [dvR_at]
  pointwise [heads256]

theorem gates_back (L : FVec Ideal S16x2048x6 .f32) : transpose S16x2048x6 [0, 2, 1] (extractStridedSlice S16x6x2048 ![0, 0, 0] (gates L) slices_S16x8x2048_S16x6x2048_0_0_0)
    transposes_S16x6x2048_S16x2048x6_0_2_1 = L := by
  funext y
  idx_vars y
  pointwise [gates]

theorem tail_eq (u : FVec Ideal S16x2048x384 .f32) : extractStridedSlice S16x30x384 ![0, 2018, 0] u slices_S16x2048x384_S16x30x384_0_2018_0 = tailR u := by
  funext y
  idx_vars y
  rw [tailR_at]
  pointwise []

/-- A run of the kernel leaves the reference's stages of its arguments. -/
theorem run_stages (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20_0) = qR (proj m c)
      ∧ r.2.mem ((c.tc : Thread nD τ).loc main_v20_7) = uR (proj m c)
      ∧ r.2.mem ((c.tc : Thread nD τ).loc main_v22) = fkR (proj m c)
      ∧ r.2.mem ((c.tc : Thread nD τ).loc main_v24) = fvR (proj m c)
      ∧ r.2.mem ((c.tc : Thread nD τ).loc main_v26) = lsR (gateR (proj m c) (a4 m c))
      ∧ r.2.mem ((c.tc : Thread nD τ).loc main_v28) = dkR (proj m c)
      ∧ r.2.mem ((c.tc : Thread nD τ).loc main_v30) = dvR (proj m c)
      ∧ r.2.mem ((c.tc : Thread nD τ).loc main_v31) = tailR (uR (proj m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  obtain ⟨hr, ha⟩ := h
  refine ⟨((hr c).1 6).trans (arr6 m c), ((hr c).1 13).trans (arr13 m c), ?_, ?_, ?_, ?_, ?_, ?_, ha c⟩
  · refine ((hr c).2 main_v22 (Pipeline.mem_restRefs_of main_v22 (by decide) (by decide))).trans ((tail22 m c).trans ?_)
    rw [arr9]
    exact heads384_fk _
  · refine ((hr c).2 main_v24 (Pipeline.mem_restRefs_of main_v24 (by decide) (by decide))).trans ((tail24 m c).trans ?_)
    rw [arr10]
    exact heads384_fv _
  · refine ((hr c).2 main_v26 (Pipeline.mem_restRefs_of main_v26 (by decide) (by decide))).trans ((tail26 m c).trans ?_)
    rw [arr14]
    exact gates_back _
  · refine ((hr c).2 main_v28 (Pipeline.mem_restRefs_of main_v28 (by decide) (by decide))).trans ((tail28 m c).trans ?_)
    rw [arr11]
    exact heads256_dk _
  · refine ((hr c).2 main_v30 (Pipeline.mem_restRefs_of main_v30 (by decide) (by decide))).trans ((tail30 m c).trans ?_)
    rw [arr12]
    exact heads256_dv _
  · refine ((hr c).2 main_v31 (Pipeline.mem_restRefs_of main_v31 (by decide) (by decide))).trans ((tail31 m c).trans ?_)
    rw [arr13]
    exact tail_eq _

end Cert.Kernel3Ideal.In

end
-- ==== Proof.AdaRef.lean ====
module

public import proofs.«01_k».proof.Proof.Gen.Reference4Ideal.Run
public import Idealize.ShloMosaic.Lib.Pipeline.ValueKit

@[expose] public section

set_option maxRecDepth 16384

noncomputable section

namespace Cert.Ada

open Idealize.ShloMosaic

/-- One number of a modulation vector: the condition through SiLU against a column of the weight, plus the bias. -/
def unit (c w : Fin 1024 → EReal) (b : EReal) : EReal := (∑ d, c d * Ideal.logistic (c d) * w d) + b

end Cert.Ada

namespace Cert.Reference4Ideal.Ada

open Cert.Reference4Ideal Cert.Reference4Ideal.Gen Idealize.ShloMosaic Idealize.ShloMosaic.TcCoe
open Cert.Ada

/-! ## The reference in stages -/

section

variable {F : FTy → Type} [FloatOps F]

/-- The weights and the biases of the first and of the second layer. -/
def w0 (W : FVec F S2x1024x6144 .f32) : FVec F S1024x6144 .f32 :=
  shapeCast _ (extractStridedSlice S1x1024x6144 ![0, 0, 0] W slices_S2x1024x6144_S1x1024x6144_0_0_0) shapeCasts_S1x1024x6144_S1024x6144
def w1 (W : FVec F S2x1024x6144 .f32) : FVec F S1024x6144 .f32 :=
  shapeCast _ (extractStridedSlice S1x1024x6144 ![1, 0, 0] W slices_S2x1024x6144_S1x1024x6144_1_0_0) shapeCasts_S1x1024x6144_S1024x6144
def b0 (B : FVec F S2x6144 .f32) : FVec F S6144 .f32 :=
  shapeCast _ (extractStridedSlice S1x6144 ![0, 0] B slices_S2x6144_S1x6144_0_0) shapeCasts_S1x6144_S6144
def b1 (B : FVec F S2x6144 .f32) : FVec F S6144 .f32 :=
  shapeCast _ (extractStridedSlice S1x6144 ![1, 0] B slices_S2x6144_S1x6144_1_0) shapeCasts_S1x6144_S6144

/-- A layer's modulation vectors of the prompts' conditions. -/
def promptL (C : FVec F S16x1024 .f32) (W : FVec F S1024x6144 .f32) (B : FVec F S6144 .f32) : FVec F S16x6144 .f32 :=
  addf (Host.dotGeneral dot_S16x1024_S1024x6144_S16x6144_1_0_0_1_n_n none
      (mulf C (Host.divf (broadcastInDim S16x1024 ![] bcast_S_S16x1024 (constant S_ .f32 0x3F800000#32))
        (addf (broadcastInDim S16x1024 ![] bcast_S_S16x1024 (constant S_ .f32 0x3F800000#32)) (Host.exp (Host.negf C))))) W)
    (broadcastInDim S16x6144 ![0, 1] bcast_S1x6144_S16x6144_0_1 (broadcastInDim S1x6144 ![1] bcast_S6144_S1x6144_1 B))

/-- A layer's modulation vectors of the samples' conditions. -/
def sampleL (C : FVec F S32x1024 .f32) (W : FVec F S1024x6144 .f32) (B : FVec F S6144 .f32) : FVec F S32x6144 .f32 :=
  addf (Host.dotGeneral dot_S32x1024_S1024x6144_S32x6144_1_0_0_1_n_n none
      (mulf C (Host.divf (broadcastInDim S32x1024 ![] bcast_S_S32x1024 (constant S_ .f32 0x3F800000#32))
        (addf (broadcastInDim S32x1024 ![] bcast_S_S32x1024 (constant S_ .f32 0x3F800000#32)) (Host.exp (Host.negf C))))) W)
    (broadcastInDim S32x6144 ![0, 1] bcast_S1x6144_S32x6144_0_1 (broadcastInDim S1x6144 ![1] bcast_S6144_S1x6144_1 B))

/-- Both layers'. -/
def promptR (C : FVec F S16x1024 .f32) (W : FVec F S2x1024x6144 .f32) (B : FVec F S2x6144 .f32) : FVec F S2x16x6144 .f32 :=
  concatenate S2x16x6144 0 [⟨S1x16x6144, broadcastInDim S1x16x6144 ![1, 2] bcast_S16x6144_S1x16x6144_1_2 (promptL C (w0 W) (b0 B))⟩,
    ⟨S1x16x6144, broadcastInDim S1x16x6144 ![1, 2] bcast_S16x6144_S1x16x6144_1_2 (promptL C (w1 W) (b1 B))⟩] concatenates_S1x16x6144_S1x16x6144_S2x16x6144_d0

def sampleR (C : FVec F S32x1024 .f32) (W : FVec F S2x1024x6144 .f32) (B : FVec F S2x6144 .f32) : FVec F S2x32x6144 .f32 :=
  concatenate S2x32x6144 0 [⟨S1x32x6144, broadcastInDim S1x32x6144 ![1, 2] bcast_S32x6144_S1x32x6144_1_2 (sampleL C (w0 W) (b0 B))⟩,
    ⟨S1x32x6144, broadcastInDim S1x32x6144 ![1, 2] bcast_S32x6144_S1x32x6144_1_2 (sampleL C (w1 W) (b1 B))⟩] concatenates_S1x32x6144_S1x32x6144_S2x32x6144_d0

/-- Equal arguments, equal results. -/
theorem promptR_congr {C C' : FVec F S16x1024 .f32} {W W' : FVec F S2x1024x6144 .f32} {B B' : FVec F S2x6144 .f32} (hC : C = C') (hW : W = W') (hB : B = B') :
    promptR C W B = promptR C' W' B' := by
  rw [hC, hW, hB]

theorem sampleR_congr {C C' : FVec F S32x1024 .f32} {W W' : FVec F S2x1024x6144 .f32} {B B' : FVec F S2x6144 .f32} (hC : C = C') (hW : W = W') (hB : B = B') :
    sampleR C W B = sampleR C' W' B' := by
  rw [hC, hW, hB]

end

/-! ## The stages at an index -/

theorem promptL_at (C : FVec Ideal S16x1024 .f32) (W : FVec Ideal S1024x6144 .f32) (B : FVec Ideal S6144 .f32) (b : Fin 16) (e : Fin 6144) :
    promptL C W B (ix2 b e) = unit (fun d => C (ix2 b d)) (fun d => W (ix2 d e)) (B (ix1 e)) := by
  unfold unit Ideal.logistic
  rw [← Ideal.ofBits_one_f32]
  pointwise [promptL]

theorem sampleL_at (C : FVec Ideal S32x1024 .f32) (W : FVec Ideal S1024x6144 .f32) (B : FVec Ideal S6144 .f32) (b : Fin 32) (e : Fin 6144) :
    sampleL C W B (ix2 b e) = unit (fun d => C (ix2 b d)) (fun d => W (ix2 d e)) (B (ix1 e)) := by
  unfold unit Ideal.logistic
  rw [← Ideal.ofBits_one_f32]
  pointwise [sampleL]

theorem w0_at (W : FVec Ideal S2x1024x6144 .f32) (d : Fin 1024) (e : Fin 6144) : w0 W (ix2 d e) = W (ix3 0 d e) := by
  pointwise [w0]
theorem w1_at (W : FVec Ideal S2x1024x6144 .f32) (d : Fin 1024) (e : Fin 6144) : w1 W (ix2 d e) = W (ix3 1 d e) := by
  pointwise [w1]
theorem b0_at (B : FVec Ideal S2x6144 .f32) (e : Fin 6144) : b0 B (ix1 e) = B (ix2 0 e) := by
  pointwise [b0]
theorem b1_at (B : FVec Ideal S2x6144 .f32) (e : Fin 6144) : b1 B (ix1 e) = B (ix2 1 e) := by
  pointwise [b1]

theorem promptR_at (C : FVec Ideal S16x1024 .f32) (W : FVec Ideal S2x1024x6144 .f32) (B : FVec Ideal S2x6144 .f32) (l : Fin 2) (b : Fin 16) (e : Fin 6144) :
    promptR C W B (ix3 l b e) = unit (fun d => C (ix2 b d)) (fun d => W (ix3 l d e)) (B (ix2 l e)) := by
  fin_cases l
  · have h : promptR C W B (ix3 0 b e) = promptL C (w0 W) (b0 B) (ix2 b e) := by pointwise [promptR]
    refine h.trans ?_
    rw [promptL_at]
    simp only [w0_at, b0_at]
    rfl
  · have h : promptR C W B (ix3 1 b e) = promptL C (w1 W) (b1 B) (ix2 b e) := by pointwise [promptR]
    refine h.trans ?_
    rw [promptL_at]
    simp only [w1_at, b1_at]
    rfl

theorem sampleR_at (C : FVec Ideal S32x1024 .f32) (W : FVec Ideal S2x1024x6144 .f32) (B : FVec Ideal S2x6144 .f32) (l : Fin 2) (b : Fin 32) (e : Fin 6144) :
    sampleR C W B (ix3 l b e) = unit (fun d => C (ix2 b d)) (fun d => W (ix3 l d e)) (B (ix2 l e)) := by
  fin_cases l
  · have h : sampleR C W B (ix3 0 b e) = sampleL C (w0 W) (b0 B) (ix2 b e) := by pointwise [sampleR]
    refine h.trans ?_
    rw [sampleL_at]
    simp only [w0_at, b0_at]
    rfl
  · have h : sampleR C W B (ix3 1 b e) = sampleL C (w1 W) (b1 B) (ix2 b e) := by pointwise [sampleR]
    refine h.trans ?_
    rw [sampleL_at]
    simp only [w1_at, b1_at]
    rfl

end Cert.Reference4Ideal.Ada

end
-- ==== Proof.AdaWhole.lean ====
module

public import proofs.«01_k».proof.Proof.AdaRef
public import proofs.«01_k».proof.Proof.Gen.Kernel4Ideal.Frame
public import Idealize.ShloMosaic.Lib.VecWindow
public import Idealize.ShloMosaic.Lib.WholeRead

@[expose] public section

set_option maxRecDepth 16384

noncomputable section

namespace Cert.Kernel4Ideal.Ada

open Cert.Kernel4Ideal Cert.Kernel4Ideal.Gen Idealize.ShloMosaic Idealize.ShloMosaic.TcCoe Idealize.SL.Sem
open Cert.Ada
open Cert.Reference4Ideal.Ada (promptR sampleR promptR_at sampleR_at)

/-! ## One block -/

/-- The block a point stores, at an index. -/
theorem block_at (x : Vec Ideal S48x1024 .f32) (w : Vec Ideal S1x1024x1024 .f32) (b : Vec Ideal S1x1x1024 .f32) (r : Fin 48) (e : Fin 1024) :
    k0_pay1 x w b (ix3 0 r e) = unit (fun d => x (ix2 r d)) (fun d => w (ix3 0 d e)) (b (ix3 0 0 e)) := by
  unfold unit
  pointwise [k0_pay1]

theorem out_eq (x : Vec Ideal S48x1024 .f32) (w : Vec Ideal S1x1024x1024 .f32) (b : Vec Ideal S1x1x1024 .f32) : out0_3 x w b = k0_pay1 x w b := by
  unfold out0_3
  rw [View.canon_unit_zero (by decide)]
  rw [View.ld_unit_zero (by decide), View.ld_unit_zero (by decide), View.ld_unit_zero (by decide)]

/-! ## The points' blocks in the arrays -/

theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

theorem layer_lt : ∀ t : Fin cfg0.N, t.val / 6 < 2 := (by decide +kernel : ∀ t : Fin grid0.N, _)

/-- The layer of a point, and the column of a block's column. -/
abbrev lay (t : Fin cfg0.N) : Fin 2 := ⟨t.val / 6, layer_lt t⟩
def col (t : Fin cfg0.N) (e : Fin 1024) : Fin 6144 := ⟨(t.val % 6) * 1024 + e.val, by omega⟩

section

variable (t : Fin cfg0.N)

theorem read0 (W : Vec Ideal S48x1024 .f32) (r : Fin 48) (d : Fin 1024) :
    ((cfg0.win 0).blk t).view.read (Elt Ideal) W (ix2 r d) = W (ix2 r d) := by
  blk_ext [idx t]

theorem read1 (W : Vec Ideal S2x1024x6144 .f32) (d e : Fin 1024) :
    ((cfg0.win 1).blk t).view.read (Elt Ideal) W (ix3 0 d e) = W (ix3 (lay t) d (col t e)) := by
  unfold col
  blk_ext [idx t]

theorem read2 (W : Vec Ideal S2x1x6144 .f32) (e : Fin 1024) :
    ((cfg0.win 2).blk t).view.read (Elt Ideal) W (ix3 0 0 e) = W (ix3 (lay t) 0 (col t e)) := by
  unfold col
  blk_ext [idx t]

theorem place (W : FVec Ideal S2x48x6144 .f32) (r : Fin 48) (e : Fin 1024) :
    W (((cfg0.win 3).blk t).view.emb (ix3 0 r e)) = W (ix3 (lay t) r (col t e)) := by
  unfold col
  blk_ext [idx t]

end

/-! ## The arrays the host prepares -/

variable (m : (ℓ : Loc nD τ sig) → Buf (Elt Ideal) ℓ) (c : Dev nD)

abbrev a0 : FVec Ideal S16x1024 .f32 := m ((c.tc : Thread nD τ).loc main_arg0)
abbrev a1 : FVec Ideal S32x1024 .f32 := m ((c.tc : Thread nD τ).loc main_arg1)
abbrev a2 : FVec Ideal S2x1024x6144 .f32 := m ((c.tc : Thread nD τ).loc main_arg2)
abbrev a3 : FVec Ideal S2x6144 .f32 := m ((c.tc : Thread nD τ).loc main_arg3)

/-- The conditions of both batches, one under the other. -/
def both (A : FVec Ideal S16x1024 .f32) (B : FVec Ideal S32x1024 .f32) : FVec Ideal S48x1024 .f32 :=
  concatenate S48x1024 0 [⟨S16x1024, A⟩, ⟨S32x1024, B⟩] concatenates_S16x1024_S32x1024_S48x1024_d0

theorem both_prompt (A : FVec Ideal S16x1024 .f32) (B : FVec Ideal S32x1024 .f32) (r : Fin 16) (d : Fin 1024) : both A B (ix2 ⟨r.val, by omega⟩ d) = A (ix2 r d) := by
  pointwise [both]

theorem both_sample (A : FVec Ideal S16x1024 .f32) (B : FVec Ideal S32x1024 .f32) (r : Fin 32) (d : Fin 1024) : both A B (ix2 ⟨16 + r.val, by omega⟩ d) = B (ix2 r d) := by
  pointwise [both]

theorem c_eq : (V m c main_v0 : FVec Ideal S48x1024 .f32) = both (a0 m c) (a1 m c) := by
  simp only [V, V0, hostOps0, List.flatten_cons, List.flatten_nil, List.append_nil]
  entry_read
  rfl

theorem b_at (l : Fin 2) (e : Fin 6144) : (V m c main_v1 : FVec Ideal S2x1x6144 .f32) (ix3 l 0 e) = a3 m c (ix2 l e) := by
  simp only [V, V0, hostOps0, List.flatten_cons, List.flatten_nil, List.append_nil]
  entry_read
  pointwise

/-! ## The whole result array -/

/-- The array of all modulation vectors. -/
def whole (X : FVec Ideal S48x1024 .f32) (W : FVec Ideal S2x1024x6144 .f32) (B : FVec Ideal S2x6144 .f32) : FVec Ideal S2x48x6144 .f32 :=
  fun y => unit (fun d => X (ix2 (y 1) d)) (fun d => W (ix3 (y 0) d (y 2))) (B (ix2 (y 0) (y 2)))

section

variable (t : Fin cfg0.N)

theorem e0 (r : Fin 48) (d : Fin 1024) : iblk m c 0 t (ix2 r d) = both (a0 m c) (a1 m c) (ix2 r d) :=
  (read0 t (V m c main_v0) r d).trans (congrFun (c_eq m c) _)
theorem e1 (d e : Fin 1024) : iblk m c 1 t (ix3 0 d e) = a2 m c (ix3 (lay t) d (col t e)) :=
  (read1 t (V m c main_arg2) d e).trans (congrFun (V_main_arg2 m c) _)
theorem e2 (e : Fin 1024) : iblk m c 2 t (ix3 0 0 e) = a3 m c (ix2 (lay t) (col t e)) :=
  (read2 t (V m c main_v1) e).trans (b_at m c _ _)

theorem left (r : Fin 48) (e : Fin 1024) :
    (dats m 0 c).after 3 t (ix3 0 r e) = whole (both (a0 m c) (a1 m c)) (a2 m c) (a3 m c) (ix3 (lay t) r (col t e)) := by
  rw [after0_3, out_eq]
  refine (block_at _ _ _ r e).trans ?_
  simp only [e0, e1, e2]
  rfl

end

theorem final : (dats m 0 c).arrAt 3 cfg0.N = whole (both (a0 m c) (a1 m c)) (a2 m c) (a3 m c) := by
  refine (dats m 0 c).arrAt_eq_of_covers 3 _ (by decide +kernel) fun t _ y => ?_
  have e : ∃ (r : Fin 48) (z : Fin 1024), y = ix3 0 r z := by
    idx_vars y
    exact ⟨y1, y2, congrArg (fun e => ix3 e y1 y2) (Subsingleton.elim y0 0)⟩
  obtain ⟨r, z, rfl⟩ := e
  exact (left m c t r z).trans (place t (whole (both (a0 m c) (a1 m c)) (a2 m c) (a3 m c)) r z).symm

/-! ## The results -/

theorem arr_inj : Function.Injective (Pipeline.arrRef spec0) := by decide

theorem tail3 : (Pipeline.afterTail₀ cfgs (dats m) 0 (V0 m) [hostOps1] c main_v3 : FVec Ideal S2x16x6144 .f32)
    = extractStridedSlice S2x16x6144 ![0, 0, 0] ((dats m 0 c).arrAt 3 cfg0.N : FVec Ideal S2x48x6144 .f32) slices_S2x48x6144_S2x16x6144_0_0_0 := by
  unfold Pipeline.afterTail₀
  simp only [hostOps1, List.flatten_cons, List.flatten_nil, List.append_nil]
  after_results
  exact congrArg (fun z : FVec Ideal S2x48x6144 .f32 => extractStridedSlice S2x16x6144 ![0, 0, 0] z slices_S2x48x6144_S2x16x6144_0_0_0)
    (Pipeline.withArrays_arr spec0 arr_inj c (V0 m c) _ 3)

theorem tail4 : (Pipeline.afterTail₀ cfgs (dats m) 0 (V0 m) [hostOps1] c main_v4 : FVec Ideal S2x32x6144 .f32)
    = extractStridedSlice S2x32x6144 ![0, 16, 0] ((dats m 0 c).arrAt 3 cfg0.N : FVec Ideal S2x48x6144 .f32) slices_S2x48x6144_S2x32x6144_0_16_0 := by
  unfold Pipeline.afterTail₀
  simp only [hostOps1, List.flatten_cons, List.flatten_nil, List.append_nil]
  after_results
  exact congrArg (fun z : FVec Ideal S2x48x6144 .f32 => extractStridedSlice S2x32x6144 ![0, 16, 0] z slices_S2x48x6144_S2x32x6144_0_16_0)
    (Pipeline.withArrays_arr spec0 arr_inj c (V0 m c) _ 3)

theorem prompt_eq (A : FVec Ideal S16x1024 .f32) (A' : FVec Ideal S32x1024 .f32) (W : FVec Ideal S2x1024x6144 .f32) (B : FVec Ideal S2x6144 .f32) :
    extractStridedSlice S2x16x6144 ![0, 0, 0] (whole (both A A') W B) slices_S2x48x6144_S2x16x6144_0_0_0 = promptR A W B := by
  funext y
  idx_vars y
  rw [promptR_at]
  have h : extractStridedSlice S2x16x6144 ![0, 0, 0] (whole (both A A') W B) slices_S2x48x6144_S2x16x6144_0_0_0 (ix3 y0 y1 y2)
      = whole (both A A') W B (ix3 y0 ⟨y1.val, by omega⟩ y2) := by pointwise []
  refine h.trans ?_
  show unit (fun d => both A A' (ix2 ⟨y1.val, _⟩ d)) _ _ = _
  simp only [both_prompt]
  rfl

theorem sample_eq (A : FVec Ideal S16x1024 .f32) (A' : FVec Ideal S32x1024 .f32) (W : FVec Ideal S2x1024x6144 .f32) (B : FVec Ideal S2x6144 .f32) :
    extractStridedSlice S2x32x6144 ![0, 16, 0] (whole (both A A') W B) slices_S2x48x6144_S2x32x6144_0_16_0 = sampleR A' W B := by
  funext y
  idx_vars y
  rw [sampleR_at]
  have h : extractStridedSlice S2x32x6144 ![0, 16, 0] (whole (both A A') W B) slices_S2x48x6144_S2x32x6144_0_16_0 (ix3 y0 y1 y2)
      = whole (both A A') W B (ix3 y0 ⟨16 + y1.val, by omega⟩ y2) := by pointwise []
  refine h.trans ?_
  show unit (fun d => both A A' (ix2 ⟨16 + y1.val, _⟩ d)) _ _ = _
  simp only [both_sample]
  rfl

/-- A run of the kernel leaves the reference's results of its arguments. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = promptR (a0 m c) (a2 m c) (a3 m c)
      ∧ r.2.mem ((c.tc : Thread nD τ).loc main_v4) = sampleR (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  obtain ⟨hr, ha⟩ := h
  refine ⟨?_, ?_, ha c⟩
  · refine ((hr c).2 main_v3 (Pipeline.mem_restRefs_of main_v3 (by decide) (by decide))).trans ((tail3 m c).trans ?_)
    rw [final]
    exact prompt_eq ..
  · refine ((hr c).2 main_v4 (Pipeline.mem_restRefs_of main_v4 (by decide) (by decide))).trans ((tail4 m c).trans ?_)
    rw [final]
    exact sample_eq ..

end Cert.Kernel4Ideal.Ada

end
-- ==== Proof.ConvRun.lean ====
module

public import proofs.«01_k».proof.Proof.Gen.Kernel5Ideal.Frame
public import Idealize.ShloMosaic.Lib.VecWindow
public import Idealize.ShloMosaic.Lib.WholeRead

@[expose] public section

set_option maxRecDepth 16384

noncomputable section

namespace Cert.Kernel5Ideal.Conv

open Cert.Kernel5Ideal Cert.Kernel5Ideal.Gen Idealize.ShloMosaic Idealize.ShloMosaic.TcCoe

variable {F : FTy → Type} [FloatOps F]

/-! ## What one run of the body stores -/

/-- A load of the whole of an argument. -/
abbrev rd {S : Shape} {e : EltTy} (m : Memref sig .tc .vmem S e) (h : m.IsWhole) (x : Vec F S e) (off : Fin S.rank → ℕ)
    (inb : ∀ a, off a + S.size a ≤ S.size a) : Vec F S e :=
  View.readAt (Elt F) m.view (Rect.unit (s := S) off S.size inb).toLoadRect (h.unread x)

omit [FloatOps F] in
theorem rd_eq {S : Shape} {e : EltTy} (m : Memref sig .tc .vmem S e) (h : m.IsWhole) (x : Vec F S e) (off : Fin S.rank → ℕ)
    (inb : ∀ a, off a + S.size a ≤ S.size a) : rd m h x off inb = x := by
  unfold rd
  rw [View.readAt_full]
  exact h.read_unread x

/-- A load of one tap's weights. -/
abbrev wt (arg4 : Memref sig .tc .vmem S31x384 .f32) (harg4 : arg4.IsWhole) (x2 : Vec F S31x384 .f32) (n : ℕ)
    (h : ∀ a, (![n, 0] : Fin 2 → ℕ) a + S1x384.size a ≤ S31x384.size a) : Vec F S1x384 .f32 :=
  View.readAt (Elt F) arg4.view (Rect.unit (s := S31x384) ![n, 0] S1x384.size h).toLoadRect (harg4.unread x2)

theorem inb_wt (n : Fin 31) : ∀ a, (![n.val, 0] : Fin 2 → ℕ) a + S1x384.size a ≤ S31x384.size a := by
  intro a
  have h := n.isLt
  fin_cases a
  · show n.val + 1 ≤ 31
    omega
  · show 0 + 384 ≤ 384
    omega

/-- The weights of the 31 taps. -/
def wts (arg4 : Memref sig .tc .vmem S31x384 .f32) (harg4 : arg4.IsWhole) (x2 : Vec F S31x384 .f32) (n : Fin 31) : Vec F S1x384 .f32 :=
  wt arg4 harg4 x2 n.val (inb_wt n)

/-- A load of 512 rows of the shifted copy, after the stores `L`. -/
abbrev ld (arg10 : Memref sig .tc .vmem S544x384 .f32) (L : List (View.Piece (Elt F) S544x384 .f32)) (o : ℕ)
    (h : ∀ a, (![o, 0] : Fin 2 → ℕ) a + S512x384.size a ≤ S544x384.size a) : Vec F S512x384 .f32 :=
  arg10.view.readCov L (Rect.unit (s := S544x384) ![o, 0] S512x384.size h).toLoadRect

section

variable (arg9 : Memref sig .tc .vmem S544x384 .f32) (u : FVec F S512x384 .f32) (h : FVec F S32x384 .f32)

/-- The window: the 32 rows before the block and the block's rows, the last store first. -/
abbrev window : List (View.Piece (Elt F) S544x384 .f32) :=
  [⟨Rect.unit (s := S544x384) ![32, 0] S512x384.size inb_S544x384_S512x384_32_0, u⟩,
   ⟨Rect.unit (s := S544x384) ![0, 0] S32x384.size inb_S544x384_S32x384_0_0, h⟩]

/-- A load of `k` rows of the window from row `p` on. -/
abbrev win (p k : ℕ) (inb : ∀ a, (![p, 0] : Fin 2 → ℕ) a + (⟨2, ![k, 384]⟩ : Shape).size a ≤ S544x384.size a) : Vec F ⟨2, ![k, 384]⟩ .f32 :=
  arg9.view.readCov (window u h) (Rect.unit (s := S544x384) ![p, 0] (⟨2, ![k, 384]⟩ : Shape).size inb).toLoadRect

theorem inb_win (p : ℕ) (hp : p ≤ 8) : ∀ a, (![p, 0] : Fin 2 → ℕ) a + S536x384.size a ≤ S544x384.size a := by
  intro a
  fin_cases a
  · show p + 536 ≤ 544
    omega
  · show 0 + 384 ≤ 384
    omega

/-- What the shifted copy's buffer was stored, up to the copy of the window from row `p` on: the first copy is of all
    544 rows, the later ones of 536 rows. -/
def copies : (p : ℕ) → p ≤ 8 → List (View.Piece (Elt F) S544x384 .f32)
  | 0, _ => [⟨Rect.unit (s := S544x384) ![0, 0] S544x384.size inb_S544x384_S544x384_0_0,
      shapeCast S544x384 (win arg9 u h 0 544 inb_S544x384_S544x384_0_0) shapeCasts_S544x384_S544x384⟩]
  | p + 1, hp => ⟨Rect.unit (s := S544x384) ![0, 0] S536x384.size inb_S544x384_S536x384_0_0,
      shapeCast S536x384 (win arg9 u h (p + 1) 536 (inb_win (p + 1) hp)) shapeCasts_S536x384_S536x384⟩ :: copies p (Nat.le_of_succ_le hp)

/-- The copy tap `w` reads, and the row it reads from on. -/
def shift (w : Fin 31) : ℕ := (w.val + 2) % 8
def start (w : Fin 31) : ℕ := w.val + 2 - (w.val + 2) % 8

theorem shift_le (w : Fin 31) : shift w ≤ 8 := by
  unfold shift
  omega

theorem inb_start (w : Fin 31) : ∀ a, (![start w, 0] : Fin 2 → ℕ) a + S512x384.size a ≤ S544x384.size a := by
  intro a
  have h := w.isLt
  fin_cases a
  · show w.val + 2 - (w.val + 2) % 8 + 512 ≤ 544
    omega
  · show 0 + 384 ≤ 384
    omega

/-- The rows each tap multiplies, loaded from the shifted copies. -/
def taps (arg10 : Memref sig .tc .vmem S544x384 .f32) (w : Fin 31) : Vec F S512x384 .f32 :=
  ld arg10 (copies arg9 u h (shift w) (shift_le w)) (start w) (inb_start w)

end

/-- The sum over the taps, in the order of the body. -/
def sumK (T : Fin 31 → Vec F S512x384 .f32) (w : Fin 31 → Vec F S1x384 .f32) (b : Vec F S1x384 .f32) (g o : Vec F S1x384 .f32) : FVec F S512x384 .f32 :=
  k0_pay20
    (k0_pay18
      (k0_pay15
        (k0_pay13
          (k0_pay10
            (k0_pay7 (k0_pay5 (T 6) (w 6) (T 14) (w 14)) (T 22) (w 22) (T 30) (w 30) (T 7) (w 7) (T 15) (w 15) (T 23) (w 23))
            (T 0) (w 0) (T 8) (w 8) (T 16) (w 16) (T 24) (w 24) (T 1) (w 1))
          (k0_pay11 (T 9) (w 9)) (T 17) (w 17) (T 25) (w 25) (T 2) (w 2) (T 10) (w 10) (T 18) (w 18))
        (T 26) (w 26) (T 3) (w 3) (T 11) (w 11) (T 19) (w 19) (T 27) (w 27))
      (T 4) (w 4) (T 12) (w 12) (T 20) (w 20) (T 28) (w 28) (T 5) (w 5))
    (k0_pay19 (T 13) (w 13)) (T 21) (w 21) (T 29) (w 29) b g o

section

variable (c : Dev nD) (i : grid0.Coords) (arg2 : Memref sig .tc .vmem S1x512x384 .f32) (harg2 : arg2.IsWhole) (arg3 : Memref sig .tc .vmem S1x32x384 .f32) (harg3 : arg3.IsWhole) (arg4 : Memref sig .tc .vmem S31x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x512x384 .bf16) (harg8 : arg8.IsWhole) (arg9 : Memref sig .tc .vmem S544x384 .f32) (harg9 : arg9.IsWhole) (arg10 : Memref sig .tc .vmem S544x384 .f32) (harg10 : arg10.IsWhole)
    (x0 : Vec F S1x512x384 .f32) (x1 : Vec F S1x32x384 .f32) (x2 : Vec F S31x384 .f32) (x3 x4 x5 : Vec F S1x384 .f32)

abbrev storedAt (b : FVec F S1x512x384 .bf16) : List (View.Piece (Elt F) S1x512x384 .bf16) :=
  [⟨Rect.unit (s := S1x512x384) ![0, 0, 0] S1x512x384.size inb_S1x512x384_S1x512x384_0_0_0, b⟩]

set_option maxHeartbeats 2000000 in
theorem run_reads :
    (kernelRun0_A c i arg2 harg2 arg3 harg3 arg4 harg4 arg5 harg5 arg6 harg6 arg7 harg7 arg8 harg8 arg9 harg9 arg10 harg10 x0 x1 x2 x3 x4 x5).1
      = storedAt (k0_pay1 (sumK
          (taps arg9 (k0_pay3 (rd arg2 harg2 x0 _ inb_S1x512x384_S1x512x384_0_0_0)) (k0_pay2 i (rd arg3 harg3 x1 _ inb_S1x32x384_S1x32x384_0_0_0)) arg10)
          (wts arg4 harg4 x2) (rd arg5 harg5 x3 _ inb_S1x384_S1x384_0_0) (rd arg6 harg6 x4 _ inb_S1x384_S1x384_0_0)
          (rd arg7 harg7 x5 _ inb_S1x384_S1x384_0_0))) := by
  delta kernelRun0_A
  rfl

/-- The same with the loads of whole arguments at their values. -/
theorem run_eq :
    (kernelRun0_A c i arg2 harg2 arg3 harg3 arg4 harg4 arg5 harg5 arg6 harg6 arg7 harg7 arg8 harg8 arg9 harg9 arg10 harg10 x0 x1 x2 x3 x4 x5).1
      = storedAt (k0_pay1 (sumK (taps arg9 (k0_pay3 x0) (k0_pay2 i x1) arg10) (wts arg4 harg4 x2) x3 x4 x5)) := by
  rw [run_reads]
  simp only [rd_eq]

end

end Cert.Kernel5Ideal.Conv

end
-- ==== Proof.ConvRow.lean ====
module

public import Idealize.ShloMosaic.Lib.Pipeline.ValueKit

@[expose] public section

noncomputable section

namespace Cert.Conv

open Idealize.ShloMosaic

/-! ## One row of the convolution's result -/

/-- The mean of a row. -/
def mean (v : Fin 384 → EReal) : EReal := Ideal.div (∑ x, v x) (Ideal.ofBits .f32 0x43C00000#32)

/-- A centred row over its standard deviation, times the gains, plus the offsets. -/
def scaled (c g b : Fin 384 → EReal) (d : Fin 384) : EReal :=
  c d * Ideal.rsqrt (Ideal.div (∑ x, c x * c x) (Ideal.ofBits .f32 0x43C00000#32) + Ideal.ofBits .f32 0x3727C5AC#32) * g d + b d

/-- The layer normalisation of a row. -/
def lnorm (v g b : Fin 384 → EReal) : Fin 384 → EReal := scaled (fun d => v d - mean v) g b

/-- SiLU. -/
def silu (x : EReal) : EReal := x * Ideal.logistic x

/-- The sum over the 31 taps, plus the bias: tap `w` multiplies the row it meets, `x w`, with its weights. -/
def tapsum (x w : Fin 31 → Fin 384 → EReal) (b : Fin 384 → EReal) (d : Fin 384) : EReal := (∑ k, x k d * w k d) + b d

/-- Row `x` of the sequence after 30 rows of zeros. -/
def padded (u : Fin 2048 → Fin 384 → EReal) (x : ℕ) (d : Fin 384) : EReal :=
  if h : 30 ≤ x ∧ x < 2078 then u ⟨x - 30, by omega⟩ d else 0

/-- A row of the result. -/
def row (u : Fin 2048 → Fin 384 → EReal) (w : Fin 31 → Fin 384 → EReal) (b g o : Fin 384 → EReal) (s : ℕ) (d : Fin 384) : EReal :=
  silu (lnorm (tapsum (fun k => padded u (s + k.val)) w b) g o d)

end Cert.Conv

end
-- ==== Proof.ConvAt.lean ====
module

public import proofs.«01_k».proof.Proof.ConvRun
public import proofs.«01_k».proof.Proof.ConvRow
public import Idealize.ShloMosaic.Lib.Pipeline.ReadBack

@[expose] public section

set_option maxRecDepth 16384

noncomputable section

namespace Cert.Kernel5Ideal.Conv

open Cert.Kernel5Ideal Cert.Kernel5Ideal.Gen Idealize.ShloMosaic Idealize.ShloMosaic.TcCoe Cert.Conv

/-! ## Reading the scratch buffers back -/

section

variable {k o : ℕ}

/-- Where row `q` of the rows from `o` on lies. -/
theorem row_idx (h : ∀ a, (![o, 0] : Fin 2 → ℕ) a + (⟨2, ![k, 384]⟩ : Shape).size a ≤ S544x384.size a) (q : Fin k) (d : Fin 384) (x : Fin 544)
    (hx : x.val = o + q.val) : (Rect.unit (s := S544x384) ![o, 0] (⟨2, ![k, 384]⟩ : Shape).size h).emb (ix2 q d) = (ix2 x d : S544x384.Idx) := by
  funext a
  refine Fin.ext ?_
  fin_cases a
  · show o + 1 * q.val = x.val
    omega
  · show 0 + 1 * d.val = d.val
    omega

theorem row_mem (h : ∀ a, (![o, 0] : Fin 2 → ℕ) a + (⟨2, ![k, 384]⟩ : Shape).size a ≤ S544x384.size a) (x : Fin 544) (d : Fin 384)
    (hx : (ix2 x d : S544x384.Idx) ∈ (Rect.unit (s := S544x384) ![o, 0] (⟨2, ![k, 384]⟩ : Shape).size h).set) : o ≤ x.val := by
  obtain ⟨y, hy⟩ := (Rect.unit (s := S544x384) ![o, 0] (⟨2, ![k, 384]⟩ : Shape).size h).exists_idx_of_mem hx
  have e : o + 1 * (y 0).val = x.val := congrArg (fun z : S544x384.Idx => (z 0).val) hy
  omega

/-- A store of `k` rows from row `o` on. -/
abbrev stored (inb : ∀ a, (![o, 0] : Fin 2 → ℕ) a + (⟨2, ![k, 384]⟩ : Shape).size a ≤ S544x384.size a) (P : Vec Ideal ⟨2, ![k, 384]⟩ .f32) :
    View.Piece (Elt Ideal) S544x384 .f32 := ⟨Rect.unit (s := S544x384) ![o, 0] (⟨2, ![k, 384]⟩ : Shape).size inb, P⟩

variable (inb : ∀ a, (![o, 0] : Fin 2 → ℕ) a + (⟨2, ![k, 384]⟩ : Shape).size a ≤ S544x384.size a) (P : Vec Ideal ⟨2, ![k, 384]⟩ .f32)
  (L : List (View.Piece (Elt Ideal) S544x384 .f32)) (x : Fin 544) (d : Fin 384)

/-- After a store, its rows are what was stored … -/
theorem canon_row (q : Fin k) (hx : x.val = o + q.val) : View.canon (stored inb P :: L) (ix2 x d) = P (ix2 q d) := by
  rw [← row_idx inb q d x hx]
  exact View.canon_cons_emb (Rect.unit (s := S544x384) ![o, 0] (⟨2, ![k, 384]⟩ : Shape).size inb) P L (ix2 q d)

/-- … and the rows before it are as they were. -/
theorem canon_skip (hx : x.val < o) : View.canon (stored inb P :: L) (ix2 x d) = View.canon L (ix2 x d) :=
  View.canon_cons_of_not_mem (stored inb P) L fun hm => absurd (row_mem inb x d hm) (by omega)

/-- A load of `k` rows reads what the stores left. -/
theorem load_at (v : Memref sig .tc .vmem S544x384 .f32) (q : Fin k) (hx : x.val = o + q.val) :
    v.view.readCov L (Rect.unit (s := S544x384) ![o, 0] (⟨2, ![k, 384]⟩ : Shape).size inb).toLoadRect (ix2 q d) = View.canon L (ix2 x d) := by
  rw [View.readCov_eq_canon', ← row_idx inb q d x hx]
  rfl

end

/-- Row `x` of the window: the 32 rows before the block, then the block's rows. -/
def wrow (u : FVec Ideal S512x384 .f32) (h : FVec Ideal S32x384 .f32) (x : ℕ) (d : Fin 384) : EReal :=
  if h1 : x < 32 then h (ix2 ⟨x, h1⟩ d) else if h2 : x < 544 then u (ix2 ⟨x - 32, by omega⟩ d) else 0

section

variable (arg9 : Memref sig .tc .vmem S544x384 .f32) (u : FVec Ideal S512x384 .f32) (h : FVec Ideal S32x384 .f32)

theorem window_at (x : Fin 544) (d : Fin 384) : View.canon (window (F := Ideal) u h) (ix2 x d) = wrow u h x.val d := by
  have hx := x.isLt
  by_cases h1 : x.val < 32
  · refine (canon_skip (k := 512) inb_S544x384_S512x384_32_0 u _ x d h1).trans ((canon_row (k := 32) inb_S544x384_S32x384_0_0 h [] x d ⟨x.val, h1⟩ (Nat.zero_add _).symm).trans ?_)
    unfold wrow
    rw [dif_pos h1]
  · refine (canon_row (k := 512) inb_S544x384_S512x384_32_0 u _ x d ⟨x.val - 32, by omega⟩ (Nat.add_sub_cancel' (Nat.le_of_not_lt h1)).symm).trans ?_
    unfold wrow
    rw [dif_neg h1, dif_pos hx]

theorem win_at (p k : ℕ) (inb : ∀ a, (![p, 0] : Fin 2 → ℕ) a + (⟨2, ![k, 384]⟩ : Shape).size a ≤ S544x384.size a) (q : Fin k) (d : Fin 384) (hq : p + q.val < 544) :
    win (F := Ideal) arg9 u h p k inb (ix2 q d) = wrow u h (p + q.val) d :=
  (load_at inb (window (F := Ideal) u h) ⟨p + q.val, hq⟩ d arg9 q rfl).trans (window_at u h ⟨p + q.val, hq⟩ d)

variable (arg10 : Memref sig .tc .vmem S544x384 .f32)

/-- A load of 512 rows from row `o` of the copy of the window from row `p` on reads the window from row `p + o` on. -/
theorem copy_at (p o k : ℕ) (P : Vec Ideal ⟨2, ![k, 384]⟩ .f32) (L : List (View.Piece (Elt Ideal) S544x384 .f32))
    (hk : ∀ a, (![0, 0] : Fin 2 → ℕ) a + (⟨2, ![k, 384]⟩ : Shape).size a ≤ S544x384.size a)
    (hp : ∀ a, (![p, 0] : Fin 2 → ℕ) a + (⟨2, ![k, 384]⟩ : Shape).size a ≤ S544x384.size a)
    (ho : ∀ a, (![o, 0] : Fin 2 → ℕ) a + S512x384.size a ≤ S544x384.size a)
    (hP : P = win (F := Ideal) arg9 u h p k hp) (h1 : o + 512 ≤ k) (h2 : p + k ≤ 544) (q : Fin 512) (d : Fin 384) :
    ld arg10 (stored hk P :: L) o ho (ix2 q d) = wrow u h (p + o + q.val) d := by
  have hq := q.isLt
  refine (load_at ho _ ⟨o + q.val, by omega⟩ d arg10 q rfl).trans ?_
  refine (canon_row hk P L ⟨o + q.val, by omega⟩ d ⟨o + q.val, by omega⟩ (Nat.zero_add _).symm).trans ?_
  rw [hP]
  refine (win_at arg9 u h p k hp ⟨o + q.val, by omega⟩ d (by show p + (o + q.val) < 544; omega)).trans ?_
  exact congrArg (fun z => wrow u h z d) (Nat.add_assoc p o q.val).symm

theorem copies_at (p : ℕ) (hp : p ≤ 8) (o : ℕ) (ho : ∀ a, (![o, 0] : Fin 2 → ℕ) a + S512x384.size a ≤ S544x384.size a)
    (h1 : o ≤ 24 ∨ p = 0 ∧ o ≤ 32) (q : Fin 512) (d : Fin 384) :
    ld arg10 (copies (F := Ideal) arg9 u h p hp) o ho (ix2 q d) = wrow u h (p + o + q.val) d := by
  cases p with
  | zero => exact copy_at arg9 u h arg10 0 o 544 _ _ _ _ ho (shapeCast_self _ _) (by omega) (by omega) q d
  | succ p => exact copy_at arg9 u h arg10 (p + 1) o 536 _ _ _ _ ho (shapeCast_self _ _) (by omega) (by omega) q d

/-- Tap `w` meets row `q` of the block at row `w + 2 + q` of the window. -/
theorem taps_at (w : Fin 31) (q : Fin 512) (d : Fin 384) :
    taps (F := Ideal) arg9 u h arg10 w (ix2 q d) = wrow u h (w.val + 2 + q.val) d := by
  have hw := w.isLt
  have e : shift w + start w = w.val + 2 := by
    unfold shift start
    omega
  have h1 : start w ≤ 24 ∨ shift w = 0 ∧ start w ≤ 32 := by
    unfold shift start
    omega
  refine (copies_at arg9 u h arg10 (shift w) (shift_le w) (start w) (inb_start w) h1 q d).trans ?_
  rw [e]

end

/-- The weights of tap `w`. -/
theorem wts_at (arg4 : Memref sig .tc .vmem S31x384 .f32) (harg4 : arg4.IsWhole) (x2 : Vec Ideal S31x384 .f32) (w : Fin 31) (d : Fin 384) :
    wts (F := Ideal) arg4 harg4 x2 w (ix2 0 d) = x2 (ix2 w d) := by
  refine (harg4.readAt_unread x2 _ _).trans (congrArg x2 (funext fun e => Fin.ext ?_))
  fin_cases e
  · show w.val + 1 * 0 = w.val
    omega
  · show 0 + 1 * d.val = d.val
    omega

/-! ## The stored block, entry by entry -/

section

variable (q : Fin 512) (d : Fin 384)
variable (a t0 t1 t2 t3 t4 : Vec Ideal S512x384 .f32) (w0 w1 w2 w3 w4 : Vec Ideal S1x384 .f32)

theorem pay5_at : k0_pay5 (F := Ideal) t0 w0 t1 w1 (ix2 q d) = (t0 (ix2 q d) * w0 (ix2 0 d) + t1 (ix2 q d) * w1 (ix2 0 d) : EReal) := by
  pointwise [k0_pay5]

/-- Five further taps. -/
abbrev five : EReal := a (ix2 q d) + t0 (ix2 q d) * w0 (ix2 0 d) + t1 (ix2 q d) * w1 (ix2 0 d) + t2 (ix2 q d) * w2 (ix2 0 d) + t3 (ix2 q d) * w3 (ix2 0 d)
  + t4 (ix2 q d) * w4 (ix2 0 d)

theorem pay7_at : k0_pay7 (F := Ideal) a t0 w0 t1 w1 t2 w2 t3 w3 t4 w4 (ix2 q d) = five q d a t0 t1 t2 t3 t4 w0 w1 w2 w3 w4 := by
  pointwise [k0_pay7]
theorem pay10_at : k0_pay10 (F := Ideal) a t0 w0 t1 w1 t2 w2 t3 w3 t4 w4 (ix2 q d) = five q d a t0 t1 t2 t3 t4 w0 w1 w2 w3 w4 := by
  pointwise [k0_pay10]
theorem pay15_at : k0_pay15 (F := Ideal) a t0 w0 t1 w1 t2 w2 t3 w3 t4 w4 (ix2 q d) = five q d a t0 t1 t2 t3 t4 w0 w1 w2 w3 w4 := by
  pointwise [k0_pay15]
theorem pay18_at : k0_pay18 (F := Ideal) a t0 w0 t1 w1 t2 w2 t3 w3 t4 w4 (ix2 q d) = five q d a t0 t1 t2 t3 t4 w0 w1 w2 w3 w4 := by
  pointwise [k0_pay18]

theorem pay11_at : k0_pay11 (F := Ideal) t0 w0 (ix2 q d) = (t0 (ix2 q d) * w0 (ix2 0 d) : EReal) := by
  pointwise [k0_pay11]
theorem pay19_at : k0_pay19 (F := Ideal) t0 w0 (ix2 q d) = (t0 (ix2 q d) * w0 (ix2 0 d) : EReal) := by
  pointwise [k0_pay19]

theorem pay13_at (e : Vec Ideal S512x384 .f32) : k0_pay13 (F := Ideal) a e t0 w0 t1 w1 t2 w2 t3 w3 t4 w4 (ix2 q d)
    = (a (ix2 q d) + e (ix2 q d) + t0 (ix2 q d) * w0 (ix2 0 d) + t1 (ix2 q d) * w1 (ix2 0 d) + t2 (ix2 q d) * w2 (ix2 0 d) + t3 (ix2 q d) * w3 (ix2 0 d)
      + t4 (ix2 q d) * w4 (ix2 0 d) : EReal) := by
  pointwise [k0_pay13]

theorem pay20_at (e : Vec Ideal S512x384 .f32) (b g o : Vec Ideal S1x384 .f32) : k0_pay20 (F := Ideal) a e t0 w0 t1 w1 b g o (ix2 q d)
    = lnorm (fun d => a (ix2 q d) + e (ix2 q d) + t0 (ix2 q d) * w0 (ix2 0 d) + t1 (ix2 q d) * w1 (ix2 0 d) + b (ix2 0 d))
        (fun d => g (ix2 0 d)) (fun d => o (ix2 0 d)) d := by
  unfold lnorm scaled mean
  pointwise [k0_pay20]

theorem pay1_at : k0_pay1 (F := Ideal) a (ix3 0 q d) = silu (a (ix2 q d)) := by
  unfold silu
  pointwise [k0_pay1]

end

/-- The taps' products in the order of the body sum to the sum over the taps. -/
theorem order (x : Fin 31 → EReal) :
    (x 6 + x 14 + x 22 + x 30 + x 7 + x 15 + x 23 + x 0 + x 8 + x 16 + x 24 + x 1 + x 9 + x 17 + x 25 + x 2 + x 10 + x 18 + x 26 + x 3 + x 11 + x 19 + x 27
      + x 4 + x 12 + x 20 + x 28 + x 5 + x 13 + x 21 + x 29) = ∑ k, x k := by
  simp only [Fin.sum_univ_succ, Fin.sum_univ_zero, add_zero]
  show _ = x 0 + (x 1 + (x 2 + (x 3 + (x 4 + (x 5 + (x 6 + (x 7 + (x 8 + (x 9 + (x 10 + (x 11 + (x 12 + (x 13 + (x 14 + (x 15 + (x 16 + (x 17 + (x 18
    + (x 19 + (x 20 + (x 21 + (x 22 + (x 23 + (x 24 + (x 25 + (x 26 + (x 27 + (x 28 + (x 29 + x 30)))))))))))))))))))))))))))))
  ac_rfl

theorem sumK_at (T : Fin 31 → Vec Ideal S512x384 .f32) (w : Fin 31 → Vec Ideal S1x384 .f32) (b g o : Vec Ideal S1x384 .f32) (q : Fin 512) (d : Fin 384) :
    sumK (F := Ideal) T w b g o (ix2 q d)
      = lnorm (tapsum (fun k d => T k (ix2 q d)) (fun k d => w k (ix2 0 d)) (fun d => b (ix2 0 d))) (fun d => g (ix2 0 d)) (fun d => o (ix2 0 d)) d := by
  unfold sumK
  rw [pay20_at]
  refine congrArg (fun f => lnorm f (fun d => g (ix2 0 d)) (fun d => o (ix2 0 d)) d) (funext fun z => ?_)
  simp only [five, pay18_at, pay15_at, pay13_at, pay10_at, pay7_at, pay5_at, pay11_at, pay19_at]
  exact congrArg (· + b (ix2 0 z)) (order fun k => T k (ix2 q z) * w k (ix2 0 z))

end Cert.Kernel5Ideal.Conv

end
-- ==== Proof.ConvRef.lean ====
module

public import proofs.«01_k».proof.Proof.ConvRow
public import proofs.«01_k».proof.Proof.Gen.Reference5Ideal.Run

@[expose] public section

set_option maxRecDepth 16384

noncomputable section

namespace Cert.Reference5Ideal.Conv

open Cert.Reference5Ideal Cert.Reference5Ideal.Gen Idealize.ShloMosaic Idealize.ShloMosaic.TcCoe
open Cert.Reference5Ideal.Value
open Cert.Conv

/-! ## The reference in stages -/

theorem slicesU (n : Fin 31) : S16x2078x384.Slices ![0, n.val, 0] S16x2048x384 := by
  refine ⟨rfl, fun a => ?_⟩
  have h := n.isLt
  fin_cases a
  · show 0 + 16 ≤ 16
    omega
  · show n.val + 2048 ≤ 2078
    omega
  · show 0 + 384 ≤ 384
    omega

theorem slicesW (n : Fin 31) : S31x384.Slices ![n.val, 0] S1x384 := by
  refine ⟨rfl, fun a => ?_⟩
  have h := n.isLt
  fin_cases a
  · show n.val + 1 ≤ 31
    omega
  · show 0 + 384 ≤ 384
    omega

section

variable {F : FTy → Type} [FloatOps F]

/-- A vector of channels at every row. -/
def chans (v : FVec F S384 .f32) : FVec F S16x2048x384 .f32 :=
  broadcastInDim S16x2048x384 ![0, 1, 2] bcast_S1x1x384_S16x2048x384_0_1_2 (broadcastInDim S1x1x384 ![2] bcast_S384_S1x1x384_2 v)

/-- The sequence after 30 rows of zeros. -/
def fullR (U : FVec F S16x2048x384 .f32) : FVec F S16x2078x384 .f32 :=
  concatenate S16x2078x384 1 [⟨S16x30x384, broadcastInDim S16x30x384 ![] bcast_S_S16x30x384 (constant S_ .f32 0x00000000#32)⟩, ⟨S16x2048x384, U⟩]
    concatenates_S16x30x384_S16x2048x384_S16x2078x384_d1

/-- One tap's product. -/
def tapR (X : FVec F S16x2078x384 .f32) (W : FVec F S31x384 .f32) (n : Fin 31) : FVec F S16x2048x384 .f32 :=
  mulf (extractStridedSlice S16x2048x384 ![0, n.val, 0] X (slicesU n))
    (chans (shapeCast _ (extractStridedSlice S1x384 ![n.val, 0] W (slicesW n)) shapeCasts_S1x384_S384))

/-- The sum of the first `n` taps' products. -/
def upTo (T : Fin 31 → FVec F S16x2048x384 .f32) : (n : ℕ) → n ≤ 31 → FVec F S16x2048x384 .f32
  | 0, _ => broadcastInDim S16x2048x384 ![] bcast_S_S16x2048x384 (constant S_ .f32 0x00000000#32)
  | n + 1, h => addf (upTo T n (Nat.le_of_succ_le h)) (T ⟨n, h⟩)

def meanR (v : FVec F S16x2048x384 .f32) : FVec F S16x2048x1 .f32 :=
  Host.divf (broadcastInDim S16x2048x1 ![0, 1] bcast_S16x2048_S16x2048x1_0_1 (Host.reduceAdd v (constant S_ .f32 0x00000000#32) reducesTo_S16x2048x384_S16x2048_d2 h_S_))
    (broadcastInDim S16x2048x1 ![] bcast_S_S16x2048x1 (constant S_ .f32 0x43C00000#32))

def centred (v : FVec F S16x2048x384 .f32) (u : FVec F S16x2048x1 .f32) : FVec F S16x2048x384 .f32 :=
  subf v (broadcastInDim S16x2048x384 ![0, 1, 2] bcast_S16x2048x1_S16x2048x384_0_1_2 u)

def scaledR (e : FVec F S16x2048x384 .f32) (g b : FVec F S384 .f32) : FVec F S16x2048x384 .f32 :=
  addf (mulf (mulf e (broadcastInDim S16x2048x384 ![0, 1, 2] bcast_S16x2048x1_S16x2048x384_0_1_2
      (Host.rsqrt (addf (meanR (mulf e e)) (broadcastInDim S16x2048x1 ![] bcast_S_S16x2048x1 (constant S_ .f32 0x3727C5AC#32))))))
      (chans g)) (chans b)

def lnormR (v : FVec F S16x2048x384 .f32) (g b : FVec F S384 .f32) : FVec F S16x2048x384 .f32 := scaledR (centred v (meanR v)) g b

def siluR (C : FVec F S16x2048x384 .f32) : FVec F S16x2048x384 .bf16 :=
  truncf .bf16 (mulf C (Host.divf (broadcastInDim S16x2048x384 ![] bcast_S_S16x2048x384 (constant S_ .f32 0x3F800000#32))
    (addf (broadcastInDim S16x2048x384 ![] bcast_S_S16x2048x384 (constant S_ .f32 0x3F800000#32)) (Host.exp (Host.negf C))))) bitsLt_bf16_f32

/-- The convolution and its bias. -/
def convR (U : FVec F S16x2048x384 .f32) (W : FVec F S31x384 .f32) (B : FVec F S384 .f32) : FVec F S16x2048x384 .f32 :=
  addf (upTo (tapR (fullR U) W) 31 le_rfl) (chans B)

/-- The result. -/
def outR (U : FVec F S16x2048x384 .f32) (W : FVec F S31x384 .f32) (B G O : FVec F S384 .f32) : FVec F S16x2048x384 .bf16 :=
  siluR (lnormR (convR U W B) G O)

end

/-! ## The reference's result -/

section

variable {F : FTy → Type} [FloatOps F] (V0 : Valuation τ sig (Elt F))

theorem full_eq : res_main_v1 V0 = fullR (V0 (Proc.devRef .tc main_arg0)) := rfl

theorem eleven_eq : res_main_v79 V0 = upTo (tapR (res_main_v1 V0) (V0 (Proc.devRef .tc main_arg1))) 11 (by omega) := rfl

theorem twentytwo_eq : res_main_v156 V0 = upTo (tapR (res_main_v1 V0) (V0 (Proc.devRef .tc main_arg1))) 22 (by omega) := by
  unfold res_main_v156
  rw [eleven_eq]
  rfl

theorem conv_eq : res_main_v222 V0 = convR (V0 (Proc.devRef .tc main_arg0)) (V0 (Proc.devRef .tc main_arg1)) (V0 (Proc.devRef .tc main_arg2)) := by
  unfold res_main_v222
  rw [twentytwo_eq]
  rfl

theorem norm_eq : res_main_v246 V0
    = lnormR (convR (V0 (Proc.devRef .tc main_arg0)) (V0 (Proc.devRef .tc main_arg1)) (V0 (Proc.devRef .tc main_arg2)))
        (V0 (Proc.devRef .tc main_arg3)) (V0 (Proc.devRef .tc main_arg4)) := by
  rw [← conv_eq]
  rfl

theorem res_eq : siluR (res_main_v246 V0)
    = outR (V0 (Proc.devRef .tc main_arg0)) (V0 (Proc.devRef .tc main_arg1)) (V0 (Proc.devRef .tc main_arg2))
        (V0 (Proc.devRef .tc main_arg3)) (V0 (Proc.devRef .tc main_arg4)) := by
  rw [norm_eq]
  rfl

end

/-- Equal arguments have equal results. -/
theorem out_congr {F : FTy → Type} [FloatOps F] {A0 B0 : FVec F S16x2048x384 .f32} {A1 B1 : FVec F S31x384 .f32} {A2 B2 A3 B3 A4 B4 : FVec F S384 .f32}
    (h0 : A0 = B0) (h1 : A1 = B1) (h2 : A2 = B2) (h3 : A3 = B3) (h4 : A4 = B4) : outR A0 A1 A2 A3 A4 = outR B0 B1 B2 B3 B4 := by
  subst h0 h1 h2 h3 h4
  rfl

/-! ## The stages at an index -/

theorem chans_at (v : FVec Ideal S384 .f32) (b : Fin 16) (s : Fin 2048) (d : Fin 384) : chans v (ix3 b s d) = v (ix1 d) := by
  pointwise [chans]

theorem fullR_at (U : FVec Ideal S16x2048x384 .f32) (b : Fin 16) (x : Fin 2078) (d : Fin 384) :
    fullR U (ix3 b x d) = padded (fun s d => U (ix3 b s d)) x.val d := by
  have e : fullR U (ix3 b x d) = if h : x.val < 30 then (Ideal.ofBits .f32 0x00000000#32 : EReal) else U (ix3 b ⟨x.val - 30, by omega⟩ d) := by
    pointwise [fullR]
  rw [e, Ideal.ofBits_zero_f32]
  unfold padded
  have hx := x.isLt
  split
  · rw [dif_neg (by omega)]
  · rw [dif_pos (by omega)]

theorem tapR_at (X : FVec Ideal S16x2078x384 .f32) (W : FVec Ideal S31x384 .f32) (n : Fin 31) (b : Fin 16) (s : Fin 2048) (d : Fin 384) :
    tapR X W n (ix3 b s d) = X (ix3 b ⟨s.val + n.val, by omega⟩ d) * W (ix2 n d) := by
  have e1 : extractStridedSlice S16x2048x384 ![0, n.val, 0] X (slicesU n) (ix3 b s d) = X (ix3 b ⟨s.val + n.val, by omega⟩ d) :=
    extractStridedSlice_apply _ _ _ _ _ (by intro a; fin_cases a <;> simp [ix3] <;> omega)
  have e2 : extractStridedSlice S1x384 ![n.val, 0] W (slicesW n) (ix2 0 d) = W (ix2 n d) :=
    extractStridedSlice_apply _ _ _ _ _ (by intro a; fin_cases a <;> simp [ix2])
  unfold tapR
  rw [← e1, ← e2]
  generalize extractStridedSlice S16x2048x384 ![0, n.val, 0] X (slicesU n) = P
  generalize extractStridedSlice S1x384 ![n.val, 0] W (slicesW n) = Q
  pointwise [chans]

theorem upTo_at (T : Fin 31 → FVec Ideal S16x2048x384 .f32) (y : S16x2048x384.Idx) (n : ℕ) (h : n ≤ 31) :
    upTo T n h y = ∑ k : Fin n, (T ⟨k.val, by omega⟩ y : EReal) := by
  induction n with
  | zero =>
    show (Ideal.ofBits .f32 0x00000000#32 : EReal) = _
    rw [Ideal.ofBits_zero_f32]
    rfl
  | succ n ih =>
    show (upTo T n _ y + T ⟨n, h⟩ y : EReal) = _
    rw [ih, Fin.sum_univ_castSucc]
    rfl

theorem convR_at (U : FVec Ideal S16x2048x384 .f32) (W : FVec Ideal S31x384 .f32) (B : FVec Ideal S384 .f32) (b : Fin 16) (s : Fin 2048) (d : Fin 384) :
    convR U W B (ix3 b s d)
      = tapsum (fun k => padded (fun s d => U (ix3 b s d)) (s.val + k.val)) (fun k d => W (ix2 k d)) (fun d => B (ix1 d)) d := by
  unfold convR tapsum
  show (upTo (tapR (fullR U) W) 31 le_rfl (ix3 b s d) + chans B (ix3 b s d) : EReal) = _
  rw [upTo_at, chans_at]
  simp only [tapR_at, fullR_at]

theorem meanR_at (v : FVec Ideal S16x2048x384 .f32) (b : Fin 16) (s : Fin 2048) (z : Fin 1) : meanR v (ix3 b s z) = mean fun d => v (ix3 b s d) := by
  pointwise [meanR, mean]

theorem centred_at (v : FVec Ideal S16x2048x384 .f32) (u : FVec Ideal S16x2048x1 .f32) (b : Fin 16) (s : Fin 2048) (d : Fin 384) :
    centred v u (ix3 b s d) = (v (ix3 b s d) : EReal) - u (ix3 b s 0) := by
  pointwise [centred]

theorem scaledR_at (e : FVec Ideal S16x2048x384 .f32) (g h : FVec Ideal S384 .f32) (b : Fin 16) (s : Fin 2048) (d : Fin 384) :
    scaledR e g h (ix3 b s d) = scaled (fun d => e (ix3 b s d)) (fun d => g (ix1 d)) (fun d => h (ix1 d)) d := by
  pointwise [scaledR, meanR, scaled, chans]

theorem lnormR_at (v : FVec Ideal S16x2048x384 .f32) (g h : FVec Ideal S384 .f32) (b : Fin 16) (s : Fin 2048) (d : Fin 384) :
    lnormR v g h (ix3 b s d) = lnorm (fun d => v (ix3 b s d)) (fun d => g (ix1 d)) (fun d => h (ix1 d)) d := by
  rw [lnormR, scaledR_at]
  simp only [centred_at, meanR_at]
  rfl

theorem siluR_at (C : FVec Ideal S16x2048x384 .f32) (b : Fin 16) (s : Fin 2048) (d : Fin 384) : siluR C (ix3 b s d) = silu (C (ix3 b s d)) := by
  unfold silu Ideal.logistic
  rw [← Ideal.ofBits_one_f32]
  pointwise [siluR]

theorem outR_at (U : FVec Ideal S16x2048x384 .f32) (W : FVec Ideal S31x384 .f32) (B G O : FVec Ideal S384 .f32) (b : Fin 16) (s : Fin 2048) (d : Fin 384) :
    outR U W B G O (ix3 b s d)
      = row (fun s d => U (ix3 b s d)) (fun k d => W (ix2 k d)) (fun d => B (ix1 d)) (fun d => G (ix1 d)) (fun d => O (ix1 d)) s.val d := by
  unfold outR row
  rw [siluR_at, lnormR_at]
  simp only [convR_at]

end Cert.Reference5Ideal.Conv

end
-- ==== Proof.ConvWhole.lean ====
module

public import proofs.«01_k».proof.Proof.ConvAt
public import proofs.«01_k».proof.Proof.ConvRef
public import proofs.«01_k».proof.Proof.Gen.Kernel5Ideal.Value

@[expose] public section

set_option maxRecDepth 16384

noncomputable section

namespace Cert.Kernel5Ideal.Conv

open Cert.Kernel5Ideal Cert.Kernel5Ideal.Gen Idealize.ShloMosaic Idealize.ShloMosaic.TcCoe Cert.Conv
open Cert.Reference5Ideal.Conv (outR outR_at)

/-! ## The rows before a block: the previous block's last 32, or zeros before the first block -/

theorem pay3_at (x0 : Vec Ideal S1x512x384 .f32) (q : Fin 512) (d : Fin 384) : k0_pay3 (F := Ideal) x0 (ix2 q d) = x0 (ix3 0 q d) := by
  pointwise [k0_pay3]

theorem first (i : grid0.Coords) (h : (i 1).val = 0) : Scalar.cmpi .eq (BitVec.ofNat 32 (i 1).val) 0#32 = 1 := by
  rw [h]
  rfl

theorem later (i : grid0.Coords) (h : (i 1).val ≠ 0) : Scalar.cmpi .eq (BitVec.ofNat 32 (i 1).val) 0#32 ≠ 1 :=
  (by decide : ∀ n : Fin 4, n.val ≠ 0 → Scalar.cmpi .eq (BitVec.ofNat 32 n.val) 0#32 ≠ 1) (i 1) h

theorem pay2_first (i : grid0.Coords) (h : (i 1).val = 0) (x1 : Vec Ideal S1x32x384 .f32) (r : Fin 32) (d : Fin 384) :
    k0_pay2 (F := Ideal) i x1 (ix2 r d) = 0 := by
  unfold k0_pay2
  dsimp only
  rw [shapeCast_self, Scalar.select, if_pos (first i h)]
  exact Ideal.ofBits_zero_f32

theorem pay2_later (i : grid0.Coords) (h : (i 1).val ≠ 0) (x1 : Vec Ideal S1x32x384 .f32) (r : Fin 32) (d : Fin 384) :
    k0_pay2 (F := Ideal) i x1 (ix2 r d) = x1 (ix3 0 r d) := by
  unfold k0_pay2
  dsimp only
  rw [shapeCast_self, Scalar.select, if_neg (later i h)]
  pointwise

/-! ## What a point leaves in its block -/

section

variable (c : Dev nD) (i : grid0.Coords) (arg2 : Memref sig .tc .vmem S1x512x384 .f32) (harg2 : arg2.IsWhole) (arg3 : Memref sig .tc .vmem S1x32x384 .f32) (harg3 : arg3.IsWhole) (arg4 : Memref sig .tc .vmem S31x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x512x384 .bf16) (harg8 : arg8.IsWhole) (arg9 : Memref sig .tc .vmem S544x384 .f32) (harg9 : arg9.IsWhole) (arg10 : Memref sig .tc .vmem S544x384 .f32) (harg10 : arg10.IsWhole)
variable (x0 : Vec Ideal S1x512x384 .f32) (x1 : Vec Ideal S1x32x384 .f32) (x2 : Vec Ideal S31x384 .f32) (x3 : Vec Ideal S1x384 .f32) (x4 : Vec Ideal S1x384 .f32) (x5 : Vec Ideal S1x384 .f32)

/-- The block of a run, once the rows each tap meets are known. -/
theorem out_at (X : Fin 31 → Fin 384 → EReal) (q : Fin 512) (d : Fin 384)
    (hX : ∀ w z, wrow (k0_pay3 x0) (k0_pay2 i x1) (w.val + 2 + q.val) z = X w z) :
    out0_A_6 c i arg2 harg2 arg3 harg3 arg4 harg4 arg5 harg5 arg6 harg6 arg7 harg7 arg8 harg8 arg9 harg9 arg10 harg10 x0 x1 x2 x3 x4 x5 (ix3 0 q d)
      = silu (lnorm (tapsum X (fun k d => x2 (ix2 k d)) (fun d => x3 (ix2 0 d))) (fun d => x4 (ix2 0 d)) (fun d => x5 (ix2 0 d)) d) := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5), run_eq]
  refine (congrFun (View.canon_unit_zero (by decide) _ _) (ix3 0 q d)).trans ?_
  rw [pay1_at, sumK_at]
  simp only [taps_at, wts_at, hX]

end

/-! ## The points' blocks in the arrays -/

theorem idx : ∀ t : Fin cfg0.N, win0_0.index t = ![t.val / 4, t.val % 4, 0] ∧ win0_1.index t = ![t.val / 4, t.val % 4 * 16 - 1, 0] ∧ win0_2.index t = ![0, 0]
    ∧ win0_3.index t = ![0, 0] ∧ win0_4.index t = ![0, 0] ∧ win0_5.index t = ![0, 0] ∧ win0_6.index t = ![t.val / 4, t.val % 4, 0] :=
  (by decide +kernel : ∀ t : Fin grid0.N, _)

theorem batch_lt : ∀ t : Fin cfg0.N, t.val / 4 < 16 := (by decide +kernel : ∀ t : Fin grid0.N, _)

theorem coord : ∀ t : Fin cfg0.N, (grid0.coords t 1).val = t.val % 4 := (by decide +kernel : ∀ t : Fin grid0.N, _)

/-- The position of a block's row in the sequence. -/
def pos (t : Fin cfg0.N) (q : Fin 512) : Fin 2048 := ⟨t.val % 4 * 512 + q.val, by omega⟩

/-- The position of a row before the block. -/
def before (t : Fin cfg0.N) (r : Fin 32) : Fin 2048 := ⟨(t.val % 4 * 16 - 1) * 32 + r.val, by omega⟩

theorem read0 (W : Vec Ideal S16x2048x384 .f32) (t : Fin cfg0.N) (q : Fin 512) (z : Fin 384) :
    ((cfg0.win 0).blk t).view.read (Elt Ideal) W (ix3 0 q z) = W (ix3 ⟨t.val / 4, batch_lt t⟩ (pos t q) z) := by
  unfold pos
  blk_ext [idx t]

theorem read1 (W : Vec Ideal S16x2048x384 .f32) (t : Fin cfg0.N) (r : Fin 32) (z : Fin 384) :
    ((cfg0.win 1).blk t).view.read (Elt Ideal) W (ix3 0 r z) = W (ix3 ⟨t.val / 4, batch_lt t⟩ (before t r) z) := by
  unfold before
  blk_ext [idx t]

theorem read2 (W : Vec Ideal S31x384 .f32) (t : Fin cfg0.N) (k : Fin 31) (z : Fin 384) :
    ((cfg0.win 2).blk t).view.read (Elt Ideal) W (ix2 k z) = W (ix2 k z) := by
  blk_ext [idx t]

theorem read3 (W : Vec Ideal S1x384 .f32) (t : Fin cfg0.N) (z : Fin 384) :
    ((cfg0.win 3).blk t).view.read (Elt Ideal) W (ix2 0 z) = W (ix2 0 z) := by
  blk_ext [idx t]

theorem read4 (W : Vec Ideal S1x384 .f32) (t : Fin cfg0.N) (z : Fin 384) :
    ((cfg0.win 4).blk t).view.read (Elt Ideal) W (ix2 0 z) = W (ix2 0 z) := by
  blk_ext [idx t]

theorem read5 (W : Vec Ideal S1x384 .f32) (t : Fin cfg0.N) (z : Fin 384) :
    ((cfg0.win 5).blk t).view.read (Elt Ideal) W (ix2 0 z) = W (ix2 0 z) := by
  blk_ext [idx t]

theorem place (W : FVec Ideal S16x2048x384 .bf16) (t : Fin cfg0.N) (q : Fin 512) (z : Fin 384) :
    W (((cfg0.win 6).blk t).view.emb (ix3 0 q z)) = W (ix3 ⟨t.val / 4, batch_lt t⟩ (pos t q) z) := by
  unfold pos
  blk_ext [idx t]

/-! ## The arrays the host prepares -/

variable (m : (ℓ : Loc nD τ sig) → Buf (Elt Ideal) ℓ) (c : Dev nD)

abbrev a0 : FVec Ideal S16x2048x384 .f32 := m ((c : Thread nD τ).loc main_arg0)
abbrev a1 : FVec Ideal S31x384 .f32 := m ((c : Thread nD τ).loc main_arg1)
abbrev a2 : FVec Ideal S384 .f32 := m ((c : Thread nD τ).loc main_arg2)
abbrev a3 : FVec Ideal S384 .f32 := m ((c : Thread nD τ).loc main_arg3)
abbrev a4 : FVec Ideal S384 .f32 := m ((c : Thread nD τ).loc main_arg4)

theorem bias_at (d : Fin 384) : (V m c main_v0 : FVec Ideal S1x384 .f32) (ix2 0 d) = a2 m c (ix1 d) := by
  simp only [V, hostOps0]
  entry_read
  pointwise

theorem gain_at (d : Fin 384) : (V m c main_v1 : FVec Ideal S1x384 .f32) (ix2 0 d) = a3 m c (ix1 d) := by
  simp only [V, hostOps0]
  entry_read
  pointwise

theorem offset_at (d : Fin 384) : (V m c main_v2 : FVec Ideal S1x384 .f32) (ix2 0 d) = a4 m c (ix1 d) := by
  simp only [V, hostOps0]
  entry_read
  pointwise

/-! ## The whole result array -/

/-- The reference's result of the kernel's arguments. -/
abbrev whole : FVec Ideal S16x2048x384 .bf16 := outR (a0 m c) (a1 m c) (a2 m c) (a3 m c) (a4 m c)

section

variable (t : Fin cfg0.N)

theorem e0 (q : Fin 512) (d : Fin 384) : iblk m c 0 t (ix3 0 q d) = a0 m c (ix3 ⟨t.val / 4, batch_lt t⟩ (pos t q) d) :=
  (read0 (V m c main_arg0) t q d).trans (congrFun (V_main_arg0 m c) _)
theorem e1 (r : Fin 32) (d : Fin 384) : iblk m c 1 t (ix3 0 r d) = a0 m c (ix3 ⟨t.val / 4, batch_lt t⟩ (before t r) d) :=
  (read1 (V m c main_arg0) t r d).trans (congrFun (V_main_arg0 m c) _)
theorem e2 (k : Fin 31) (d : Fin 384) : iblk m c 2 t (ix2 k d) = a1 m c (ix2 k d) :=
  (read2 (V m c main_arg1) t k d).trans (congrFun (V_main_arg1 m c) _)
theorem e3 (d : Fin 384) : iblk m c 3 t (ix2 0 d) = a2 m c (ix1 d) := (read3 (V m c main_v0) t d).trans (bias_at m c d)
theorem e4 (d : Fin 384) : iblk m c 4 t (ix2 0 d) = a3 m c (ix1 d) := (read4 (V m c main_v1) t d).trans (gain_at m c d)
theorem e5 (d : Fin 384) : iblk m c 5 t (ix2 0 d) = a4 m c (ix1 d) := (read5 (V m c main_v2) t d).trans (offset_at m c d)

/-- A row of the sequence inside it. -/
theorem padded_of (u : Fin 2048 → Fin 384 → EReal) (x : ℕ) (y : Fin 2048) (h : x = y.val + 30) (d : Fin 384) : padded u x d = u y d := by
  subst h
  unfold padded
  rw [dif_pos (by omega)]
  exact congrArg (fun z => u z d) (Fin.ext (by show y.val + 30 - 30 = y.val; omega))

theorem padded_zero (u : Fin 2048 → Fin 384 → EReal) (x : ℕ) (h : x < 30) (d : Fin 384) : padded u x d = 0 := by
  unfold padded
  exact dif_neg (by omega)

/-- The window's rows are the padded sequence's. -/
theorem meets (q : Fin 512) (w : Fin 31) (d : Fin 384) :
    wrow (k0_pay3 (F := Ideal) (iblk m c 0 t)) (k0_pay2 (grid0.coords t) (iblk m c 1 t)) (w.val + 2 + q.val) d
      = padded (fun s d => a0 m c (ix3 ⟨t.val / 4, batch_lt t⟩ s d)) ((pos t q).val + w.val) d := by
  have hp : (pos t q).val = t.val % 4 * 512 + q.val := rfl
  have hw := w.isLt
  have hq := q.isLt
  unfold wrow
  by_cases h : w.val + 2 + q.val < 32
  · rw [dif_pos h]
    by_cases hj : t.val % 4 = 0
    · rw [pay2_first _ ((coord t).trans hj), padded_zero _ _ (by omega)]
    · rw [pay2_later _ (by rw [coord t]; exact hj), e1]
      refine (padded_of (fun s d => a0 m c (ix3 ⟨t.val / 4, batch_lt t⟩ s d)) _ (before t ⟨w.val + 2 + q.val, h⟩) ?_ d).symm
      show _ = (t.val % 4 * 16 - 1) * 32 + (w.val + 2 + q.val) + 30
      omega
  · rw [dif_neg h, dif_pos (by omega), pay3_at, e0]
    refine (padded_of (fun s d => a0 m c (ix3 ⟨t.val / 4, batch_lt t⟩ s d)) _ (pos t ⟨w.val + 2 + q.val - 32, by omega⟩) ?_ d).symm
    show _ = t.val % 4 * 512 + (w.val + 2 + q.val - 32) + 30
    omega

theorem left (q : Fin 512) (d : Fin 384) :
    (dats m 0 c).flushed 6 t (ix3 0 q d) = whole m c (ix3 ⟨t.val / 4, batch_lt t⟩ (pos t q) d) := by
  rw [Cert.Kernel5Ideal.Value.flushed6_A m c t]
  refine (out_at (q := q) (d := d) (hX := meets m c t q) ..).trans ?_
  unfold whole
  rw [outR_at]
  unfold row
  simp only [e2, e3, e4, e5]

end

/-- The kernel's result array is the reference's. -/
theorem final : (dats m 0 c).arrAt 6 cfg0.N = whole m c := by
  refine (dats m 0 c).arrAt_eq_of_covers 6 _ (by decide +kernel) fun t _ y => ?_
  have e : ∃ (q : Fin 512) (z : Fin 384), y = ix3 0 q z := by
    idx_vars y
    exact ⟨y1, y2, congrArg (fun e => ix3 e y1 y2) (Subsingleton.elim y0 0)⟩
  obtain ⟨q, z, rfl⟩ := e
  exact (left m c t q z).trans (place (whole m c) t q z).symm

end Cert.Kernel5Ideal.Conv

end
-- ==== Proof.lean ====
/- The claims of the statement put together. The work is done in the modules under Proof/: the attention of the layer ends in Whole.lean, the
   output projection with the feed-forward network in PostWhole.lean, the input projection in InWhole.lean, the modulation vectors in
   AdaWhole.lean, the convolution in ConvWhole.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_scores
public import proofs.«01_k».proof.Proof.Whole
public import proofs.«01_k».proof.Proof.PostWhole
public import proofs.«01_k».proof.Proof.InWhole
public import proofs.«01_k».proof.Proof.AdaWhole
public import proofs.«01_k».proof.Proof.ConvWhole
public import Idealize.ShloMosaic.Adequacy
public import Idealize.ShloMosaic.Init
public import Idealize.ShloMosaic.Lib.Quiescent

@[expose] public section

noncomputable section

namespace Cert.Proof

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite_scores := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_finite : Cert.quiescent_ReferenceIdeal_pre_finite_scores := fun m ρ _ => frame_ri m ρ trivial

/-- The three constants that name a value: the mask, the base change, and the base change times the score scale. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "log2e_scale" .f32 0x3E8293EE#32
      (((Real.log 2)⁻¹ * (11863283 / 67108864) : ℝ) : EReal) rfl⟩

theorem algebraic : Cert.algebraic_KernelIdeal_ReferenceIdeal_pre_finite_scores := by
  intro m g m' g' hpre hagree
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ?_) (Cert.ReferenceIdeal.Value.run (F := Ideal) m' g')
  refine ⟨(h c).1.trans ?_, (h c).2⟩
  refine Eq.trans ?_ (Cert.KernelIdeal.Attn.final_of_finite m c hpre).symm
  rw [Cert.ReferenceIdeal.Attn.res_eq]
  obtain ⟨h0, h1, h2, h3, h4, h5, h6, h7, h8, h9, h10, h11⟩ := hagree c
  rw [h0, h1, h2, h3, h4, h5, h6, h7, h8, h9, h10, h11]

/-! ## The output projection and the feed-forward network -/

theorem frame_p2 : Cert.quiescent_Kernel2 := fun m ρ _ => Cert.Kernel2.Gen.frame m ρ
theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal := trivial

theorem algebraic2 : Cert.algebraic_Kernel2Ideal_Reference2Ideal := by
  intro m g m' g' _ hagree
  refine ⟨fun c => (Cert.Kernel2Ideal.Gen.dats m 0 c).arrAt 15 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  refine ⟨((h c).1.trans (Cert.Reference2Ideal.Post.res_eq _)).trans ?_, (h c).2⟩
  refine Eq.trans ?_ (Cert.Kernel2Ideal.Post.final m c).symm
  obtain ⟨h0, h1, h2, h3, h4, h5, h6, h7, h8, h9, h10, h11, h12, h13⟩ := hagree c
  exact Cert.Reference2Ideal.Post.res_congr h0 h1 h2 h3 h4 h5 h6 h7 h8 h9 h10 h11 h12 h13

/-! ## The input projection -/

theorem frame_p3 : Cert.quiescent_Kernel3 := fun m ρ _ => Cert.Kernel3.Gen.frame m ρ
theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

theorem preserves3 : Cert.preserves_Kernel3_Kernel3Ideal := trivial

theorem algebraic3 : Cert.algebraic_Kernel3Ideal_Reference3Ideal := by
  intro m g m' g' _ hagree
  refine ⟨_, _, _, _, _, _, _, _, Cert.Kernel3Ideal.In.run_stages m g, ?_⟩
  refine (θ_run Cert.Reference3Ideal.defs _ _).mono (fun r h c => ?_) (Cert.Reference3Ideal.In.run_stages (F := Ideal) m' g')
  obtain ⟨h0, h1, h2, h3, h4⟩ := hagree c
  have hp : Cert.Reference3Ideal.In.projM m' c = Cert.Kernel3Ideal.In.proj m c := Cert.Reference3Ideal.In.projR_congr h0 h1 h2 h3
  obtain ⟨r0, r1, r2, r3, r4, r5, r6, r7, ha⟩ := h c
  exact ⟨r0.trans (congrArg _ hp), r1.trans (congrArg _ hp), r2.trans (congrArg _ hp), r3.trans (congrArg _ hp),
    r4.trans (congrArg _ (congrArg₂ _ hp h4)), r5.trans (congrArg _ hp), r6.trans (congrArg _ hp),
    r7.trans (congrArg (fun P => Cert.Reference3Ideal.In.tailR (Cert.Reference3Ideal.In.uR P)) hp), ha⟩

/-! ## The modulation vectors -/

theorem frame_p4 : Cert.quiescent_Kernel4 := fun m ρ _ => Cert.Kernel4.Gen.frame m ρ
theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem preserves4 : Cert.preserves_Kernel4_Kernel4Ideal := trivial

theorem algebraic4 : Cert.algebraic_Kernel4Ideal_Reference4Ideal := by
  intro m g m' g' _ hagree
  refine ⟨_, _, Cert.Kernel4Ideal.Ada.run_results m g, ?_⟩
  refine (θ_run Cert.Reference4Ideal.defs _ _).mono (fun r h c => ?_) (Cert.Reference4Ideal.Value.run (F := Ideal) m' g')
  obtain ⟨h0, h1, h2, h3⟩ := hagree c
  obtain ⟨r0, r1, ha⟩ := h c
  exact ⟨r0.trans (Cert.Reference4Ideal.Ada.promptR_congr h0 h2 h3), r1.trans (Cert.Reference4Ideal.Ada.sampleR_congr h1 h2 h3), ha⟩

/-! ## The convolution -/

theorem frame_p5 : Cert.quiescent_Kernel5 := fun m ρ _ => Cert.Kernel5.Gen.frame m ρ
theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal := trivial

theorem algebraic5 : Cert.algebraic_Kernel5Ideal_Reference5Ideal := by
  intro m g m' g' _ hagree
  refine ⟨fun c => (Cert.Kernel5Ideal.Gen.dats m 0 c).arrAt 6 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  refine ⟨((h c).1.trans (Cert.Reference5Ideal.Conv.res_eq _)).trans ?_, (h c).2⟩
  refine Eq.trans ?_ (Cert.Kernel5Ideal.Conv.final m c).symm
  obtain ⟨h0, h1, h2, h3, h4⟩ := hagree c
  exact Cert.Reference5Ideal.Conv.out_congr h0 h1 h2 h3 h4

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Pre_finite_scores.Gen.facts, frame_p, frame_pi, frame_pi_finite, frame_ri, frame_ri_finite, frame_p2,
  frame_pi2, frame_ri2, frame_p3, frame_pi3, frame_ri3, frame_p4, frame_pi4, frame_ri4, frame_p5, frame_pi5, frame_ri5, preserves, algebraic,
  preserves2, algebraic2, preserves3, algebraic3, preserves4, algebraic4, preserves5, algebraic5⟩

end Cert.Proof

end
